-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeReferenceIdeal (m : (ℓ : Loc Cert.MoeReferenceIdeal.nD Cert.MoeReferenceIdeal.τ Cert.MoeReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Sqkv (m : (ℓ : Loc Cert.Sqkv.nD Cert.Sqkv.τ Cert.Sqkv.sig) → Buf (Elt Bits) ℓ) : Prop :=
  True

def Pre_SqkvIdeal (m : (ℓ : Loc Cert.SqkvIdeal.nD Cert.SqkvIdeal.τ Cert.SqkvIdeal.sig) → Buf (Elt Ideal) ℓ) : Prop :=
  True

def Pre_SqkvReferenceIdeal (m : (ℓ : Loc Cert.SqkvReferenceIdeal.nD Cert.SqkvReferenceIdeal.τ Cert.SqkvReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_qk [hPre_finite_qk : Cert.Pre_finite_qk.Facts] (m : (ℓ : Loc Cert.CtxIdeal.nD Cert.CtxIdeal.τ Cert.CtxIdeal.sig) → Buf (Elt Ideal) ℓ) : Prop :=
  ∀ c : Dev Cert.CtxIdeal.nD,
    (Cert.Pre_finite_qk.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2))) = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_qk [hPre_finite_qk : Cert.Pre_finite_qk.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_qk.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2))) = (fun _ => 1#1)

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_ModulReferenceIdeal (m : (ℓ : Loc Cert.ModulReferenceIdeal.nD Cert.ModulReferenceIdeal.τ Cert.ModulReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8)
      ∧ r.2.mem ((c.tc : Thread Cert.MoeReferenceIdeal.nD Cert.MoeReferenceIdeal.τ).loc Cert.MoeReferenceIdeal.main_arg9) = m ((c.tc : Thread Cert.MoeReferenceIdeal.nD Cert.MoeReferenceIdeal.τ).loc Cert.MoeReferenceIdeal.main_arg9))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def quiescent_Sqkv [hSqkv : Cert.Sqkv.Facts] : Prop :=
  ∀ (m : (ℓ : Loc Cert.Sqkv.nD Cert.Sqkv.τ Cert.Sqkv.sig) → Buf (Elt Bits) ℓ) (g : Dev Cert.Sqkv.nD → PrngReg), Pre_Sqkv m →
    θ_run (Cert.Sqkv.defs (F := Bits)) (onTc (τ := Cert.Sqkv.τ) (Cert.Sqkv.main (F := Bits))) ⟨m, fun _ => 0, g⟩ (fun r => (∀ c : Dev Cert.Sqkv.nD,
      r.2.mem ((c.tc : Thread Cert.Sqkv.nD Cert.Sqkv.τ).loc Cert.Sqkv.main_arg0) = m ((c.tc : Thread Cert.Sqkv.nD Cert.Sqkv.τ).loc Cert.Sqkv.main_arg0)
      ∧ r.2.mem ((c.tc : Thread Cert.Sqkv.nD Cert.Sqkv.τ).loc Cert.Sqkv.main_arg1) = m ((c.tc : Thread Cert.Sqkv.nD Cert.Sqkv.τ).loc Cert.Sqkv.main_arg1)
      ∧ r.2.mem ((c.tc : Thread Cert.Sqkv.nD Cert.Sqkv.τ).loc Cert.Sqkv.main_arg2) = m ((c.tc : Thread Cert.Sqkv.nD Cert.Sqkv.τ).loc Cert.Sqkv.main_arg2)
      ∧ r.2.mem ((c.tc : Thread Cert.Sqkv.nD Cert.Sqkv.τ).loc Cert.Sqkv.main_arg3) = m ((c.tc : Thread Cert.Sqkv.nD Cert.Sqkv.τ).loc Cert.Sqkv.main_arg3)
      ∧ r.2.mem ((c.tc : Thread Cert.Sqkv.nD Cert.Sqkv.τ).loc Cert.Sqkv.main_arg4) = m ((c.tc : Thread Cert.Sqkv.nD Cert.Sqkv.τ).loc Cert.Sqkv.main_arg4)
      ∧ r.2.mem ((c.tc : Thread Cert.Sqkv.nD Cert.Sqkv.τ).loc Cert.Sqkv.main_arg5) = m ((c.tc : Thread Cert.Sqkv.nD Cert.Sqkv.τ).loc Cert.Sqkv.main_arg5))
      ∧ r.2.sem = fun _ => 0)

def quiescent_SqkvIdeal [hSqkvIdeal : Cert.SqkvIdeal.Facts] : Prop :=
  ∀ (m : (ℓ : Loc Cert.SqkvIdeal.nD Cert.SqkvIdeal.τ Cert.SqkvIdeal.sig) → Buf (Elt Ideal) ℓ) (g : Dev Cert.SqkvIdeal.nD → PrngReg), Pre_SqkvIdeal m →
    θ_run (Cert.SqkvIdeal.defs (F := Ideal)) (onTc (τ := Cert.SqkvIdeal.τ) (Cert.SqkvIdeal.main (F := Ideal))) ⟨m, fun _ => 0, g⟩ (fun r => (∀ c : Dev Cert.SqkvIdeal.nD,
      r.2.mem ((c.tc : Thread Cert.SqkvIdeal.nD Cert.SqkvIdeal.τ).loc Cert.SqkvIdeal.main_arg0) = m ((c.tc : Thread Cert.SqkvIdeal.nD Cert.SqkvIdeal.τ).loc Cert.SqkvIdeal.main_arg0)
      ∧ r.2.mem ((c.tc : Thread Cert.SqkvIdeal.nD Cert.SqkvIdeal.τ).loc Cert.SqkvIdeal.main_arg1) = m ((c.tc : Thread Cert.SqkvIdeal.nD Cert.SqkvIdeal.τ).loc Cert.SqkvIdeal.main_arg1)
      ∧ r.2.mem ((c.tc : Thread Cert.SqkvIdeal.nD Cert.SqkvIdeal.τ).loc Cert.SqkvIdeal.main_arg2) = m ((c.tc : Thread Cert.SqkvIdeal.nD Cert.SqkvIdeal.τ).loc Cert.SqkvIdeal.main_arg2)
      ∧ r.2.mem ((c.tc : Thread Cert.SqkvIdeal.nD Cert.SqkvIdeal.τ).loc Cert.SqkvIdeal.main_arg3) = m ((c.tc : Thread Cert.SqkvIdeal.nD Cert.SqkvIdeal.τ).loc Cert.SqkvIdeal.main_arg3)
      ∧ r.2.mem ((c.tc : Thread Cert.SqkvIdeal.nD Cert.SqkvIdeal.τ).loc Cert.SqkvIdeal.main_arg4) = m ((c.tc : Thread Cert.SqkvIdeal.nD Cert.SqkvIdeal.τ).loc Cert.SqkvIdeal.main_arg4)
      ∧ r.2.mem ((c.tc : Thread Cert.SqkvIdeal.nD Cert.SqkvIdeal.τ).loc Cert.SqkvIdeal.main_arg5) = m ((c.tc : Thread Cert.SqkvIdeal.nD Cert.SqkvIdeal.τ).loc Cert.SqkvIdeal.main_arg5))
      ∧ r.2.sem = fun _ => 0)

def quiescent_SqkvReferenceIdeal [hSqkvReferenceIdeal : Cert.SqkvReferenceIdeal.Facts] : Prop :=
  ∀ (m : (ℓ : Loc Cert.SqkvReferenceIdeal.nD Cert.SqkvReferenceIdeal.τ Cert.SqkvReferenceIdeal.sig) → Buf (Elt Ideal) ℓ) (g : Dev Cert.SqkvReferenceIdeal.nD → PrngReg), Pre_SqkvReferenceIdeal m →
    θ_run (Cert.SqkvReferenceIdeal.defs (F := Ideal)) (onTc (τ := Cert.SqkvReferenceIdeal.τ) (Cert.SqkvReferenceIdeal.main (F := Ideal))) ⟨m, fun _ => 0, g⟩ (fun r => (∀ c : Dev Cert.SqkvReferenceIdeal.nD,
      r.2.mem ((c.tc : Thread Cert.SqkvReferenceIdeal.nD Cert.SqkvReferenceIdeal.τ).loc Cert.SqkvReferenceIdeal.main_arg0) = m ((c.tc : Thread Cert.SqkvReferenceIdeal.nD Cert.SqkvReferenceIdeal.τ).loc Cert.SqkvReferenceIdeal.main_arg0)
      ∧ r.2.mem ((c.tc : Thread Cert.SqkvReferenceIdeal.nD Cert.SqkvReferenceIdeal.τ).loc Cert.SqkvReferenceIdeal.main_arg1) = m ((c.tc : Thread Cert.SqkvReferenceIdeal.nD Cert.SqkvReferenceIdeal.τ).loc Cert.SqkvReferenceIdeal.main_arg1)
      ∧ r.2.mem ((c.tc : Thread Cert.SqkvReferenceIdeal.nD Cert.SqkvReferenceIdeal.τ).loc Cert.SqkvReferenceIdeal.main_arg2) = m ((c.tc : Thread Cert.SqkvReferenceIdeal.nD Cert.SqkvReferenceIdeal.τ).loc Cert.SqkvReferenceIdeal.main_arg2)
      ∧ r.2.mem ((c.tc : Thread Cert.SqkvReferenceIdeal.nD Cert.SqkvReferenceIdeal.τ).loc Cert.SqkvReferenceIdeal.main_arg3) = m ((c.tc : Thread Cert.SqkvReferenceIdeal.nD Cert.SqkvReferenceIdeal.τ).loc Cert.SqkvReferenceIdeal.main_arg3)
      ∧ r.2.mem ((c.tc : Thread Cert.SqkvReferenceIdeal.nD Cert.SqkvReferenceIdeal.τ).loc Cert.SqkvReferenceIdeal.main_arg4) = m ((c.tc : Thread Cert.SqkvReferenceIdeal.nD Cert.SqkvReferenceIdeal.τ).loc Cert.SqkvReferenceIdeal.main_arg4)
      ∧ r.2.mem ((c.tc : Thread Cert.SqkvReferenceIdeal.nD Cert.SqkvReferenceIdeal.τ).loc Cert.SqkvReferenceIdeal.main_arg5) = m ((c.tc : Thread Cert.SqkvReferenceIdeal.nD Cert.SqkvReferenceIdeal.τ).loc Cert.SqkvReferenceIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5)
      ∧ r.2.mem ((c.tc : Thread Cert.OprojReferenceIdeal.nD Cert.OprojReferenceIdeal.τ).loc Cert.OprojReferenceIdeal.main_arg6) = m ((c.tc : Thread Cert.OprojReferenceIdeal.nD Cert.OprojReferenceIdeal.τ).loc Cert.OprojReferenceIdeal.main_arg6))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxIdeal_pre_finite_qk [hCtxIdeal : Cert.CtxIdeal.Facts] [hPre_finite_qk : Cert.Pre_finite_qk.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_qk m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_CtxReferenceIdeal_pre_finite_qk [hCtxReferenceIdeal : Cert.CtxReferenceIdeal.Facts] [hPre_finite_qk : Cert.Pre_finite_qk.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_qk m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ r.2.sem = fun _ => 0)

def quiescent_ModulReferenceIdeal [hModulReferenceIdeal : Cert.ModulReferenceIdeal.Facts] : Prop :=
  ∀ (m : (ℓ : Loc Cert.ModulReferenceIdeal.nD Cert.ModulReferenceIdeal.τ Cert.ModulReferenceIdeal.sig) → Buf (Elt Ideal) ℓ) (g : Dev Cert.ModulReferenceIdeal.nD → PrngReg), Pre_ModulReferenceIdeal m →
    θ_run (Cert.ModulReferenceIdeal.defs (F := Ideal)) (onTc (τ := Cert.ModulReferenceIdeal.τ) (Cert.ModulReferenceIdeal.main (F := Ideal))) ⟨m, fun _ => 0, g⟩ (fun r => (∀ c : Dev Cert.ModulReferenceIdeal.nD,
      r.2.mem ((c.tc : Thread Cert.ModulReferenceIdeal.nD Cert.ModulReferenceIdeal.τ).loc Cert.ModulReferenceIdeal.main_arg0) = m ((c.tc : Thread Cert.ModulReferenceIdeal.nD Cert.ModulReferenceIdeal.τ).loc Cert.ModulReferenceIdeal.main_arg0)
      ∧ r.2.mem ((c.tc : Thread Cert.ModulReferenceIdeal.nD Cert.ModulReferenceIdeal.τ).loc Cert.ModulReferenceIdeal.main_arg1) = m ((c.tc : Thread Cert.ModulReferenceIdeal.nD Cert.ModulReferenceIdeal.τ).loc Cert.ModulReferenceIdeal.main_arg1)
      ∧ r.2.mem ((c.tc : Thread Cert.ModulReferenceIdeal.nD Cert.ModulReferenceIdeal.τ).loc Cert.ModulReferenceIdeal.main_arg2) = m ((c.tc : Thread Cert.ModulReferenceIdeal.nD Cert.ModulReferenceIdeal.τ).loc Cert.ModulReferenceIdeal.main_arg2))
      ∧ r.2.sem = fun _ => 0)

def preserves_Kernel_KernelIdeal : Prop :=
  IdealRules.named_const.Statement Cert.KernelIdeal.κ "mask" .f32 0x7F7FFFFF#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Moe_MoeIdeal : Prop :=
  True

def algebraic_MoeIdeal_MoeReferenceIdeal [hMoeIdeal : Cert.MoeIdeal.Facts] [hMoeReferenceIdeal : Cert.MoeReferenceIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)
      ∧ m' ((c.tc : Thread Cert.MoeReferenceIdeal.nD Cert.MoeReferenceIdeal.τ).loc Cert.MoeReferenceIdeal.main_arg7) = m ((c.tc : Thread Cert.MoeIdeal.nD Cert.MoeIdeal.τ).loc Cert.MoeIdeal.main_arg7)
      ∧ m' ((c.tc : Thread Cert.MoeReferenceIdeal.nD Cert.MoeReferenceIdeal.τ).loc Cert.MoeReferenceIdeal.main_arg8) = m ((c.tc : Thread Cert.MoeIdeal.nD Cert.MoeIdeal.τ).loc Cert.MoeIdeal.main_arg8)
      ∧ m' ((c.tc : Thread Cert.MoeReferenceIdeal.nD Cert.MoeReferenceIdeal.τ).loc Cert.MoeReferenceIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v6)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v6) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v36) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7)
          ∧ r.2.mem ((c.tc : Thread Cert.MoeReferenceIdeal.nD Cert.MoeReferenceIdeal.τ).loc Cert.MoeReferenceIdeal.main_arg8) = m' ((c.tc : Thread Cert.MoeReferenceIdeal.nD Cert.MoeReferenceIdeal.τ).loc Cert.MoeReferenceIdeal.main_arg8)
          ∧ r.2.mem ((c.tc : Thread Cert.MoeReferenceIdeal.nD Cert.MoeReferenceIdeal.τ).loc Cert.MoeReferenceIdeal.main_arg9) = m' ((c.tc : Thread Cert.MoeReferenceIdeal.nD Cert.MoeReferenceIdeal.τ).loc Cert.MoeReferenceIdeal.main_arg9))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v27_0)) (v1 : (c : Dev Cert.QkvIdeal.nD) → Buf (Elt Ideal) ((c.tc : Thread Cert.QkvIdeal.nD Cert.QkvIdeal.τ).loc Cert.QkvIdeal.main_v27_1)) (v2 : (c : Dev Cert.QkvIdeal.nD) → Buf (Elt Ideal) ((c.tc : Thread Cert.QkvIdeal.nD Cert.QkvIdeal.τ).loc Cert.QkvIdeal.main_v27_2)) (v3 : (c : Dev Cert.QkvIdeal.nD) → Buf (Elt Ideal) ((c.tc : Thread Cert.QkvIdeal.nD Cert.QkvIdeal.τ).loc Cert.QkvIdeal.main_v27_3)) (v4 : (c : Dev Cert.QkvIdeal.nD) → Buf (Elt Ideal) ((c.tc : Thread Cert.QkvIdeal.nD Cert.QkvIdeal.τ).loc Cert.QkvIdeal.main_v27_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v27_0) = v0 c
          ∧ r.2.mem ((c.tc : Thread Cert.QkvIdeal.nD Cert.QkvIdeal.τ).loc Cert.QkvIdeal.main_v27_1) = v1 c
          ∧ r.2.mem ((c.tc : Thread Cert.QkvIdeal.nD Cert.QkvIdeal.τ).loc Cert.QkvIdeal.main_v27_2) = v2 c
          ∧ r.2.mem ((c.tc : Thread Cert.QkvIdeal.nD Cert.QkvIdeal.τ).loc Cert.QkvIdeal.main_v27_3) = v3 c
          ∧ r.2.mem ((c.tc : Thread Cert.QkvIdeal.nD Cert.QkvIdeal.τ).loc Cert.QkvIdeal.main_v27_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v63) = v0 c
          ∧ r.2.mem ((c.tc : Thread Cert.QkvReferenceIdeal.nD Cert.QkvReferenceIdeal.τ).loc Cert.QkvReferenceIdeal.main_v64) = v1 c
          ∧ r.2.mem ((c.tc : Thread Cert.QkvReferenceIdeal.nD Cert.QkvReferenceIdeal.τ).loc Cert.QkvReferenceIdeal.main_v65) = v2 c
          ∧ r.2.mem ((c.tc : Thread Cert.QkvReferenceIdeal.nD Cert.QkvReferenceIdeal.τ).loc Cert.QkvReferenceIdeal.main_v61) = v3 c
          ∧ r.2.mem ((c.tc : Thread Cert.QkvReferenceIdeal.nD Cert.QkvReferenceIdeal.τ).loc Cert.QkvReferenceIdeal.main_v62) = v4 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def preserves_Sqkv_SqkvIdeal : Prop :=
  True

def algebraic_SqkvIdeal_SqkvReferenceIdeal [hSqkvIdeal : Cert.SqkvIdeal.Facts] [hSqkvReferenceIdeal : Cert.SqkvReferenceIdeal.Facts] : Prop :=
  ∀ (m : (ℓ : Loc Cert.SqkvIdeal.nD Cert.SqkvIdeal.τ Cert.SqkvIdeal.sig) → Buf (Elt Ideal) ℓ) (g : Dev Cert.SqkvIdeal.nD → PrngReg)
    (m' : (ℓ : Loc Cert.SqkvReferenceIdeal.nD Cert.SqkvReferenceIdeal.τ Cert.SqkvReferenceIdeal.sig) → Buf (Elt Ideal) ℓ) (g' : Dev Cert.SqkvReferenceIdeal.nD → PrngReg), Pre_SqkvIdeal m →
    (∀ c : Dev Cert.SqkvIdeal.nD,
      m' ((c.tc : Thread Cert.SqkvReferenceIdeal.nD Cert.SqkvReferenceIdeal.τ).loc Cert.SqkvReferenceIdeal.main_arg0) = m ((c.tc : Thread Cert.SqkvIdeal.nD Cert.SqkvIdeal.τ).loc Cert.SqkvIdeal.main_arg0)
      ∧ m' ((c.tc : Thread Cert.SqkvReferenceIdeal.nD Cert.SqkvReferenceIdeal.τ).loc Cert.SqkvReferenceIdeal.main_arg1) = m ((c.tc : Thread Cert.SqkvIdeal.nD Cert.SqkvIdeal.τ).loc Cert.SqkvIdeal.main_arg1)
      ∧ m' ((c.tc : Thread Cert.SqkvReferenceIdeal.nD Cert.SqkvReferenceIdeal.τ).loc Cert.SqkvReferenceIdeal.main_arg2) = m ((c.tc : Thread Cert.SqkvIdeal.nD Cert.SqkvIdeal.τ).loc Cert.SqkvIdeal.main_arg2)
      ∧ m' ((c.tc : Thread Cert.SqkvReferenceIdeal.nD Cert.SqkvReferenceIdeal.τ).loc Cert.SqkvReferenceIdeal.main_arg3) = m ((c.tc : Thread Cert.SqkvIdeal.nD Cert.SqkvIdeal.τ).loc Cert.SqkvIdeal.main_arg3)
      ∧ m' ((c.tc : Thread Cert.SqkvReferenceIdeal.nD Cert.SqkvReferenceIdeal.τ).loc Cert.SqkvReferenceIdeal.main_arg4) = m ((c.tc : Thread Cert.SqkvIdeal.nD Cert.SqkvIdeal.τ).loc Cert.SqkvIdeal.main_arg4)
      ∧ m' ((c.tc : Thread Cert.SqkvReferenceIdeal.nD Cert.SqkvReferenceIdeal.τ).loc Cert.SqkvReferenceIdeal.main_arg5) = m ((c.tc : Thread Cert.SqkvIdeal.nD Cert.SqkvIdeal.τ).loc Cert.SqkvIdeal.main_arg5)) →
    ∃ (v0 : (c : Dev Cert.SqkvIdeal.nD) → Buf (Elt Ideal) ((c.tc : Thread Cert.SqkvIdeal.nD Cert.SqkvIdeal.τ).loc Cert.SqkvIdeal.main_v27_0)) (v1 : (c : Dev Cert.SqkvIdeal.nD) → Buf (Elt Ideal) ((c.tc : Thread Cert.SqkvIdeal.nD Cert.SqkvIdeal.τ).loc Cert.SqkvIdeal.main_v27_1)) (v2 : (c : Dev Cert.SqkvIdeal.nD) → Buf (Elt Ideal) ((c.tc : Thread Cert.SqkvIdeal.nD Cert.SqkvIdeal.τ).loc Cert.SqkvIdeal.main_v27_2)),
      θ_run (Cert.SqkvIdeal.defs (F := Ideal)) (onTc (τ := Cert.SqkvIdeal.τ) (Cert.SqkvIdeal.main (F := Ideal))) ⟨m, fun _ => 0, g⟩ (fun r => ∀ c : Dev Cert.SqkvIdeal.nD,
          r.2.mem ((c.tc : Thread Cert.SqkvIdeal.nD Cert.SqkvIdeal.τ).loc Cert.SqkvIdeal.main_v27_0) = v0 c
          ∧ r.2.mem ((c.tc : Thread Cert.SqkvIdeal.nD Cert.SqkvIdeal.τ).loc Cert.SqkvIdeal.main_v27_1) = v1 c
          ∧ r.2.mem ((c.tc : Thread Cert.SqkvIdeal.nD Cert.SqkvIdeal.τ).loc Cert.SqkvIdeal.main_v27_2) = v2 c
          ∧ r.2.mem ((c.tc : Thread Cert.SqkvIdeal.nD Cert.SqkvIdeal.τ).loc Cert.SqkvIdeal.main_arg0) = m ((c.tc : Thread Cert.SqkvIdeal.nD Cert.SqkvIdeal.τ).loc Cert.SqkvIdeal.main_arg0)
          ∧ r.2.mem ((c.tc : Thread Cert.SqkvIdeal.nD Cert.SqkvIdeal.τ).loc Cert.SqkvIdeal.main_arg1) = m ((c.tc : Thread Cert.SqkvIdeal.nD Cert.SqkvIdeal.τ).loc Cert.SqkvIdeal.main_arg1)
          ∧ r.2.mem ((c.tc : Thread Cert.SqkvIdeal.nD Cert.SqkvIdeal.τ).loc Cert.SqkvIdeal.main_arg2) = m ((c.tc : Thread Cert.SqkvIdeal.nD Cert.SqkvIdeal.τ).loc Cert.SqkvIdeal.main_arg2)
          ∧ r.2.mem ((c.tc : Thread Cert.SqkvIdeal.nD Cert.SqkvIdeal.τ).loc Cert.SqkvIdeal.main_arg3) = m ((c.tc : Thread Cert.SqkvIdeal.nD Cert.SqkvIdeal.τ).loc Cert.SqkvIdeal.main_arg3)
          ∧ r.2.mem ((c.tc : Thread Cert.SqkvIdeal.nD Cert.SqkvIdeal.τ).loc Cert.SqkvIdeal.main_arg4) = m ((c.tc : Thread Cert.SqkvIdeal.nD Cert.SqkvIdeal.τ).loc Cert.SqkvIdeal.main_arg4)
          ∧ r.2.mem ((c.tc : Thread Cert.SqkvIdeal.nD Cert.SqkvIdeal.τ).loc Cert.SqkvIdeal.main_arg5) = m ((c.tc : Thread Cert.SqkvIdeal.nD Cert.SqkvIdeal.τ).loc Cert.SqkvIdeal.main_arg5))
      ∧ θ_run (Cert.SqkvReferenceIdeal.defs (F := Ideal)) (onTc (τ := Cert.SqkvReferenceIdeal.τ) (Cert.SqkvReferenceIdeal.main (F := Ideal))) ⟨m', fun _ => 0, g'⟩ (fun r => ∀ c : Dev Cert.SqkvReferenceIdeal.nD,
          r.2.mem ((c.tc : Thread Cert.SqkvReferenceIdeal.nD Cert.SqkvReferenceIdeal.τ).loc Cert.SqkvReferenceIdeal.main_v62) = v0 c
          ∧ r.2.mem ((c.tc : Thread Cert.SqkvReferenceIdeal.nD Cert.SqkvReferenceIdeal.τ).loc Cert.SqkvReferenceIdeal.main_v64) = v1 c
          ∧ r.2.mem ((c.tc : Thread Cert.SqkvReferenceIdeal.nD Cert.SqkvReferenceIdeal.τ).loc Cert.SqkvReferenceIdeal.main_v66) = v2 c
          ∧ r.2.mem ((c.tc : Thread Cert.SqkvReferenceIdeal.nD Cert.SqkvReferenceIdeal.τ).loc Cert.SqkvReferenceIdeal.main_arg0) = m' ((c.tc : Thread Cert.SqkvReferenceIdeal.nD Cert.SqkvReferenceIdeal.τ).loc Cert.SqkvReferenceIdeal.main_arg0)
          ∧ r.2.mem ((c.tc : Thread Cert.SqkvReferenceIdeal.nD Cert.SqkvReferenceIdeal.τ).loc Cert.SqkvReferenceIdeal.main_arg1) = m' ((c.tc : Thread Cert.SqkvReferenceIdeal.nD Cert.SqkvReferenceIdeal.τ).loc Cert.SqkvReferenceIdeal.main_arg1)
          ∧ r.2.mem ((c.tc : Thread Cert.SqkvReferenceIdeal.nD Cert.SqkvReferenceIdeal.τ).loc Cert.SqkvReferenceIdeal.main_arg2) = m' ((c.tc : Thread Cert.SqkvReferenceIdeal.nD Cert.SqkvReferenceIdeal.τ).loc Cert.SqkvReferenceIdeal.main_arg2)
          ∧ r.2.mem ((c.tc : Thread Cert.SqkvReferenceIdeal.nD Cert.SqkvReferenceIdeal.τ).loc Cert.SqkvReferenceIdeal.main_arg3) = m' ((c.tc : Thread Cert.SqkvReferenceIdeal.nD Cert.SqkvReferenceIdeal.τ).loc Cert.SqkvReferenceIdeal.main_arg3)
          ∧ r.2.mem ((c.tc : Thread Cert.SqkvReferenceIdeal.nD Cert.SqkvReferenceIdeal.τ).loc Cert.SqkvReferenceIdeal.main_arg4) = m' ((c.tc : Thread Cert.SqkvReferenceIdeal.nD Cert.SqkvReferenceIdeal.τ).loc Cert.SqkvReferenceIdeal.main_arg4)
          ∧ r.2.mem ((c.tc : Thread Cert.SqkvReferenceIdeal.nD Cert.SqkvReferenceIdeal.τ).loc Cert.SqkvReferenceIdeal.main_arg5) = m' ((c.tc : Thread Cert.SqkvReferenceIdeal.nD Cert.SqkvReferenceIdeal.τ).loc Cert.SqkvReferenceIdeal.main_arg5))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)
      ∧ m' ((c.tc : Thread Cert.OprojReferenceIdeal.nD Cert.OprojReferenceIdeal.τ).loc Cert.OprojReferenceIdeal.main_arg4) = m ((c.tc : Thread Cert.OprojIdeal.nD Cert.OprojIdeal.τ).loc Cert.OprojIdeal.main_arg4)
      ∧ m' ((c.tc : Thread Cert.OprojReferenceIdeal.nD Cert.OprojReferenceIdeal.τ).loc Cert.OprojReferenceIdeal.main_arg5) = m ((c.tc : Thread Cert.OprojIdeal.nD Cert.OprojIdeal.τ).loc Cert.OprojIdeal.main_arg5)
      ∧ m' ((c.tc : Thread Cert.OprojReferenceIdeal.nD Cert.OprojReferenceIdeal.τ).loc Cert.OprojReferenceIdeal.main_arg6) = m ((c.tc : Thread Cert.OprojIdeal.nD Cert.OprojIdeal.τ).loc Cert.OprojIdeal.main_arg6)) →
    ∃ (v0 : (c : Dev Cert.OprojIdeal.nD) → Buf (Elt Ideal) ((c.tc : Thread Cert.OprojIdeal.nD Cert.OprojIdeal.τ).loc Cert.OprojIdeal.main_v9_0)) (v1 : (c : Dev Cert.OprojIdeal.nD) → Buf (Elt Ideal) ((c.tc : Thread Cert.OprojIdeal.nD Cert.OprojIdeal.τ).loc Cert.OprojIdeal.main_v9_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v9_0) = v0 c
          ∧ r.2.mem ((c.tc : Thread Cert.OprojIdeal.nD Cert.OprojIdeal.τ).loc Cert.OprojIdeal.main_v9_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v17) = v0 c
          ∧ r.2.mem ((c.tc : Thread Cert.OprojReferenceIdeal.nD Cert.OprojReferenceIdeal.τ).loc Cert.OprojReferenceIdeal.main_v51) = v1 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4)
          ∧ r.2.mem ((c.tc : Thread Cert.OprojReferenceIdeal.nD Cert.OprojReferenceIdeal.τ).loc Cert.OprojReferenceIdeal.main_arg5) = m' ((c.tc : Thread Cert.OprojReferenceIdeal.nD Cert.OprojReferenceIdeal.τ).loc Cert.OprojReferenceIdeal.main_arg5)
          ∧ r.2.mem ((c.tc : Thread Cert.OprojReferenceIdeal.nD Cert.OprojReferenceIdeal.τ).loc Cert.OprojReferenceIdeal.main_arg6) = m' ((c.tc : Thread Cert.OprojReferenceIdeal.nD Cert.OprojReferenceIdeal.τ).loc Cert.OprojReferenceIdeal.main_arg6))

def preserves_Ctx_CtxIdeal : Prop :=
  True

def algebraic_CtxIdeal_CtxReferenceIdeal_pre_finite_qk [hCtxIdeal : Cert.CtxIdeal.Facts] [hCtxReferenceIdeal : Cert.CtxReferenceIdeal.Facts] [hPre_finite_qk : Cert.Pre_finite_qk.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxIdeal_finite_qk m →
    (∀ c : Dev Cert.CtxIdeal.nD,
      m' ((c.tc : Thread Cert.CtxReferenceIdeal.nD Cert.CtxReferenceIdeal.τ).loc Cert.CtxReferenceIdeal.main_arg0) = m ((c.tc : Thread Cert.CtxIdeal.nD Cert.CtxIdeal.τ).loc Cert.CtxIdeal.main_arg0)
      ∧ m' ((c.tc : Thread Cert.CtxReferenceIdeal.nD Cert.CtxReferenceIdeal.τ).loc Cert.CtxReferenceIdeal.main_arg1) = m ((c.tc : Thread Cert.CtxIdeal.nD Cert.CtxIdeal.τ).loc Cert.CtxIdeal.main_arg1)
      ∧ m' ((c.tc : Thread Cert.CtxReferenceIdeal.nD Cert.CtxReferenceIdeal.τ).loc Cert.CtxReferenceIdeal.main_arg2) = m ((c.tc : Thread Cert.CtxIdeal.nD Cert.CtxIdeal.τ).loc Cert.CtxIdeal.main_arg2)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v23) = v0 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2))

def preserves_Modul_ModulIdeal : Prop :=
  True

def algebraic_ModulIdeal_ModulReferenceIdeal [hModulIdeal : Cert.ModulIdeal.Facts] [hModulReferenceIdeal : Cert.ModulReferenceIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.ModulReferenceIdeal.nD Cert.ModulReferenceIdeal.τ Cert.ModulReferenceIdeal.sig) → Buf (Elt Ideal) ℓ) (g' : Dev Cert.ModulReferenceIdeal.nD → PrngReg), Pre_ModulIdeal m →
    (∀ c : Dev Cert.ModulIdeal.nD,
      m' ((c.tc : Thread Cert.ModulReferenceIdeal.nD Cert.ModulReferenceIdeal.τ).loc Cert.ModulReferenceIdeal.main_arg0) = m ((c.tc : Thread Cert.ModulIdeal.nD Cert.ModulIdeal.τ).loc Cert.ModulIdeal.main_arg0)
      ∧ m' ((c.tc : Thread Cert.ModulReferenceIdeal.nD Cert.ModulReferenceIdeal.τ).loc Cert.ModulReferenceIdeal.main_arg1) = m ((c.tc : Thread Cert.ModulIdeal.nD Cert.ModulIdeal.τ).loc Cert.ModulIdeal.main_arg1)
      ∧ m' ((c.tc : Thread Cert.ModulReferenceIdeal.nD Cert.ModulReferenceIdeal.τ).loc Cert.ModulReferenceIdeal.main_arg2) = m ((c.tc : Thread Cert.ModulIdeal.nD Cert.ModulIdeal.τ).loc Cert.ModulIdeal.main_arg2)) →
    ∃ (v0 : (c : Dev Cert.ModulIdeal.nD) → Buf (Elt Ideal) ((c.tc : Thread Cert.ModulIdeal.nD Cert.ModulIdeal.τ).loc Cert.ModulIdeal.main_v1)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v1) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ θ_run (Cert.ModulReferenceIdeal.defs (F := Ideal)) (onTc (τ := Cert.ModulReferenceIdeal.τ) (Cert.ModulReferenceIdeal.main (F := Ideal))) ⟨m', fun _ => 0, g'⟩ (fun r => ∀ c : Dev Cert.ModulReferenceIdeal.nD,
          r.2.mem ((c.tc : Thread Cert.ModulReferenceIdeal.nD Cert.ModulReferenceIdeal.τ).loc Cert.ModulReferenceIdeal.main_v20) = v0 c
          ∧ r.2.mem ((c.tc : Thread Cert.ModulReferenceIdeal.nD Cert.ModulReferenceIdeal.τ).loc Cert.ModulReferenceIdeal.main_arg0) = m' ((c.tc : Thread Cert.ModulReferenceIdeal.nD Cert.ModulReferenceIdeal.τ).loc Cert.ModulReferenceIdeal.main_arg0)
          ∧ r.2.mem ((c.tc : Thread Cert.ModulReferenceIdeal.nD Cert.ModulReferenceIdeal.τ).loc Cert.ModulReferenceIdeal.main_arg1) = m' ((c.tc : Thread Cert.ModulReferenceIdeal.nD Cert.ModulReferenceIdeal.τ).loc Cert.ModulReferenceIdeal.main_arg1)
          ∧ r.2.mem ((c.tc : Thread Cert.ModulReferenceIdeal.nD Cert.ModulReferenceIdeal.τ).loc Cert.ModulReferenceIdeal.main_arg2) = m' ((c.tc : Thread Cert.ModulReferenceIdeal.nD Cert.ModulReferenceIdeal.τ).loc Cert.ModulReferenceIdeal.main_arg2))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeReferenceIdeal : Cert.MoeReferenceIdeal.Facts) (hQkv : Cert.Qkv.Facts) (hQkvIdeal : Cert.QkvIdeal.Facts) (hQkvReferenceIdeal : Cert.QkvReferenceIdeal.Facts) (hSqkv : Cert.Sqkv.Facts) (hSqkvIdeal : Cert.SqkvIdeal.Facts) (hSqkvReferenceIdeal : Cert.SqkvReferenceIdeal.Facts) (hOproj : Cert.Oproj.Facts) (hOprojIdeal : Cert.OprojIdeal.Facts) (hOprojReferenceIdeal : Cert.OprojReferenceIdeal.Facts) (hCtx : Cert.Ctx.Facts) (hCtxIdeal : Cert.CtxIdeal.Facts) (hCtxReferenceIdeal : Cert.CtxReferenceIdeal.Facts) (hModul : Cert.Modul.Facts) (hModulIdeal : Cert.ModulIdeal.Facts) (hModulReferenceIdeal : Cert.ModulReferenceIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Moe (hMoe := hMoe)
    ∧ quiescent_MoeIdeal (hMoeIdeal := hMoeIdeal)
    ∧ quiescent_MoeReferenceIdeal (hMoeReferenceIdeal := hMoeReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Sqkv (hSqkv := hSqkv)
    ∧ quiescent_SqkvIdeal (hSqkvIdeal := hSqkvIdeal)
    ∧ quiescent_SqkvReferenceIdeal (hSqkvReferenceIdeal := hSqkvReferenceIdeal)
    ∧ quiescent_Oproj (hOproj := hOproj)
    ∧ quiescent_OprojIdeal (hOprojIdeal := hOprojIdeal)
    ∧ quiescent_OprojReferenceIdeal (hOprojReferenceIdeal := hOprojReferenceIdeal)
    ∧ quiescent_Ctx (hCtx := hCtx)
    ∧ quiescent_CtxIdeal (hCtxIdeal := hCtxIdeal)
    ∧ quiescent_CtxIdeal_pre_finite_qk (hCtxIdeal := hCtxIdeal) (hPre_finite_qk := hPre_finite_qk)
    ∧ quiescent_CtxReferenceIdeal (hCtxReferenceIdeal := hCtxReferenceIdeal)
    ∧ quiescent_CtxReferenceIdeal_pre_finite_qk (hCtxReferenceIdeal := hCtxReferenceIdeal) (hPre_finite_qk := hPre_finite_qk)
    ∧ quiescent_Modul (hModul := hModul)
    ∧ quiescent_ModulIdeal (hModulIdeal := hModulIdeal)
    ∧ quiescent_ModulReferenceIdeal (hModulReferenceIdeal := hModulReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Moe_MoeIdeal
    ∧ algebraic_MoeIdeal_MoeReferenceIdeal (hMoeIdeal := hMoeIdeal) (hMoeReferenceIdeal := hMoeReferenceIdeal)
    ∧ preserves_Qkv_QkvIdeal
    ∧ algebraic_QkvIdeal_QkvReferenceIdeal (hQkvIdeal := hQkvIdeal) (hQkvReferenceIdeal := hQkvReferenceIdeal)
    ∧ preserves_Sqkv_SqkvIdeal
    ∧ algebraic_SqkvIdeal_SqkvReferenceIdeal (hSqkvIdeal := hSqkvIdeal) (hSqkvReferenceIdeal := hSqkvReferenceIdeal)
    ∧ preserves_Oproj_OprojIdeal
    ∧ algebraic_OprojIdeal_OprojReferenceIdeal (hOprojIdeal := hOprojIdeal) (hOprojReferenceIdeal := hOprojReferenceIdeal)
    ∧ preserves_Ctx_CtxIdeal
    ∧ algebraic_CtxIdeal_CtxReferenceIdeal_pre_finite_qk (hCtxIdeal := hCtxIdeal) (hCtxReferenceIdeal := hCtxReferenceIdeal) (hPre_finite_qk := hPre_finite_qk)
    ∧ preserves_Modul_ModulIdeal
    ∧ algebraic_ModulIdeal_ModulReferenceIdeal (hModulIdeal := hModulIdeal) (hModulReferenceIdeal := hModulReferenceIdeal)
-- ==== Pre_finite.lean ====
abbrev S40960x1024 : Shape := ⟨2, ![40960, 1024]⟩
abbrev S8x512x16x64 : Shape := ⟨4, ![8, 512, 16, 64]⟩
abbrev S16x15x31 : Shape := ⟨3, ![16, 15, 31]⟩
abbrev S_ : Shape := ⟨0, ![]⟩

class Facts : Prop where
  bitsLt_bf16_f32 : FTy.bits .bf16 < FTy.bits .f32
  bcast_S_S40960x1024 : S_.BroadcastsInDim S40960x1024 (![] : Fin 0 → Fin S40960x1024.rank)
  reducesTo_S40960x1024_S_d0_1 : S40960x1024.ReducesTo [0, 1] S_
  h_S_ : 0 < S_.numel
  bcast_S_S8x512x16x64 : S_.BroadcastsInDim S8x512x16x64 (![] : Fin 0 → Fin S8x512x16x64.rank)
  reducesTo_S8x512x16x64_S_d0_1_2_3 : S8x512x16x64.ReducesTo [0, 1, 2, 3] S_
  bcast_S_S16x15x31 : S_.BroadcastsInDim S16x15x31 (![] : Fin 0 → Fin S16x15x31.rank)
  reducesTo_S16x15x31_S_d0_1_2 : S16x15x31.ReducesTo [0, 1, 2] S_

variable [Facts]

def fn_part1 {F : FTy → Type} [FloatOps F] (main_v15 : IVec S_ 1) (main_v16 : FVec F S16x15x31 .f32) (main_cst_4 : FVec F S_ .f32) : IVec S_ 1 :=
  let main_v17 : FVec F S16x15x31 .f32 := broadcastInDim S16x15x31 ![] bcast_S_S16x15x31 main_cst_4
  let main_v18 : IVec S16x15x31 1 := cmpf .olt main_v16 main_v17
  let main_c_5 : IVec S_ 1 := constantI S_ 1 1#1
  let main_v19 : IVec S_ 1 := (fun x v => Host.reduce IntOp.andi x v reducesTo_S16x15x31_S_d0_1_2 h_S_) main_v18 main_c_5
  let main_v20 : IVec S_ 1 := andi main_v15 main_v19
  main_v20

def fn {F : FTy → Type} [FloatOps F] (main_arg0 : FVec F S40960x1024 .bf16) (main_arg1 : FVec F S40960x1024 .bf16) (main_arg2 : FVec F S40960x1024 .bf16) (main_arg3 : FVec F S8x512x16x64 .f32) (main_arg4 : FVec F S8x512x16x64 .f32) (main_arg5 : FVec F S16x15x31 .f32) : IVec S_ 1 :=
  let main_v0 : FVec F S40960x1024 .f32 := (extf .f32 · bitsLt_bf16_f32) main_arg0
  let main_v1 : FVec F S40960x1024 .f32 := Host.absf main_v0
  let main_cst : FVec F S_ .f32 := constant S_ .f32 0x7F800000#32
  let main_v2 : FVec F S40960x1024 .f32 := broadcastInDim S40960x1024 ![] bcast_S_S40960x1024 main_cst
  let main_v3 : IVec S40960x1024 1 := cmpf .olt main_v1 main_v2
  let main_c : IVec S_ 1 := constantI S_ 1 1#1
  let main_v4 : IVec S_ 1 := (fun x v => Host.reduce IntOp.andi x v reducesTo_S40960x1024_S_d0_1 h_S_) main_v3 main_c
  let main_v5 : FVec F S40960x1024 .f32 := (extf .f32 · bitsLt_bf16_f32) main_arg1
  let main_v6 : FVec F S40960x1024 .f32 := Host.absf main_v5
  let main_cst_0 : FVec F S_ .f32 := constant S_ .f32 0x7F800000#32
  let main_v7 : FVec F S40960x1024 .f32 := broadcastInDim S40960x1024 ![] bcast_S_S40960x1024 main_cst_0
  let main_v8 : IVec S40960x1024 1 := cmpf .olt main_v6 main_v7
  let main_c_1 : IVec S_ 1 := constantI S_ 1 1#1
  let main_v9 : IVec S_ 1 := (fun x v => Host.reduce IntOp.andi x v reducesTo_S40960x1024_S_d0_1 h_S_) main_v8 main_c_1
  let main_v10 : IVec S_ 1 := andi main_v4 main_v9
  let main_v11 : FVec F S8x512x16x64 .f32 := Host.absf main_arg3
  let main_cst_2 : FVec F S_ .f32 := constant S_ .f32 0x7F800000#32
  let main_v12 : FVec F S8x512x16x64 .f32 := broadcastInDim S8x512x16x64 ![] bcast_S_S8x512x16x64 main_cst_2
  let main_v13 : IVec S8x512x16x64 1 := cmpf .olt main_v11 main_v12
  let main_c_3 : IVec S_ 1 := constantI S_ 1 1#1
  let main_v14 : IVec S_ 1 := (fun x v => Host.reduce IntOp.andi x v reducesTo_S8x512x16x64_S_d0_1_2_3 h_S_) main_v13 main_c_3
  let main_v15 : IVec S_ 1 := andi main_v10 main_v14
  let main_v16 : FVec F S16x15x31 .f32 := Host.absf main_arg5
  let main_cst_4 : FVec F S_ .f32 := constant S_ .f32 0x7F800000#32
  fn_part1 (F := F) main_v15 main_v16 main_cst_4
-- ==== Pre_finite_qk.lean ====
abbrev S8192x1024 : Shape := ⟨2, ![8192, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .bf16) (main_arg1 : FVec F S8192x1024 .bf16) (main_arg2 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  main_v10
-- ==== Kernel.lean ====
abbrev S40960x1024 : Shape := ⟨2, ![40960, 1024]⟩
abbrev S8x512x16x64 : Shape := ⟨4, ![8, 512, 16, 64]⟩
abbrev S16x15x31 : Shape := ⟨3, ![16, 15, 31]⟩
abbrev S10x4096x1024 : Shape := ⟨3, ![10, 4096, 1024]⟩
abbrev S8x512x1024 : Shape := ⟨3, ![8, 512, 1024]⟩
abbrev S7440 : Shape := ⟨1, ![7440]⟩
abbrev S3x16x256x768 : Shape := ⟨4, ![3, 16, 256, 768]⟩
abbrev S3x1x256x768 : Shape := ⟨4, ![3, 1, 256, 768]⟩
abbrev S64x128 : Shape := ⟨2, ![64, 128]⟩
abbrev S1 : Shape := ⟨1, ![1]⟩
abbrev S1x1x64x128 : Shape := ⟨4, ![1, 1, 64, 128]⟩
abbrev S8x4096x1024 : Shape := ⟨3, ![8, 4096, 1024]⟩
abbrev S1x1024x256 : Shape := ⟨3, ![1, 1024, 256]⟩
abbrev S1x4096x256 : Shape := ⟨3, ![1, 4096, 256]⟩
abbrev S1x512x256 : Shape := ⟨3, ![1, 512, 256]⟩
abbrev S3x4x256x768 : Shape := ⟨4, ![3, 4, 256, 768]⟩
abbrev S1x128 : Shape := ⟨2, ![1, 128]⟩
abbrev S1x256x128 : Shape := ⟨3, ![1, 256, 128]⟩
abbrev S256x128 : Shape := ⟨2, ![256, 128]⟩
abbrev S1x768x128 : Shape := ⟨3, ![1, 768, 128]⟩
abbrev S768x128 : Shape := ⟨2, ![768, 128]⟩
abbrev S1x512x128 : Shape := ⟨3, ![1, 512, 128]⟩
abbrev S512x128 : Shape := ⟨2, ![512, 128]⟩
abbrev S256x768 : Shape := ⟨2, ![256, 768]⟩
abbrev S1x1x256x768 : Shape := ⟨4, ![1, 1, 256, 768]⟩
abbrev S256x512 : Shape := ⟨2, ![256, 512]⟩
abbrev S256 : Shape := ⟨1, ![256]⟩
abbrev S256x1 : Shape := ⟨2, ![256, 1]⟩

abbrev nBuf : Space → Nat
  | .hbm => 16
  | .vmem => 16
  | .smem => 1
  | _ => 0

abbrev bufTy : (tb : Table) → Fin (tcTables nBuf tb) → BufTy
  | .hbm, ⟨0, _⟩ => ⟨S40960x1024, .bf16⟩
  | .hbm, ⟨1, _⟩ => ⟨S40960x1024, .bf16⟩
  | .hbm, ⟨2, _⟩ => ⟨S40960x1024, .bf16⟩
  | .hbm, ⟨3, _⟩ => ⟨S8x512x16x64, .f32⟩
  | .hbm, ⟨4, _⟩ => ⟨S8x512x16x64, .f32⟩
  | .hbm, ⟨5, _⟩ => ⟨S16x15x31, .f32⟩
  | .hbm, ⟨6, _⟩ => ⟨S10x4096x1024, .bf16⟩
  | .hbm, ⟨7, _⟩ => ⟨S10x4096x1024, .bf16⟩
  | .hbm, ⟨8, _⟩ => ⟨S10x4096x1024, .bf16⟩
  | .hbm, ⟨9, _⟩ => ⟨S8x512x1024, .f32⟩
  | .hbm, ⟨10, _⟩ => ⟨S8x512x1024, .bf16⟩
  | .hbm, ⟨11, _⟩ => ⟨S8x512x1024, .f32⟩
  | .hbm, ⟨12, _⟩ => ⟨S8x512x1024, .bf16⟩
  | .hbm, ⟨13, _⟩ => ⟨S7440, .f32⟩
  | .hbm, ⟨14, _⟩ => ⟨S3x16x256x768, .f32⟩
  | .hbm, ⟨15, _⟩ => ⟨S8x4096x1024, .bf16⟩
  | .local _ .vmem, ⟨0, _⟩ => ⟨S3x1x256x768, .f32⟩
  | .local _ .vmem, ⟨1, _⟩ => ⟨S3x1x256x768, .f32⟩
  | .local _ .vmem, ⟨2, _⟩ => ⟨S1x1024x256, .bf16⟩
  | .local _ .vmem, ⟨3, _⟩ => ⟨S1x1024x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S3x4x256x768, .f32⟩
  | .local _ .vmem, ⟨13, _⟩ => ⟨S3x4x256x768, .f32⟩
  | .local _ .vmem, ⟨14, _⟩ => ⟨S1x1024x256, .bf16⟩
  | .local _ .vmem, ⟨15, _⟩ => ⟨S1x1024x256, .bf16⟩
  | .local _ .smem, ⟨0, _⟩ => ⟨S7440, .f32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![16], ![false]⟩

def k0_off1 (i : grid0.Coords) (c0_i32_3 : BitVec 32) (c0_i32_4 : BitVec 32) : Fin 1 → Nat :=
  let arg0 : BitVec 32 := BitVec.ofNat 32 (i 0).val
  let c465_i32 : BitVec 32 := 465#32
  let v24 : BitVec 32 := Scalar.muli arg0 c465_i32
  let v25 : BitVec 32 := Scalar.addi v24 c0_i32_3
  let v26 : BitVec 32 := Scalar.addi v25 c0_i32_4
  let v27 : Index := Scalar.indexCast v26
  ![v27.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S7440 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 8, 4], ![false, false, false]⟩

def k1_mult1 (i : grid1.Coords) : BitVec 32 :=
  let c52_i32 : BitVec 32 := 52#32
  let c0_i32_2 : BitVec 32 := 0#32
  let arg2 : BitVec 32 := BitVec.ofNat 32 (i 2).val
  let c4_i32 : BitVec 32 := 4#32
  let v3 : BitVec 32 := Scalar.muli arg2 c4_i32
  let c0_i32 : BitVec 32 := 0#32
  let v4 : BitVec 32 := Scalar.addi v3 c0_i32
  let c4_i32_0 : BitVec 32 := 4#32
  let v5 : BitVec 32 := Scalar.muli v4 c4_i32_0
  let c4_i32_1 : BitVec 32 := 4#32
  let v6 : BitVec 32 := Scalar.subi v5 c4_i32_1
  let v7 : BitVec 32 := Scalar.maxsi c0_i32_2 v6
  let v8 : BitVec 32 := Scalar.minsi c52_i32 v7
  let c64_i32_3 : BitVec 32 := 64#32
  let v9 : BitVec 32 := Scalar.muli v8 c64_i32_3
  v9
def k1_off1 (i : grid1.Coords) (c0_i32 : BitVec 32) : Fin 3 → Nat :=
  let c0_8 : Index := 0#32
  let c52_i32 : BitVec 32 := 52#32
  let c0_i32_2 : BitVec 32 := 0#32
  let arg2 : BitVec 32 := BitVec.ofNat 32 (i 2).val
  let c4_i32 : BitVec 32 := 4#32
  let v3 : BitVec 32 := Scalar.muli arg2 c4_i32
  let v4 : BitVec 32 := Scalar.addi v3 c0_i32
  let c4_i32_0 : BitVec 32 := 4#32
  let v5 : BitVec 32 := Scalar.muli v4 c4_i32_0
  let c4_i32_1 : BitVec 32 := 4#32
  let v6 : BitVec 32 := Scalar.subi v5 c4_i32_1
  let v7 : BitVec 32 := Scalar.maxsi c0_i32_2 v6
  let v8 : BitVec 32 := Scalar.minsi c52_i32 v7
  let c64_i32_3 : BitVec 32 := 64#32
  let v9 : BitVec 32 := Scalar.muli v8 c64_i32_3
  let v10 : BitVec 32 := v9
  let v17 : Index := Scalar.indexCast v10
  let c0_9 : Index := 0#32
  ![0, v17.toNat, 0]
def k1_off2 (i : grid1.Coords) (c0_i32 : BitVec 32) : Fin 4 → Nat :=
  let arg2 : BitVec 32 := BitVec.ofNat 32 (i 2).val
  let c4_i32 : BitVec 32 := 4#32
  let v3 : BitVec 32 := Scalar.muli arg2 c4_i32
  let v4 : BitVec 32 := Scalar.addi v3 c0_i32
  let c0_i32_4 : BitVec 32 := 0#32
  let v11 : BitVec 1 := Scalar.cmpi .eq v4 c0_i32_4
  let c0_i32_5 : BitVec 32 := 0#32
  let c15_i32 : BitVec 32 := 15#32
  let v12 : BitVec 1 := Scalar.cmpi .eq v4 c15_i32
  let c2_i32 : BitVec 32 := 2#32
  let c1_i32 : BitVec 32 := 1#32
  let v13 : BitVec 32 := Scalar.select v12 c2_i32 c1_i32
  let v14 : BitVec 32 := Scalar.select v11 c0_i32_5 v13
  let v34 : Index := Scalar.indexCast v14
  let c0_20 : Index := 0#32
  let c0_21 : Index := 0#32
  let c0_22 : Index := 0#32
  ![v34.toNat, 0, 0, 0]
def k1_off3 (i : grid1.Coords) (c0_i32 : BitVec 32) : Fin 4 → Nat :=
  let arg2 : BitVec 32 := BitVec.ofNat 32 (i 2).val
  let c4_i32 : BitVec 32 := 4#32
  let v3 : BitVec 32 := Scalar.muli arg2 c4_i32
  let v4 : BitVec 32 := Scalar.addi v3 c0_i32
  let c0_i32_4 : BitVec 32 := 0#32
  let v11 : BitVec 1 := Scalar.cmpi .eq v4 c0_i32_4
  let c0_i32_5 : BitVec 32 := 0#32
  let c15_i32 : BitVec 32 := 15#32
  let v12 : BitVec 1 := Scalar.cmpi .eq v4 c15_i32
  let c2_i32 : BitVec 32 := 2#32
  let c1_i32 : BitVec 32 := 1#32
  let v13 : BitVec 32 := Scalar.select v12 c2_i32 c1_i32
  let v14 : BitVec 32 := Scalar.select v11 c0_i32_5 v13
  let v70 : Index := Scalar.indexCast v14
  let c1 : Index := 1#32
  let c0_34 : Index := 0#32
  let c0_35 : Index := 0#32
  ![v70.toNat, 1, 0, 0]
def k1_off4 (i : grid1.Coords) (c0_i32 : BitVec 32) : Fin 3 → Nat :=
  let c0_48 : Index := 0#32
  let c52_i32 : BitVec 32 := 52#32
  let c0_i32_2 : BitVec 32 := 0#32
  let arg2 : BitVec 32 := BitVec.ofNat 32 (i 2).val
  let c4_i32 : BitVec 32 := 4#32
  let v3 : BitVec 32 := Scalar.muli arg2 c4_i32
  let v4 : BitVec 32 := Scalar.addi v3 c0_i32
  let c4_i32_0 : BitVec 32 := 4#32
  let v5 : BitVec 32 := Scalar.muli v4 c4_i32_0
  let c4_i32_1 : BitVec 32 := 4#32
  let v6 : BitVec 32 := Scalar.subi v5 c4_i32_1
  let v7 : BitVec 32 := Scalar.maxsi c0_i32_2 v6
  let v8 : BitVec 32 := Scalar.minsi c52_i32 v7
  let c64_i32_3 : BitVec 32 := 64#32
  let v9 : BitVec 32 := Scalar.muli v8 c64_i32_3
  let v10 : BitVec 32 := v9
  let v107 : Index := Scalar.indexCast v10
  let c128_49 : Index := 128#32
  ![0, v107.toNat, 128]
def k1_off5 (i : grid1.Coords) (c0_i32 : BitVec 32) : Fin 4 → Nat :=
  let arg2 : BitVec 32 := BitVec.ofNat 32 (i 2).val
  let c4_i32 : BitVec 32 := 4#32
  let v3 : BitVec 32 := Scalar.muli arg2 c4_i32
  let v4 : BitVec 32 := Scalar.addi v3 c0_i32
  let c0_i32_4 : BitVec 32 := 0#32
  let v11 : BitVec 1 := Scalar.cmpi .eq v4 c0_i32_4
  let c0_i32_5 : BitVec 32 := 0#32
  let c15_i32 : BitVec 32 := 15#32
  let v12 : BitVec 1 := Scalar.cmpi .eq v4 c15_i32
  let c2_i32 : BitVec 32 := 2#32
  let c1_i32 : BitVec 32 := 1#32
  let v13 : BitVec 32 := Scalar.select v12 c2_i32 c1_i32
  let v14 : BitVec 32 := Scalar.select v11 c0_i32_5 v13
  let v124 : Index := Scalar.indexCast v14
  let c2 : Index := 2#32
  let c0_61 : Index := 0#32
  let c0_62 : Index := 0#32
  ![v124.toNat, 2, 0, 0]
def k1_off6 (i : grid1.Coords) (c0_i32 : BitVec 32) : Fin 4 → Nat :=
  let arg2 : BitVec 32 := BitVec.ofNat 32 (i 2).val
  let c4_i32 : BitVec 32 := 4#32
  let v3 : BitVec 32 := Scalar.muli arg2 c4_i32
  let v4 : BitVec 32 := Scalar.addi v3 c0_i32
  let c0_i32_4 : BitVec 32 := 0#32
  let v11 : BitVec 1 := Scalar.cmpi .eq v4 c0_i32_4
  let c0_i32_5 : BitVec 32 := 0#32
  let c15_i32 : BitVec 32 := 15#32
  let v12 : BitVec 1 := Scalar.cmpi .eq v4 c15_i32
  let c2_i32 : BitVec 32 := 2#32
  let c1_i32 : BitVec 32 := 1#32
  let v13 : BitVec 32 := Scalar.select v12 c2_i32 c1_i32
  let v14 : BitVec 32 := Scalar.select v11 c0_i32_5 v13
  let v160 : Index := Scalar.indexCast v14
  let c3 : Index := 3#32
  let c0_74 : Index := 0#32
  let c0_75 : Index := 0#32
  ![v160.toNat, 3, 0, 0]
def k1_mult2 (i : grid1.Coords) : BitVec 32 :=
  let c52_i32_91 : BitVec 32 := 52#32
  let c0_i32_90 : BitVec 32 := 0#32
  let arg2 : BitVec 32 := BitVec.ofNat 32 (i 2).val
  let c4_i32_86 : BitVec 32 := 4#32
  let v195 : BitVec 32 := Scalar.muli arg2 c4_i32_86
  let c1_i32_87 : BitVec 32 := 1#32
  let v196 : BitVec 32 := Scalar.addi v195 c1_i32_87
  let c4_i32_88 : BitVec 32 := 4#32
  let v197 : BitVec 32 := Scalar.muli v196 c4_i32_88
  let c4_i32_89 : BitVec 32 := 4#32
  let v198 : BitVec 32 := Scalar.subi v197 c4_i32_89
  let v199 : BitVec 32 := Scalar.maxsi c0_i32_90 v198
  let v200 : BitVec 32 := Scalar.minsi c52_i32_91 v199
  let c64_i32_92 : BitVec 32 := 64#32
  let v201 : BitVec 32 := Scalar.muli v200 c64_i32_92
  v201
def k1_mult3 (i : grid1.Coords) : BitVec 32 :=
  let c52_i32_188 : BitVec 32 := 52#32
  let c0_i32_187 : BitVec 32 := 0#32
  let arg2 : BitVec 32 := BitVec.ofNat 32 (i 2).val
  let c4_i32_183 : BitVec 32 := 4#32
  let v387 : BitVec 32 := Scalar.muli arg2 c4_i32_183
  let c2_i32_184 : BitVec 32 := 2#32
  let v388 : BitVec 32 := Scalar.addi v387 c2_i32_184
  let c4_i32_185 : BitVec 32 := 4#32
  let v389 : BitVec 32 := Scalar.muli v388 c4_i32_185
  let c4_i32_186 : BitVec 32 := 4#32
  let v390 : BitVec 32 := Scalar.subi v389 c4_i32_186
  let v391 : BitVec 32 := Scalar.maxsi c0_i32_187 v390
  let v392 : BitVec 32 := Scalar.minsi c52_i32_188 v391
  let c64_i32_189 : BitVec 32 := 64#32
  let v393 : BitVec 32 := Scalar.muli v392 c64_i32_189
  v393
def k1_mult4 (i : grid1.Coords) : BitVec 32 :=
  let c52_i32_284 : BitVec 32 := 52#32
  let c0_i32_283 : BitVec 32 := 0#32
  let arg2 : BitVec 32 := BitVec.ofNat 32 (i 2).val
  let c4_i32_280 : BitVec 32 := 4#32
  let v579 : BitVec 32 := Scalar.muli arg2 c4_i32_280
  let c3_i32 : BitVec 32 := 3#32
  let v580 : BitVec 32 := Scalar.addi v579 c3_i32
  let c4_i32_281 : BitVec 32 := 4#32
  let v581 : BitVec 32 := Scalar.muli v580 c4_i32_281
  let c4_i32_282 : BitVec 32 := 4#32
  let v582 : BitVec 32 := Scalar.subi v581 c4_i32_282
  let v583 : BitVec 32 := Scalar.maxsi c0_i32_283 v582
  let v584 : BitVec 32 := Scalar.minsi c52_i32_284 v583
  let c64_i32_285 : BitVec 32 := 64#32
  let v585 : BitVec 32 := Scalar.muli v584 c64_i32_285
  v585
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![v0.toNat, arg2.toNat, arg0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![v0.toNat, c0_i32.toNat, arg0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![v0.toNat, c0_i32.toNat, arg0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S3x4x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S1x1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "mask" => some ⊤
  | _ => none
-- ==== ReferenceIdeal.lean ====
abbrev S40960x1024 : Shape := ⟨2, ![40960, 1024]⟩
abbrev S8x512x16x64 : Shape := ⟨4, ![8, 512, 16, 64]⟩
abbrev S16x15x31 : Shape := ⟨3, ![16, 15, 31]⟩
abbrev S32768x1024 : Shape := ⟨2, ![32768, 1024]⟩
abbrev S8x4096x16x64 : Shape := ⟨4, ![8, 4096, 16, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S4096x4096 : Shape := ⟨2, ![4096, 4096]⟩
abbrev S64x64x1 : Shape := ⟨3, ![64, 64, 1]⟩
abbrev S16x64x64x31 : Shape := ⟨4, ![16, 64, 64, 31]⟩
abbrev S16x64x64x64x64 : Shape := ⟨5, ![16, 64, 64, 64, 64]⟩
abbrev S16x4096x4096 : Shape := ⟨3, ![16, 4096, 4096]⟩
abbrev S8x16x4096x4096 : Shape := ⟨4, ![8, 16, 4096, 4096]⟩
abbrev S1x16x4096x4096 : Shape := ⟨4, ![1, 16, 4096, 4096]⟩
abbrev S8x16x4096x512 : Shape := ⟨4, ![8, 16, 4096, 512]⟩
abbrev S8x16x4096x4608 : Shape := ⟨4, ![8, 16, 4096, 4608]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩
abbrev S8x4096x1024 : Shape := ⟨3, ![8, 4096, 1024]⟩

abbrev nBuf : Space → Nat
  | .hbm => 154
  | .vmem => 0
  | .smem => 0
  | _ => 0

abbrev hbmTy0_0 (i : Nat) : BufTy := match i % 128 with
  | 0 => ⟨S40960x1024, .bf16⟩
  | 1 => ⟨S40960x1024, .bf16⟩
  | 2 => ⟨S40960x1024, .bf16⟩
  | 3 => ⟨S8x512x16x64, .f32⟩
  | 4 => ⟨S8x512x16x64, .f32⟩
  | 5 => ⟨S16x15x31, .f32⟩
  | 6 => ⟨S32768x1024, .bf16⟩
  | 7 => ⟨S32768x1024, .f32⟩
  | 8 => ⟨S8x4096x16x64, .f32⟩
  | 9 => ⟨S32768x1024, .bf16⟩
  | 10 => ⟨S32768x1024, .f32⟩
  | 11 => ⟨S8x4096x16x64, .f32⟩
  | 12 => ⟨S32768x1024, .bf16⟩
  | 13 => ⟨S32768x1024, .f32⟩
  | 14 => ⟨S8x4096x16x64, .f32⟩
  | 15 => ⟨S64, .i32⟩
  | 16 => ⟨S_, .i32⟩
  | 17 => ⟨S64, .i32⟩
  | 18 => ⟨S64, .i32⟩
  | 19 => ⟨S_, .i32⟩
  | 20 => ⟨S_, .i32⟩
  | 21 => ⟨S_, .i32⟩
  | 22 => ⟨S64, .i32⟩
  | 23 => ⟨S64, .i32⟩
  | 24 => ⟨S_, .i32⟩
  | 25 => ⟨S64, .i32⟩
  | 26 => ⟨S64, .i32⟩
  | 27 => ⟨S64x1, .i32⟩
  | 28 => ⟨S_, .i32⟩
  | 29 => ⟨S64, .i32⟩
  | 30 => ⟨S64, .i32⟩
  | 31 => ⟨S_, .i32⟩
  | 32 => ⟨S_, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S64x1, .i32⟩
  | 40 => ⟨S1x64, .i32⟩
  | 41 => ⟨S64x64, .i32⟩
  | 42 => ⟨S64x64, .i32⟩
  | 43 => ⟨S64x64, .i1⟩
  | 44 => ⟨S_, .i32⟩
  | 45 => ⟨S64x1, .i32⟩
  | 46 => ⟨S64x1, .i32⟩
  | 47 => ⟨S1x64, .i32⟩
  | 48 => ⟨S64x64, .i32⟩
  | 49 => ⟨S64x64, .i32⟩
  | 50 => ⟨S64x64, .i1⟩
  | 51 => ⟨S64x64, .i1⟩
  | 52 => ⟨S1x64, .i32⟩
  | 53 => ⟨S64x64, .i32⟩
  | 54 => ⟨S64x64, .i32⟩
  | 55 => ⟨S64x64, .i1⟩
  | 56 => ⟨S_, .i32⟩
  | 57 => ⟨S64x1, .i32⟩
  | 58 => ⟨S64x1, .i32⟩
  | 59 => ⟨S1x64, .i32⟩
  | 60 => ⟨S64x64, .i32⟩
  | 61 => ⟨S64x64, .i32⟩
  | 62 => ⟨S64x64, .i1⟩
  | 63 => ⟨S64x64, .i1⟩
  | 64 => ⟨S64x1x64x1, .i1⟩
  | 65 => ⟨S1x64x1x64, .i1⟩
  | 66 => ⟨S64x64x64x64, .i1⟩
  | 67 => ⟨S64x64x64x64, .i1⟩
  | 68 => ⟨S64x64x64x64, .i1⟩
  | 69 => ⟨S4096x4096, .i1⟩
  | 70 => ⟨S64x1, .i32⟩
  | 71 => ⟨S1x64, .i32⟩
  | 72 => ⟨S64x64, .i32⟩
  | 73 => ⟨S64x64, .i32⟩
  | 74 => ⟨S64x64, .i32⟩
  | 75 => ⟨S_, .i32⟩
  | 76 => ⟨S64x64, .i32⟩
  | 77 => ⟨S64x64, .i32⟩
  | 78 => ⟨S_, .i32⟩
  | 79 => ⟨S64x64, .i32⟩
  | 80 => ⟨S64x64, .i32⟩
  | 81 => ⟨S_, .i32⟩
  | 82 => ⟨S_, .i32⟩
  | 83 => ⟨S_, .i32⟩
  | 84 => ⟨S64x64, .i32⟩
  | 85 => ⟨S64x64, .i32⟩
  | 86 => ⟨S_, .i32⟩
  | 87 => ⟨S64x64, .i32⟩
  | 88 => ⟨S64x64, .i32⟩
  | 89 => ⟨S64x1, .i32⟩
  | 90 => ⟨S1x64, .i32⟩
  | 91 => ⟨S64x64, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S_, .i32⟩
  | 98 => ⟨S64x64, .i32⟩
  | 99 => ⟨S64x64, .i32⟩
  | 100 => ⟨S_, .i32⟩
  | 101 => ⟨S_, .i32⟩
  | 102 => ⟨S_, .i32⟩
  | 103 => ⟨S64x64, .i32⟩
  | 104 => ⟨S64x64, .i32⟩
  | 105 => ⟨S_, .i32⟩
  | 106 => ⟨S64x64, .i32⟩
  | 107 => ⟨S64x64, .i32⟩
  | 108 => ⟨S64x64x1, .i32⟩
  | 109 => ⟨S16x64x64x31, .f32⟩
  | 110 => ⟨S64x64x1, .i32⟩
  | 111 => ⟨S16x64x64x64x64, .f32⟩
  | 112 => ⟨S16x64x64x64x64, .f32⟩
  | 113 => ⟨S16x4096x4096, .f32⟩
  | 114 => ⟨S8x16x4096x4096, .f32⟩
  | 115 => ⟨S_, .f32⟩
  | 116 => ⟨S8x16x4096x4096, .f32⟩
  | 117 => ⟨S8x16x4096x4096, .f32⟩
  | 118 => ⟨S1x16x4096x4096, .f32⟩
  | 119 => ⟨S8x16x4096x4096, .f32⟩
  | 120 => ⟨S8x16x4096x4096, .f32⟩
  | 121 => ⟨S_, .f32⟩
  | 122 => ⟨S_, .f32⟩
  | 123 => ⟨S8x16x4096x4096, .i1⟩
  | 124 => ⟨S8x16x4096x4096, .f32⟩
  | 125 => ⟨S8x16x4096x4096, .f32⟩
  | 126 => ⟨S8x16x4096x512, .f32⟩
  | 127 => ⟨S_, .f32⟩
  | _ => ⟨S40960x1024, .bf16⟩

abbrev hbmTy0_1 (i : Nat) : BufTy := match i % 128 with
  | 0 => ⟨S8x16x4096x512, .f32⟩
  | 1 => ⟨S8x16x4096x512, .f32⟩
  | 2 => ⟨S8x16x4096x4608, .f32⟩
  | 3 => ⟨S_, .f32⟩
  | 4 => ⟨S8x16x4096, .f32⟩
  | 5 => ⟨S_, .f32⟩
  | 6 => ⟨S8x16x4096, .f32⟩
  | 7 => ⟨S8x16x4096, .f32⟩
  | 8 => ⟨S8x16x4096x1, .f32⟩
  | 9 => ⟨S8x16x4096x4608, .f32⟩
  | 10 => ⟨S8x16x4096x4608, .f32⟩
  | 11 => ⟨S8x16x4096x4608, .f32⟩
  | 12 => ⟨S_, .f32⟩
  | 13 => ⟨S8x16x4096, .f32⟩
  | 14 => ⟨S8x16x4096x1, .f32⟩
  | 15 => ⟨S8x16x4096x4608, .f32⟩
  | 16 => ⟨S8x16x4096x4608, .f32⟩
  | 17 => ⟨S8x16x4096x4096, .f32⟩
  | 18 => ⟨S8x16x64x4096, .f32⟩
  | 19 => ⟨S8x4096x16x64, .f32⟩
  | 20 => ⟨S8x16x4096x512, .f32⟩
  | 21 => ⟨S8x16x64x4096, .f32⟩
  | 22 => ⟨S8x4096x16x64, .f32⟩
  | 23 => ⟨S8x4096x16x64, .f32⟩
  | 24 => ⟨S8x4096x1024, .f32⟩
  | 25 => ⟨S8x4096x1024, .bf16⟩
  | _ => ⟨S40960x1024, .bf16⟩

abbrev hbmTy (i : Nat) : BufTy := match i / 128 with
  | 0 => hbmTy0_0 i
  | 1 => hbmTy0_1 i
  | _ => ⟨S40960x1024, .bf16⟩

abbrev bufTy : (tb : Table) → Fin (tcTables nBuf tb) → BufTy
  | .hbm, ⟨i, _⟩ => hbmTy i
  | _, _ => ⟨S40960x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_c_4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_7 : Ref sig .tc := ⟨.hbm, 75, rfl⟩
abbrev main_v51 : Ref sig .tc := ⟨.hbm, 76, rfl⟩
abbrev main_v52 : Ref sig .tc := ⟨.hbm, 77, rfl⟩
abbrev main_c_8 : Ref sig .tc := ⟨.hbm, 78, rfl⟩
abbrev main_v53 : Ref sig .tc := ⟨.hbm, 79, rfl⟩
abbrev main_v54 : Ref sig .tc := ⟨.hbm, 80, rfl⟩
abbrev main_c_9 : Ref sig .tc := ⟨.hbm, 81, rfl⟩
abbrev main_c_10 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_11 : Ref sig .tc := ⟨.hbm, 94, rfl⟩
abbrev main_v61 : Ref sig .tc := ⟨.hbm, 95, rfl⟩
abbrev main_v62 : Ref sig .tc := ⟨.hbm, 96, rfl⟩
abbrev main_c_12 : Ref sig .tc := ⟨.hbm, 97, rfl⟩
abbrev main_v63 : Ref sig .tc := ⟨.hbm, 98, rfl⟩
abbrev main_v64 : Ref sig .tc := ⟨.hbm, 99, rfl⟩
abbrev main_c_13 : Ref sig .tc := ⟨.hbm, 100, rfl⟩
abbrev main_c_14 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_v65 : Ref sig .tc := ⟨.hbm, 107, rfl⟩
abbrev main_call4_v0 : Ref sig .tc := ⟨.hbm, 108, rfl⟩
abbrev main_v66 : Ref sig .tc := ⟨.hbm, 109, rfl⟩
abbrev main_call5_v0 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_15 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_v76 : Ref sig .tc := ⟨.hbm, 125, rfl⟩
abbrev main_v77 : Ref sig .tc := ⟨.hbm, 126, rfl⟩
abbrev main_cst_16 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_17 : Ref sig .tc := ⟨.hbm, 131, rfl⟩
abbrev main_v81 : Ref sig .tc := ⟨.hbm, 132, rfl⟩
abbrev main_cst_18 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_19 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩

abbrev nD : Nat := 1
abbrev τ : Topo := Topo.v7x

variable {F : FTy → Type} [FloatOps F]
-- ==== Moe.lean ====
abbrev S40960x1024 : Shape := ⟨2, ![40960, 1024]⟩
abbrev S40960x128 : Shape := ⟨2, ![40960, 128]⟩
abbrev S16x6x1024 : Shape := ⟨3, ![16, 6, 1024]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S64x1024x512 : Shape := ⟨3, ![64, 1024, 512]⟩
abbrev S1024x512 : Shape := ⟨2, ![1024, 512]⟩
abbrev S1024x1024 : Shape := ⟨2, ![1024, 1024]⟩
abbrev S1024x128 : Shape := ⟨2, ![1024, 128]⟩
abbrev S1x6x1024 : Shape := ⟨3, ![1, 6, 1024]⟩
abbrev S1x1024x512 : Shape := ⟨3, ![1, 1024, 512]⟩
abbrev S1x256x1024 : Shape := ⟨3, ![1, 256, 1024]⟩
abbrev S1024 : Shape := ⟨1, ![1024]⟩
abbrev S1024x1 : Shape := ⟨2, ![1024, 1]⟩
abbrev S1x1x1024 : Shape := ⟨3, ![1, 1, 1024]⟩
abbrev S1x1024 : Shape := ⟨2, ![1, 1024]⟩

abbrev nBuf : Space → Nat
  | .hbm => 17
  | .vmem => 17
  | .smem => 0
  | _ => 0

abbrev bufTy : (tb : Table) → Fin (tcTables nBuf tb) → BufTy
  | .hbm, ⟨0, _⟩ => ⟨S40960x1024, .f32⟩
  | .hbm, ⟨1, _⟩ => ⟨S40960x1024, .bf16⟩
  | .hbm, ⟨2, _⟩ => ⟨S40960x128, .f32⟩
  | .hbm, ⟨3, _⟩ => ⟨S16x6x1024, .f32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S64x1024x512, .f32⟩
  | .hbm, ⟨11, _⟩ => ⟨S64x1024x512, .bf16⟩
  | .hbm, ⟨12, _⟩ => ⟨S1024x512, .f32⟩
  | .hbm, ⟨13, _⟩ => ⟨S1024x512, .bf16⟩
  | .hbm, ⟨14, _⟩ => ⟨S64x256x1024, .bf16⟩
  | .hbm, ⟨15, _⟩ => ⟨S256x1024, .bf16⟩
  | .hbm, ⟨16, _⟩ => ⟨S40960x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024x512, .bf16⟩
  | .local _ .vmem, ⟨9, _⟩ => ⟨S1x1024x512, .bf16⟩
  | .local _ .vmem, ⟨10, _⟩ => ⟨S1x256x1024, .bf16⟩
  | .local _ .vmem, ⟨11, _⟩ => ⟨S1x256x1024, .bf16⟩
  | .local _ .vmem, ⟨12, _⟩ => ⟨S1024x512, .bf16⟩
  | .local _ .vmem, ⟨13, _⟩ => ⟨S256x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![40, 64], ![false, false]⟩

def k0_cond2 (i : grid0.Coords) : BitVec 1 :=
  let arg1 : BitVec 32 := BitVec.ofNat 32 (i 1).val
  let c63_i32 : BitVec 32 := 63#32
  let v31 : BitVec 1 := Scalar.cmpi .eq arg1 c63_i32
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c0_i32 : BitVec 32 := 0#32
  let v2 : BitVec 32 := Scalar.maxsi v1 c0_i32
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v0 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MoeReferenceIdeal.lean ====
abbrev S40960x1024 : Shape := ⟨2, ![40960, 1024]⟩
abbrev S40960x128 : Shape := ⟨2, ![40960, 128]⟩
abbrev S16x6x1024 : Shape := ⟨3, ![16, 6, 1024]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S40960x64 : Shape := ⟨2, ![40960, 64]⟩
abbrev S40960x256 : Shape := ⟨2, ![40960, 256]⟩
abbrev S_ : Shape := ⟨0, ![]⟩
abbrev S40960x64x256 : Shape := ⟨3, ![40960, 64, 256]⟩
abbrev S40960x64x1 : Shape := ⟨3, ![40960, 64, 1]⟩
abbrev S16x1x1024 : Shape := ⟨3, ![16, 1, 1024]⟩
abbrev S16x1024 : Shape := ⟨2, ![16, 1024]⟩
abbrev S8192x1024 : Shape := ⟨2, ![8192, 1024]⟩
abbrev S32768x1024 : Shape := ⟨2, ![32768, 1024]⟩
abbrev S8x4096x1024 : Shape := ⟨3, ![8, 4096, 1024]⟩
abbrev S1x1024 : Shape := ⟨2, ![1, 1024]⟩
abbrev S1024 : Shape := ⟨1, ![1024]⟩
abbrev S8x1024 : Shape := ⟨2, ![8, 1024]⟩
abbrev S8x1x1024 : Shape := ⟨3, ![8, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S40960x1024, .bf16⟩
  | .hbm, ⟨2, _⟩ => ⟨S40960x128, .f32⟩
  | .hbm, ⟨3, _⟩ => ⟨S16x6x1024, .f32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S40960x1024, .f32⟩
  | .hbm, ⟨11, _⟩ => ⟨S40960x64, .f32⟩
  | .hbm, ⟨12, _⟩ => ⟨S40960x256, .f32⟩
  | .hbm, ⟨13, _⟩ => ⟨S40960x256, .f32⟩
  | .hbm, ⟨14, _⟩ => ⟨S40960x256, .f32⟩
  | .hbm, ⟨15, _⟩ => ⟨S_, .f32⟩
  | .hbm, ⟨16, _⟩ => ⟨S40960x256, .f32⟩
  | .hbm, ⟨17, _⟩ => ⟨S40960x256, .f32⟩
  | .hbm, ⟨18, _⟩ => ⟨S_, .f32⟩
  | .hbm, ⟨19, _⟩ => ⟨S40960x256, .f32⟩
  | .hbm, ⟨20, _⟩ => ⟨S40960x256, .f32⟩
  | .hbm, ⟨21, _⟩ => ⟨S40960x256, .f32⟩
  | .hbm, ⟨22, _⟩ => ⟨S40960x256, .f32⟩
  | .hbm, ⟨23, _⟩ => ⟨S40960x256, .f32⟩
  | .hbm, ⟨24, _⟩ => ⟨S40960x1024, .f32⟩
  | .hbm, ⟨25, _⟩ => ⟨S40960x64x256, .f32⟩
  | .hbm, ⟨26, _⟩ => ⟨S40960x64x256, .f32⟩
  | .hbm, ⟨27, _⟩ => ⟨S40960x64x256, .f32⟩
  | .hbm, ⟨28, _⟩ => ⟨S40960x64x256, .f32⟩
  | .hbm, ⟨29, _⟩ => ⟨S_, .f32⟩
  | .hbm, ⟨30, _⟩ => ⟨S40960x64x256, .f32⟩
  | .hbm, ⟨31, _⟩ => ⟨S40960x64x256, .f32⟩
  | .hbm, ⟨32, _⟩ => ⟨S_, .f32⟩
  | .hbm, ⟨33, _⟩ => ⟨S40960x64x256, .f32⟩
  | .hbm, ⟨34, _⟩ => ⟨S40960x64x256, .f32⟩
  | .hbm, ⟨35, _⟩ => ⟨S40960x64x256, .f32⟩
  | .hbm, ⟨36, _⟩ => ⟨S40960x64x256, .f32⟩
  | .hbm, ⟨37, _⟩ => ⟨S40960x64x1, .f32⟩
  | .hbm, ⟨38, _⟩ => ⟨S40960x64x256, .f32⟩
  | .hbm, ⟨39, _⟩ => ⟨S40960x64x256, .f32⟩
  | .hbm, ⟨40, _⟩ => ⟨S40960x1024, .f32⟩
  | .hbm, ⟨41, _⟩ => ⟨S40960x1024, .f32⟩
  | .hbm, ⟨42, _⟩ => ⟨S16x1x1024, .f32⟩
  | .hbm, ⟨43, _⟩ => ⟨S16x1024, .f32⟩
  | .hbm, ⟨44, _⟩ => ⟨S8192x1024, .f32⟩
  | .hbm, ⟨45, _⟩ => ⟨S32768x1024, .f32⟩
  | .hbm, ⟨46, _⟩ => ⟨S8x4096x1024, .f32⟩
  | .hbm, ⟨47, _⟩ => ⟨S1x1024, .f32⟩
  | .hbm, ⟨48, _⟩ => ⟨S1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8x1024, .f32⟩
  | .hbm, ⟨55, _⟩ => ⟨S8x1x1024, .f32⟩
  | .hbm, ⟨56, _⟩ => ⟨S32768x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S32768x1024, .f32⟩
  | .hbm, ⟨62, _⟩ => ⟨S40960x1024, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩

abbrev nD : Nat := 1
abbrev τ : Topo := Topo.v7x

variable {F : FTy → Type} [FloatOps F]
-- ==== Qkv.lean ====
abbrev S40960x1024 : Shape := ⟨2, ![40960, 1024]⟩
abbrev S16x6x1024 : Shape := ⟨3, ![16, 6, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1 : Shape := ⟨2, ![128, 1]⟩
abbrev S1x1024 : Shape := ⟨2, ![1, 1024]⟩
abbrev S128x1024 : Shape := ⟨2, ![128, 1024]⟩
abbrev S1x64 : Shape := ⟨2, ![1, 64]⟩
abbrev S16x64 : Shape := ⟨2, ![16, 64]⟩
abbrev S8192x1024 : Shape := ⟨2, ![8192, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩
abbrev S256x3072 : Shape := ⟨2, ![256, 3072]⟩
abbrev S256x128 : Shape := ⟨2, ![256, 128]⟩

abbrev nBuf : Space → Nat
  | .hbm => 39
  | .vmem => 20
  | .smem => 0
  | _ => 0

abbrev bufTy : (tb : Table) → Fin (tcTables nBuf tb) → BufTy
  | .hbm, ⟨0, _⟩ => ⟨S40960x1024, .f32⟩
  | .hbm, ⟨1, _⟩ => ⟨S16x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S128, .i32⟩
  | .hbm, ⟨12, _⟩ => ⟨S1x128, .i32⟩
  | .hbm, ⟨13, _⟩ => ⟨S1024x128, .i32⟩
  | .hbm, ⟨14, _⟩ => ⟨S1024x128, .i32⟩
  | .hbm, ⟨15, _⟩ => ⟨S1024x128, .i1⟩
  | .hbm, ⟨16, _⟩ => ⟨S1024x128, .bf16⟩
  | .hbm, ⟨17, _⟩ => ⟨S128, .i32⟩
  | .hbm, ⟨18, _⟩ => ⟨S128x1, .i32⟩
  | .hbm, ⟨19, _⟩ => ⟨S1x1024, .i32⟩
  | .hbm, ⟨20, _⟩ => ⟨S128x1024, .i32⟩
  | .hbm, ⟨21, _⟩ => ⟨S128x1024, .i32⟩
  | .hbm, ⟨22, _⟩ => ⟨S128x1024, .i1⟩
  | .hbm, ⟨23, _⟩ => ⟨S128x1024, .bf16⟩
  | .hbm, ⟨24, _⟩ => ⟨S1x64, .f32⟩
  | .hbm, ⟨25, _⟩ => ⟨S16x64, .f32⟩
  | .hbm, ⟨26, _⟩ => ⟨S1024, .f32⟩
  | .hbm, ⟨27, _⟩ => ⟨S1x1024, .f32⟩
  | .hbm, ⟨28, _⟩ => ⟨S1x64, .f32⟩
  | .hbm, ⟨29, _⟩ => ⟨S16x64, .f32⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S1024x3072, .bf16⟩
  | .hbm, ⟨34, _⟩ => ⟨S8192x1024, .bf16⟩
  | .hbm, ⟨35, _⟩ => ⟨S8192x1024, .bf16⟩
  | .hbm, ⟨36, _⟩ => ⟨S8192x1024, .bf16⟩
  | .hbm, ⟨37, _⟩ => ⟨S8192x1024, .f32⟩
  | .hbm, ⟨38, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1x1024, .f32⟩
  | .local _ .vmem, ⟨7, _⟩ => ⟨S1x1024, .f32⟩
  | .local _ .vmem, ⟨8, _⟩ => ⟨S1024x128, .bf16⟩
  | .local _ .vmem, ⟨9, _⟩ => ⟨S128x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev main_v27_3 : Ref sig .tc := ⟨.hbm, 37, rfl⟩
abbrev main_v27_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 1 := Scalar.cmpi .slt v0 c32_i32
  let c32_i32_0 : BitVec 32 := 32#32
  let v2 : BitVec 32 := Scalar.subi v0 c32_i32_0
  let c0_i32_1 : BitVec 32 := 0#32
  let v3 : BitVec 32 := Scalar.maxsi v2 c0_i32_1
  let c16_i32 : BitVec 32 := 16#32
  let v4 : BitVec 32 := Scalar.divsi v3 c16_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c16_i32 c0_i32_4
  let v11 : BitVec 32 := Scalar.extui v10
  let c0_i32_5 : BitVec 32 := 0#32
  let v12 : BitVec 1 := Scalar.cmpi .slt c16_i32 c0_i32_5
  let v13 : BitVec 32 := Scalar.extui v12
  let v14 : BitVec 32 := Scalar.subi v11 v13
  let v15 : BitVec 1 := Scalar.cmpi .ne v9 v14
  let v16 : BitVec 32 := Scalar.remsi v3 c16_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v1 c0_i32_8 v21
  let c0_i32_9 : BitVec 32 := 0#32
  let c0_i32_10 : BitVec 32 := 0#32
  let c0_i32_11 : BitVec 32 := 0#32
  ![v22.toNat, c0_i32_9.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvReferenceIdeal.lean ====
abbrev S40960x1024 : Shape := ⟨2, ![40960, 1024]⟩
abbrev S16x6x1024 : Shape := ⟨3, ![16, 6, 1024]⟩
abbrev S1024 : Shape := ⟨1, ![1024]⟩
abbrev S1024x3072 : Shape := ⟨2, ![1024, 3072]⟩
abbrev S64 : Shape := ⟨1, ![64]⟩
abbrev S1x1x1024 : Shape := ⟨3, ![1, 1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S8192x3x16x64 : Shape := ⟨4, ![8192, 3, 16, 64]⟩
abbrev S8192x1x16x64 : Shape := ⟨4, ![8192, 1, 16, 64]⟩
abbrev S8192x16x64 : Shape := ⟨3, ![8192, 16, 64]⟩
abbrev S8192x16 : Shape := ⟨2, ![8192, 16]⟩
abbrev S8192x16x1 : Shape := ⟨3, ![8192, 16, 1]⟩
abbrev S1x1x64 : Shape := ⟨3, ![1, 1, 64]⟩

abbrev nBuf : Space → Nat
  | .hbm => 82
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S16x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S1x1x1024, .f32⟩
  | .hbm, ⟨7, _⟩ => ⟨S1024, .f32⟩
  | .hbm, ⟨8, _⟩ => ⟨S1x1x1024, .f32⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x3072, .f32⟩
  | .hbm, ⟨37, _⟩ => ⟨S8192x3x16x64, .f32⟩
  | .hbm, ⟨38, _⟩ => ⟨S8192x1x16x64, .f32⟩
  | .hbm, ⟨39, _⟩ => ⟨S8192x16x64, .f32⟩
  | .hbm, ⟨40, _⟩ => ⟨S8192x16x64, .f32⟩
  | .hbm, ⟨41, _⟩ => ⟨S_, .f32⟩
  | .hbm, ⟨42, _⟩ => ⟨S8192x16, .f32⟩
  | .hbm, ⟨43, _⟩ => ⟨S8192x16x1, .f32⟩
  | .hbm, ⟨44, _⟩ => ⟨S_, .f32⟩
  | .hbm, ⟨45, _⟩ => ⟨S8192x16x1, .f32⟩
  | .hbm, ⟨46, _⟩ => ⟨S8192x16x1, .f32⟩
  | .hbm, ⟨47, _⟩ => ⟨S_, .f32⟩
  | .hbm, ⟨48, _⟩ => ⟨S8192x16x1, .f32⟩
  | .hbm, ⟨49, _⟩ => ⟨S8192x16x1, .f32⟩
  | .hbm, ⟨50, _⟩ => ⟨S8192x16x1, .f32⟩
  | .hbm, ⟨51, _⟩ => ⟨S8192x16x64, .f32⟩
  | .hbm, ⟨52, _⟩ => ⟨S8192x16x64, .f32⟩
  | .hbm, ⟨53, _⟩ => ⟨S1x1x64, .f32⟩
  | .hbm, ⟨54, _⟩ => ⟨S8192x16x64, .f32⟩
  | .hbm, ⟨55, _⟩ => ⟨S8192x16x64, .f32⟩
  | .hbm, ⟨56, _⟩ => ⟨S8192x1x16x64, .f32⟩
  | .hbm, ⟨57, _⟩ => ⟨S8192x16x64, .f32⟩
  | .hbm, ⟨58, _⟩ => ⟨S8192x16x64, .f32⟩
  | .hbm, ⟨59, _⟩ => ⟨S_, .f32⟩
  | .hbm, ⟨60, _⟩ => ⟨S8192x16, .f32⟩
  | .hbm, ⟨61, _⟩ => ⟨S8192x16x1, .f32⟩
  | .hbm, ⟨62, _⟩ => ⟨S_, .f32⟩
  | .hbm, ⟨63, _⟩ => ⟨S8192x16x1, .f32⟩
  | .hbm, ⟨64, _⟩ => ⟨S8192x16x1, .f32⟩
  | .hbm, ⟨65, _⟩ => ⟨S_, .f32⟩
  | .hbm, ⟨66, _⟩ => ⟨S8192x16x1, .f32⟩
  | .hbm, ⟨67, _⟩ => ⟨S8192x16x1, .f32⟩
  | .hbm, ⟨68, _⟩ => ⟨S8192x16x1, .f32⟩
  | .hbm, ⟨69, _⟩ => ⟨S8192x16x64, .f32⟩
  | .hbm, ⟨70, _⟩ => ⟨S8192x16x64, .f32⟩
  | .hbm, ⟨71, _⟩ => ⟨S1x1x64, .f32⟩
  | .hbm, ⟨72, _⟩ => ⟨S8192x16x64, .f32⟩
  | .hbm, ⟨73, _⟩ => ⟨S8192x16x64, .f32⟩
  | .hbm, ⟨74, _⟩ => ⟨S8192x1x16x64, .f32⟩
  | .hbm, ⟨75, _⟩ => ⟨S8192x16x64, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | .hbm, ⟨80, _⟩ => ⟨S8192x1024, .bf16⟩
  | .hbm, ⟨81, _⟩ => ⟨S8192x1024, .bf16⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Sqkv.lean ====
abbrev S40960x1024 : Shape := ⟨2, ![40960, 1024]⟩
abbrev S16x6x1024 : Shape := ⟨3, ![16, 6, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1 : Shape := ⟨2, ![128, 1]⟩
abbrev S1x1024 : Shape := ⟨2, ![1, 1024]⟩
abbrev S128x1024 : Shape := ⟨2, ![128, 1024]⟩
abbrev S1x64 : Shape := ⟨2, ![1, 64]⟩
abbrev S16x64 : Shape := ⟨2, ![16, 64]⟩
abbrev S32768x1024 : Shape := ⟨2, ![32768, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩
abbrev S256x3072 : Shape := ⟨2, ![256, 3072]⟩
abbrev S256x128 : Shape := ⟨2, ![256, 128]⟩

abbrev nBuf : Space → Nat
  | .hbm => 37
  | .vmem => 16
  | .smem => 0
  | _ => 0

abbrev bufTy : (tb : Table) → Fin (tcTables nBuf tb) → BufTy
  | .hbm, ⟨0, _⟩ => ⟨S40960x1024, .f32⟩
  | .hbm, ⟨1, _⟩ => ⟨S16x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S128, .i32⟩
  | .hbm, ⟨12, _⟩ => ⟨S1x128, .i32⟩
  | .hbm, ⟨13, _⟩ => ⟨S1024x128, .i32⟩
  | .hbm, ⟨14, _⟩ => ⟨S1024x128, .i32⟩
  | .hbm, ⟨15, _⟩ => ⟨S1024x128, .i1⟩
  | .hbm, ⟨16, _⟩ => ⟨S1024x128, .bf16⟩
  | .hbm, ⟨17, _⟩ => ⟨S128, .i32⟩
  | .hbm, ⟨18, _⟩ => ⟨S128x1, .i32⟩
  | .hbm, ⟨19, _⟩ => ⟨S1x1024, .i32⟩
  | .hbm, ⟨20, _⟩ => ⟨S128x1024, .i32⟩
  | .hbm, ⟨21, _⟩ => ⟨S128x1024, .i32⟩
  | .hbm, ⟨22, _⟩ => ⟨S128x1024, .i1⟩
  | .hbm, ⟨23, _⟩ => ⟨S128x1024, .bf16⟩
  | .hbm, ⟨24, _⟩ => ⟨S1x64, .f32⟩
  | .hbm, ⟨25, _⟩ => ⟨S16x64, .f32⟩
  | .hbm, ⟨26, _⟩ => ⟨S1024, .f32⟩
  | .hbm, ⟨27, _⟩ => ⟨S1x1024, .f32⟩
  | .hbm, ⟨28, _⟩ => ⟨S1x64, .f32⟩
  | .hbm, ⟨29, _⟩ => ⟨S16x64, .f32⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S1024x3072, .bf16⟩
  | .hbm, ⟨34, _⟩ => ⟨S32768x1024, .bf16⟩
  | .hbm, ⟨35, _⟩ => ⟨S32768x1024, .bf16⟩
  | .hbm, ⟨36, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1x1024, .f32⟩
  | .local _ .vmem, ⟨7, _⟩ => ⟨S1x1024, .f32⟩
  | .local _ .vmem, ⟨8, _⟩ => ⟨S1024x128, .bf16⟩
  | .local _ .vmem, ⟨9, _⟩ => ⟨S128x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.addi arg0 c32_i32
  let c32_i32_0 : BitVec 32 := 32#32
  let v1 : BitVec 1 := Scalar.cmpi .slt v0 c32_i32_0
  let c32_i32_1 : BitVec 32 := 32#32
  let v2 : BitVec 32 := Scalar.subi v0 c32_i32_1
  let c0_i32 : BitVec 32 := 0#32
  let v3 : BitVec 32 := Scalar.maxsi v2 c0_i32
  let c16_i32 : BitVec 32 := 16#32
  let v4 : BitVec 32 := Scalar.divsi v3 c16_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c16_i32 c0_i32_4
  let v11 : BitVec 32 := Scalar.extui v10
  let c0_i32_5 : BitVec 32 := 0#32
  let v12 : BitVec 1 := Scalar.cmpi .slt c16_i32 c0_i32_5
  let v13 : BitVec 32 := Scalar.extui v12
  let v14 : BitVec 32 := Scalar.subi v11 v13
  let v15 : BitVec 1 := Scalar.cmpi .ne v9 v14
  let v16 : BitVec 32 := Scalar.remsi v3 c16_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v1 c0_i32_8 v21
  let c0_i32_9 : BitVec 32 := 0#32
  let c0_i32_10 : BitVec 32 := 0#32
  let c0_i32_11 : BitVec 32 := 0#32
  ![v22.toNat, c0_i32_9.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SqkvReferenceIdeal.lean ====
abbrev S40960x1024 : Shape := ⟨2, ![40960, 1024]⟩
abbrev S16x6x1024 : Shape := ⟨3, ![16, 6, 1024]⟩
abbrev S1024 : Shape := ⟨1, ![1024]⟩
abbrev S1024x3072 : Shape := ⟨2, ![1024, 3072]⟩
abbrev S64 : Shape := ⟨1, ![64]⟩
abbrev S32768x1024 : Shape := ⟨2, ![32768, 1024]⟩
abbrev S8x4096x1024 : Shape := ⟨3, ![8, 4096, 1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4096x3x16x64 : Shape := ⟨5, ![8, 4096, 3, 16, 64]⟩
abbrev S8x4096x1x16x64 : Shape := ⟨5, ![8, 4096, 1, 16, 64]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩

abbrev nBuf : Space → Nat
  | .hbm => 83
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S16x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S32768x1024, .f32⟩
  | .hbm, ⟨7, _⟩ => ⟨S8x4096x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x3072, .f32⟩
  | .hbm, ⟨38, _⟩ => ⟨S8x4096x3x16x64, .f32⟩
  | .hbm, ⟨39, _⟩ => ⟨S8x4096x1x16x64, .f32⟩
  | .hbm, ⟨40, _⟩ => ⟨S8x4096x16x64, .f32⟩
  | .hbm, ⟨41, _⟩ => ⟨S8x4096x16x64, .f32⟩
  | .hbm, ⟨42, _⟩ => ⟨S_, .f32⟩
  | .hbm, ⟨43, _⟩ => ⟨S8x4096x16, .f32⟩
  | .hbm, ⟨44, _⟩ => ⟨S8x4096x16x1, .f32⟩
  | .hbm, ⟨45, _⟩ => ⟨S_, .f32⟩
  | .hbm, ⟨46, _⟩ => ⟨S8x4096x16x1, .f32⟩
  | .hbm, ⟨47, _⟩ => ⟨S8x4096x16x1, .f32⟩
  | .hbm, ⟨48, _⟩ => ⟨S_, .f32⟩
  | .hbm, ⟨49, _⟩ => ⟨S8x4096x16x1, .f32⟩
  | .hbm, ⟨50, _⟩ => ⟨S8x4096x16x1, .f32⟩
  | .hbm, ⟨51, _⟩ => ⟨S8x4096x16x1, .f32⟩
  | .hbm, ⟨52, _⟩ => ⟨S8x4096x16x64, .f32⟩
  | .hbm, ⟨53, _⟩ => ⟨S8x4096x16x64, .f32⟩
  | .hbm, ⟨54, _⟩ => ⟨S1x1x1x64, .f32⟩
  | .hbm, ⟨55, _⟩ => ⟨S8x4096x16x64, .f32⟩
  | .hbm, ⟨56, _⟩ => ⟨S8x4096x16x64, .f32⟩
  | .hbm, ⟨57, _⟩ => ⟨S8x4096x1x16x64, .f32⟩
  | .hbm, ⟨58, _⟩ => ⟨S8x4096x16x64, .f32⟩
  | .hbm, ⟨59, _⟩ => ⟨S8x4096x16x64, .f32⟩
  | .hbm, ⟨60, _⟩ => ⟨S_, .f32⟩
  | .hbm, ⟨61, _⟩ => ⟨S8x4096x16, .f32⟩
  | .hbm, ⟨62, _⟩ => ⟨S8x4096x16x1, .f32⟩
  | .hbm, ⟨63, _⟩ => ⟨S_, .f32⟩
  | .hbm, ⟨64, _⟩ => ⟨S8x4096x16x1, .f32⟩
  | .hbm, ⟨65, _⟩ => ⟨S8x4096x16x1, .f32⟩
  | .hbm, ⟨66, _⟩ => ⟨S_, .f32⟩
  | .hbm, ⟨67, _⟩ => ⟨S8x4096x16x1, .f32⟩
  | .hbm, ⟨68, _⟩ => ⟨S8x4096x16x1, .f32⟩
  | .hbm, ⟨69, _⟩ => ⟨S8x4096x16x1, .f32⟩
  | .hbm, ⟨70, _⟩ => ⟨S8x4096x16x64, .f32⟩
  | .hbm, ⟨71, _⟩ => ⟨S8x4096x16x64, .f32⟩
  | .hbm, ⟨72, _⟩ => ⟨S1x1x1x64, .f32⟩
  | .hbm, ⟨73, _⟩ => ⟨S8x4096x16x64, .f32⟩
  | .hbm, ⟨74, _⟩ => ⟨S8x4096x16x64, .f32⟩
  | .hbm, ⟨75, _⟩ => ⟨S8x4096x1x16x64, .f32⟩
  | .hbm, ⟨76, _⟩ => ⟨S8x4096x16x64, .f32⟩
  | .hbm, ⟨77, _⟩ => ⟨S32768x1024, .f32⟩
  | .hbm, ⟨78, _⟩ => ⟨S32768x1024, .bf16⟩
  | .hbm, ⟨79, _⟩ => ⟨S32768x1024, .f32⟩
  | .hbm, ⟨80, _⟩ => ⟨S32768x1024, .bf16⟩
  | .hbm, ⟨81, _⟩ => ⟨S32768x1024, .f32⟩
  | .hbm, ⟨82, _⟩ => ⟨S32768x1024, .bf16⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Oproj.lean ====
abbrev S40960x1024 : Shape := ⟨2, ![40960, 1024]⟩
abbrev S16x6x1024 : Shape := ⟨3, ![16, 6, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S64x1024 : Shape := ⟨2, ![64, 1024]⟩
abbrev S_ : Shape := ⟨0, ![]⟩
abbrev S128x1024 : Shape := ⟨2, ![128, 1024]⟩
abbrev S64x1 : Shape := ⟨2, ![64, 1]⟩
abbrev S1x1024 : Shape := ⟨2, ![1, 1024]⟩
abbrev S40960x128 : Shape := ⟨2, ![40960, 128]⟩
abbrev S256x1024 : Shape := ⟨2, ![256, 1024]⟩
abbrev S1x6x1024 : Shape := ⟨3, ![1, 6, 1024]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩
abbrev S128x256 : Shape := ⟨2, ![128, 256]⟩
abbrev S64x256 : Shape := ⟨2, ![64, 256]⟩
abbrev S8x256 : Shape := ⟨2, ![8, 256]⟩
abbrev S1x256 : Shape := ⟨2, ![1, 256]⟩

abbrev nBuf : Space → Nat
  | .hbm => 21
  | .vmem => 17
  | .smem => 0
  | _ => 0

abbrev bufTy : (tb : Table) → Fin (tcTables nBuf tb) → BufTy
  | .hbm, ⟨0, _⟩ => ⟨S40960x1024, .bf16⟩
  | .hbm, ⟨1, _⟩ => ⟨S40960x1024, .f32⟩
  | .hbm, ⟨2, _⟩ => ⟨S16x6x1024, .f32⟩
  | .hbm, ⟨3, _⟩ => ⟨S1024x1024, .f32⟩
  | .hbm, ⟨4, _⟩ => ⟨S1024, .f32⟩
  | .hbm, ⟨5, _⟩ => ⟨S1024x64, .f32⟩
  | .hbm, ⟨6, _⟩ => ⟨S64, .f32⟩
  | .hbm, ⟨7, _⟩ => ⟨S64x1024, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S128x1024, .bf16⟩
  | .hbm, ⟨12, _⟩ => ⟨S128x1024, .f32⟩
  | .hbm, ⟨13, _⟩ => ⟨S128x1024, .f32⟩
  | .hbm, ⟨14, _⟩ => ⟨S128x1024, .bf16⟩
  | .hbm, ⟨15, _⟩ => ⟨S64x1, .f32⟩
  | .hbm, ⟨16, _⟩ => ⟨S1024x1024, .bf16⟩
  | .hbm, ⟨17, _⟩ => ⟨S1x1024, .f32⟩
  | .hbm, ⟨18, _⟩ => ⟨S40960x1024, .f32⟩
  | .hbm, ⟨19, _⟩ => ⟨S40960x1024, .bf16⟩
  | .hbm, ⟨20, _⟩ => ⟨S40960x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S1x1024, .f32⟩
  | .local _ .vmem, ⟨8, _⟩ => ⟨S128x1024, .bf16⟩
  | .local _ .vmem, ⟨9, _⟩ => ⟨S128x1024, .bf16⟩
  | .local _ .vmem, ⟨10, _⟩ => ⟨S64x1, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x128, .f32⟩
  | .local _ .vmem, ⟨16, _⟩ => ⟨S256x128, .f32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c0_i32 : BitVec 32 := 0#32
  let v2 : BitVec 32 := Scalar.maxsi v1 c0_i32
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v0 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OprojReferenceIdeal.lean ====
abbrev S40960x1024 : Shape := ⟨2, ![40960, 1024]⟩
abbrev S16x6x1024 : Shape := ⟨3, ![16, 6, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S16x1x1024 : Shape := ⟨3, ![16, 1, 1024]⟩
abbrev S16x1024 : Shape := ⟨2, ![16, 1024]⟩
abbrev S1x1024 : Shape := ⟨2, ![1, 1024]⟩
abbrev S8192x1024 : Shape := ⟨2, ![8192, 1024]⟩
abbrev S8x1024 : Shape := ⟨2, ![8, 1024]⟩
abbrev S8x1x1024 : Shape := ⟨3, ![8, 1, 1024]⟩
abbrev S8x4096x1024 : Shape := ⟨3, ![8, 4096, 1024]⟩
abbrev S32768x1024 : Shape := ⟨2, ![32768, 1024]⟩
abbrev S_ : Shape := ⟨0, ![]⟩
abbrev S40960 : Shape := ⟨1, ![40960]⟩
abbrev S40960x1 : Shape := ⟨2, ![40960, 1]⟩

abbrev nBuf : Space → Nat
  | .hbm => 63
  | .vmem => 0
  | .smem => 0
  | _ => 0

abbrev bufTy : (tb : Table) → Fin (tcTables nBuf tb) → BufTy
  | .hbm, ⟨0, _⟩ => ⟨S40960x1024, .bf16⟩
  | .hbm, ⟨1, _⟩ => ⟨S40960x1024, .f32⟩
  | .hbm, ⟨2, _⟩ => ⟨S16x6x1024, .f32⟩
  | .hbm, ⟨3, _⟩ => ⟨S1024x1024, .f32⟩
  | .hbm, ⟨4, _⟩ => ⟨S1024, .f32⟩
  | .hbm, ⟨5, _⟩ => ⟨S1024x64, .f32⟩
  | .hbm, ⟨6, _⟩ => ⟨S64, .f32⟩
  | .hbm, ⟨7, _⟩ => ⟨S16x1x1024, .f32⟩
  | .hbm, ⟨8, _⟩ => ⟨S16x1024, .f32⟩
  | .hbm, ⟨9, _⟩ => ⟨S16x1x1024, .f32⟩
  | .hbm, ⟨10, _⟩ => ⟨S16x1024, .f32⟩
  | .hbm, ⟨11, _⟩ => ⟨S16x1x1024, .f32⟩
  | .hbm, ⟨12, _⟩ => ⟨S16x1024, .f32⟩
  | .hbm, ⟨13, _⟩ => ⟨S1x1024, .f32⟩
  | .hbm, ⟨14, _⟩ => ⟨S1024, .f32⟩
  | .hbm, ⟨15, _⟩ => ⟨S8192x1024, .f32⟩
  | .hbm, ⟨16, _⟩ => ⟨S8x1024, .f32⟩
  | .hbm, ⟨17, _⟩ => ⟨S8x1x1024, .f32⟩
  | .hbm, ⟨18, _⟩ => ⟨S8x4096x1024, .f32⟩
  | .hbm, ⟨19, _⟩ => ⟨S32768x1024, .f32⟩
  | .hbm, ⟨20, _⟩ => ⟨S40960x1024, .f32⟩
  | .hbm, ⟨21, _⟩ => ⟨S40960x1024, .f32⟩
  | .hbm, ⟨22, _⟩ => ⟨S40960x1024, .f32⟩
  | .hbm, ⟨23, _⟩ => ⟨S40960x1024, .f32⟩
  | .hbm, ⟨24, _⟩ => ⟨S40960x1024, .f32⟩
  | .hbm, ⟨25, _⟩ => ⟨S40960x1024, .f32⟩
  | .hbm, ⟨26, _⟩ => ⟨S_, .f32⟩
  | .hbm, ⟨27, _⟩ => ⟨S40960, .f32⟩
  | .hbm, ⟨28, _⟩ => ⟨S40960x1, .f32⟩
  | .hbm, ⟨29, _⟩ => ⟨S_, .f32⟩
  | .hbm, ⟨30, _⟩ => ⟨S40960x1, .f32⟩
  | .hbm, ⟨31, _⟩ => ⟨S40960x1, .f32⟩
  | .hbm, ⟨32, _⟩ => ⟨S_, .f32⟩
  | .hbm, ⟨33, _⟩ => ⟨S40960x1, .f32⟩
  | .hbm, ⟨34, _⟩ => ⟨S40960x1, .f32⟩
  | .hbm, ⟨35, _⟩ => ⟨S40960x1, .f32⟩
  | .hbm, ⟨36, _⟩ => ⟨S40960x1024, .f32⟩
  | .hbm, ⟨37, _⟩ => ⟨S40960x1024, .f32⟩
  | .hbm, ⟨38, _⟩ => ⟨S1x1024, .f32⟩
  | .hbm, ⟨39, _⟩ => ⟨S40960x1024, .f32⟩
  | .hbm, ⟨40, _⟩ => ⟨S40960x1024, .f32⟩
  | .hbm, ⟨41, _⟩ => ⟨S1x1024, .f32⟩
  | .hbm, ⟨42, _⟩ => ⟨S1024, .f32⟩
  | .hbm, ⟨43, _⟩ => ⟨S8192x1024, .f32⟩
  | .hbm, ⟨44, _⟩ => ⟨S8x1024, .f32⟩
  | .hbm, ⟨45, _⟩ => ⟨S8x1x1024, .f32⟩
  | .hbm, ⟨46, _⟩ => ⟨S8x4096x1024, .f32⟩
  | .hbm, ⟨47, _⟩ => ⟨S32768x1024, .f32⟩
  | .hbm, ⟨48, _⟩ => ⟨S40960x1024, .f32⟩
  | .hbm, ⟨49, _⟩ => ⟨S_, .f32⟩
  | .hbm, ⟨50, _⟩ => ⟨S40960x1024, .f32⟩
  | .hbm, ⟨51, _⟩ => ⟨S40960x1024, .f32⟩
  | .hbm, ⟨52, _⟩ => ⟨S40960x1024, .f32⟩
  | .hbm, ⟨53, _⟩ => ⟨S1x1024, .f32⟩
  | .hbm, ⟨54, _⟩ => ⟨S1024, .f32⟩
  | .hbm, ⟨55, _⟩ => ⟨S8192x1024, .f32⟩
  | .hbm, ⟨56, _⟩ => ⟨S8x1024, .f32⟩
  | .hbm, ⟨57, _⟩ => ⟨S8x1x1024, .f32⟩
  | .hbm, ⟨58, _⟩ => ⟨S8x4096x1024, .f32⟩
  | .hbm, ⟨59, _⟩ => ⟨S32768x1024, .f32⟩
  | .hbm, ⟨60, _⟩ => ⟨S40960x1024, .f32⟩
  | .hbm, ⟨61, _⟩ => ⟨S40960x1024, .f32⟩
  | .hbm, ⟨62, _⟩ => ⟨S40960x1024, .bf16⟩
  | _, _ => ⟨S40960x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Ctx.lean ====
abbrev S8192x1024 : Shape := ⟨2, ![8192, 1024]⟩
abbrev S256x128 : Shape := ⟨2, ![256, 128]⟩
abbrev S1x128 : Shape := ⟨2, ![1, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxReferenceIdeal.lean ====
abbrev S8192x1024 : Shape := ⟨2, ![8192, 1024]⟩
abbrev S32x256x16x64 : Shape := ⟨4, ![32, 256, 16, 64]⟩
abbrev S32x16x256x256 : Shape := ⟨4, ![32, 16, 256, 256]⟩
abbrev S_ : Shape := ⟨0, ![]⟩
abbrev S32x16x256 : Shape := ⟨3, ![32, 16, 256]⟩
abbrev S32x16x256x1 : Shape := ⟨4, ![32, 16, 256, 1]⟩
abbrev S32x16x64x256 : Shape := ⟨4, ![32, 16, 64, 256]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S32x256x16x64, .f32⟩
  | .hbm, ⟨5, _⟩ => ⟨S8192x1024, .f32⟩
  | .hbm, ⟨6, _⟩ => ⟨S32x256x16x64, .f32⟩
  | .hbm, ⟨7, _⟩ => ⟨S8192x1024, .f32⟩
  | .hbm, ⟨8, _⟩ => ⟨S32x256x16x64, .f32⟩
  | .hbm, ⟨9, _⟩ => ⟨S32x16x256x256, .f32⟩
  | .hbm, ⟨10, _⟩ => ⟨S_, .f32⟩
  | .hbm, ⟨11, _⟩ => ⟨S32x16x256x256, .f32⟩
  | .hbm, ⟨12, _⟩ => ⟨S32x16x256x256, .f32⟩
  | .hbm, ⟨13, _⟩ => ⟨S_, .f32⟩
  | .hbm, ⟨14, _⟩ => ⟨S32x16x256, .f32⟩
  | .hbm, ⟨15, _⟩ => ⟨S_, .f32⟩
  | .hbm, ⟨16, _⟩ => ⟨S32x16x256, .f32⟩
  | .hbm, ⟨17, _⟩ => ⟨S32x16x256, .f32⟩
  | .hbm, ⟨18, _⟩ => ⟨S32x16x256x1, .f32⟩
  | .hbm, ⟨19, _⟩ => ⟨S32x16x256x256, .f32⟩
  | .hbm, ⟨20, _⟩ => ⟨S32x16x256x256, .f32⟩
  | .hbm, ⟨21, _⟩ => ⟨S32x16x256x256, .f32⟩
  | .hbm, ⟨22, _⟩ => ⟨S_, .f32⟩
  | .hbm, ⟨23, _⟩ => ⟨S32x16x256, .f32⟩
  | .hbm, ⟨24, _⟩ => ⟨S32x16x256x1, .f32⟩
  | .hbm, ⟨25, _⟩ => ⟨S32x16x256x256, .f32⟩
  | .hbm, ⟨26, _⟩ => ⟨S32x16x256x256, .f32⟩
  | .hbm, ⟨27, _⟩ => ⟨S32x16x64x256, .f32⟩
  | .hbm, ⟨28, _⟩ => ⟨S32x256x16x64, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Modul.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulReferenceIdeal.lean ====
abbrev S16x1024 : Shape := ⟨2, ![16, 1024]⟩
abbrev S2x1024x6144 : Shape := ⟨3, ![2, 1024, 6144]⟩
abbrev S2x6144 : Shape := ⟨2, ![2, 6144]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S_ : Shape := ⟨0, ![]⟩
abbrev S16x6144 : Shape := ⟨2, ![16, 6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S1x1024x6144, .f32⟩
  | .hbm, ⟨4, _⟩ => ⟨S1024x6144, .f32⟩
  | .hbm, ⟨5, _⟩ => ⟨S1x1024x6144, .f32⟩
  | .hbm, ⟨6, _⟩ => ⟨S1024x6144, .f32⟩
  | .hbm, ⟨7, _⟩ => ⟨S1x6144, .f32⟩
  | .hbm, ⟨8, _⟩ => ⟨S6144, .f32⟩
  | .hbm, ⟨9, _⟩ => ⟨S1x6144, .f32⟩
  | .hbm, ⟨10, _⟩ => ⟨S6144, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S_, .f32⟩
  | .hbm, ⟨17, _⟩ => ⟨S16x1024, .f32⟩
  | .hbm, ⟨18, _⟩ => ⟨S16x1024, .f32⟩
  | .hbm, ⟨19, _⟩ => ⟨S16x1024, .f32⟩
  | .hbm, ⟨20, _⟩ => ⟨S16x6144, .f32⟩
  | .hbm, ⟨21, _⟩ => ⟨S1x6144, .f32⟩
  | .hbm, ⟨22, _⟩ => ⟨S16x6144, .f32⟩
  | .hbm, ⟨23, _⟩ => ⟨S16x6144, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S_, .f32⟩
  | .hbm, ⟨30, _⟩ => ⟨S16x1024, .f32⟩
  | .hbm, ⟨31, _⟩ => ⟨S16x1024, .f32⟩
  | .hbm, ⟨32, _⟩ => ⟨S16x1024, .f32⟩
  | .hbm, ⟨33, _⟩ => ⟨S16x6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.Pre.lean ====
module
public import proofs.«01_k».proof.Proof.Gen.Pre_finite
public import Idealize.ShloMosaic.Lib.ReduceAll
public import Idealize.ShloMosaic.Lib.Pointwise
@[expose] public section
noncomputable section
namespace Cert.Pre_finite
open Idealize.ShloMosaic

/-! # What the precondition says of each array -/

/-- A value whose absolute value is below plus infinity is a real. -/
theorem real_of_abs_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have hlt : max x (-x) < Ideal.ofBits .f32 0x7F800000#32 := by
    have h' : BitVec.ofBool (decide (max x (-x) < Ideal.ofBits .f32 0x7F800000#32)) = 1#1 := h
    by_contra hc
    rw [decide_eq_false hc] at h'
    exact absurd h' (by decide)
  have htop : Ideal.ofBits .f32 0x7F800000#32 = ⊤ := by simp [Ideal.ofBits, Ideal.ieee]
  rw [htop] at hlt
  induction x with
  | bot => simp at hlt
  | coe a => exact ⟨a, rfl⟩
  | top => simp at hlt

instance : Subsingleton S_.Idx := ⟨fun a b => funext fun i => i.elim0⟩

/-- The precondition: the queries, the keys, the cached keys and the biases are reals. -/
theorem finite_of [Facts] (q k v : FVec Ideal S40960x1024 .bf16) (kc vc : FVec Ideal S8x512x16x64 .f32) (b : FVec Ideal S16x15x31 .f32)
    (h : fn (F := Ideal) q k v kc vc b = fun _ => 1#1) :
    (∀ x, ∃ r : ℝ, q x = (r : EReal)) ∧ (∀ x, ∃ r : ℝ, k x = (r : EReal)) ∧ (∀ x, ∃ r : ℝ, kc x = (r : EReal)) ∧ (∀ x, ∃ r : ℝ, b x = (r : EReal)) := by
  have h0 := congrFun h (fun a => a.elim0)
  unfold fn fn_part1 at h0
  obtain ⟨h1, hb⟩ := IntOp.andi_eq_one.mp h0
  obtain ⟨h2, hc⟩ := IntOp.andi_eq_one.mp h1
  obtain ⟨hq, hk⟩ := IntOp.andi_eq_one.mp h2
  exact ⟨fun x => real_of_abs_lt _ (Host.reduce_andi_all _ _ _ _ _ hq x), fun x => real_of_abs_lt _ (Host.reduce_andi_all _ _ _ _ _ hk x),
    fun x => real_of_abs_lt _ (Host.reduce_andi_all _ _ _ _ _ hc x), fun x => real_of_abs_lt _ (Host.reduce_andi_all _ _ _ _ _ hb x)⟩

end Cert.Pre_finite
-- ==== Proof.Attn.lean ====
module
public import proofs.«01_k».proof.Proof.Gen.KernelIdeal.Skeleton
public import Idealize.ShloMosaic.Lib.Pointwise
@[expose] public section
set_option maxRecDepth 16384
noncomputable section
namespace Cert.KernelIdeal.Attn
open Idealize.ShloMosaic Cert.KernelIdeal Cert.KernelIdeal.Gen
open scoped BigOperators

/-! # One tile of the attention kernel: 256 queries of one pair of heads -/

/-- The kernel's softmax-weighted mean of one query: scores `s` of the window's keys and `c` of the context keys,
    weighted by their exponentials after the common maximum is subtracted, divided by the sum of the weights. -/
def soft {n k : ℕ} (s : Fin n → EReal) (c : Fin k → EReal) (v : Fin n → EReal) (w : Fin k → EReal) : EReal :=
  Ideal.div
    (∑ j, Ideal.exp (s j - max (Finset.univ.fold max (Ideal.ofBits .f32 0xFF800000#32) s)
        (Finset.univ.fold max (Ideal.ofBits .f32 0xFF800000#32) c)) * v j
      + ∑ j, Ideal.exp (c j - max (Finset.univ.fold max (Ideal.ofBits .f32 0xFF800000#32) s)
        (Finset.univ.fold max (Ideal.ofBits .f32 0xFF800000#32) c)) * w j)
    (∑ j, Ideal.exp (s j - max (Finset.univ.fold max (Ideal.ofBits .f32 0xFF800000#32) s)
        (Finset.univ.fold max (Ideal.ofBits .f32 0xFF800000#32) c))
      + ∑ j, Ideal.exp (c j - max (Finset.univ.fold max (Ideal.ofBits .f32 0xFF800000#32) s)
        (Finset.univ.fold max (Ideal.ofBits .f32 0xFF800000#32) c)))

/-- The scale the queries are multiplied by (one eighth). -/
def eighth : EReal := Ideal.ofBits .bf16 0x3E00#16

/-- What the kernel stores for 256 queries of one pair of heads, from the query rows, the window's keys and values, the
    context's keys and values, and the two heads' bias rows. -/
def tile (q : FVec Ideal S1x256x128 .bf16) (kw vw : FVec Ideal S1x768x128 .bf16) (kc vc : FVec Ideal S1x512x128 .bf16)
    (b0 b1 : FVec Ideal S1x1x256x768 .f32) : FVec Ideal S1x256x128 .bf16 :=
  k1_pay13 k1_pay2 (k1_pay5 vw) (k1_pay6 kc) (k1_pay7 vc)
    (k1_pay10 (k1_pay3 q) (k1_pay4 kw) (k1_pay5 vw) (k1_pay6 kc) (k1_pay7 vc) k1_pay8 k1_pay9 b0)
    (k1_pay11 k1_pay2 (k1_pay3 q)) (k1_pay12 k1_pay2 (k1_pay3 q) (k1_pay4 kw)) b1

/-- The lane test of the first head of a pair. -/
theorem lane_lt (d : Fin 128) : IntOp.cmpi .slt (BitVec.ofNat 32 d.val) 64#32 = if d.val < 64 then 1#1 else 0#1 := by
  revert d; decide

/-- Its negation, the lane test of the second head. -/
theorem lane_ge (d : Fin 128) :
    IntOp.xori (IntOp.cmpi .slt (BitVec.ofNat 32 d.val) 64#32) 1#1 = if d.val < 64 then 0#1 else 1#1 := by
  revert d; decide

/-- A sum over a pair of heads' 128 lanes that keeps the first head's 64. -/
theorem sum_first (f : Fin 128 → EReal) :
    ∑ d : Fin 128, Scalar.select (IntOp.cmpi .slt (BitVec.ofNat 32 d.val) 64#32) (f d) 0
      = ∑ d : Fin 64, f ⟨d.val, by omega⟩ := by
  simp only [lane_lt]
  refine (Fin.sum_univ_add (a := 64) (b := 64) _).trans ?_
  refine (congrArg₂ (· + ·) (Finset.sum_congr rfl fun d _ => ?_) (Finset.sum_eq_zero fun d _ => ?_)).trans (add_zero _)
  · exact (congrArg (fun c => Scalar.select c _ _) (if_pos d.isLt)).trans rfl
  · exact (congrArg (fun c => Scalar.select c _ _) (if_neg (by simp))).trans rfl

/-- A sum over a pair of heads' 128 lanes that keeps the second head's 64. -/
theorem sum_second (f : Fin 128 → EReal) :
    ∑ d : Fin 128, Scalar.select (IntOp.xori (IntOp.cmpi .slt (BitVec.ofNat 32 d.val) 64#32) 1#1) (f d) 0
      = ∑ d : Fin 64, f ⟨64 + d.val, by omega⟩ := by
  simp only [lane_ge]
  refine (Fin.sum_univ_add (a := 64) (b := 64) _).trans ?_
  refine (congrArg₂ (· + ·) (Finset.sum_eq_zero fun d _ => ?_) (Finset.sum_congr rfl fun d _ => ?_)).trans (zero_add _)
  · exact (congrArg (fun c => Scalar.select c _ _) (if_pos d.isLt)).trans rfl
  · exact (congrArg (fun c => Scalar.select c _ _) (if_neg (by simp))).trans rfl

/-- The stored tile read at a query and a lane of the first head. -/
theorem tile_first (q : FVec Ideal S1x256x128 .bf16) (kw vw : FVec Ideal S1x768x128 .bf16) (kc vc : FVec Ideal S1x512x128 .bf16)
    (b0 b1 : FVec Ideal S1x1x256x768 .f32) (i : Fin 256) (l : Fin 128) (hl : l.val < 64) :
    tile q kw vw kc vc b0 b1 (ix3 0 i l) =
      soft (fun j : Fin 768 => ∑ d : Fin 64, q (ix3 0 i ⟨d.val, by omega⟩) * eighth * kw (ix3 0 j ⟨d.val, by omega⟩) + b0 (ix4 0 0 i j))
        (fun j : Fin 512 => ∑ d : Fin 64, q (ix3 0 i ⟨d.val, by omega⟩) * eighth * kc (ix3 0 j ⟨d.val, by omega⟩))
        (fun j => vw (ix3 0 j l)) (fun j => vc (ix3 0 j l)) := by
  pointwise [tile, k1_pay13, k1_pay2, k1_pay3, k1_pay4, k1_pay5, k1_pay6, k1_pay7, k1_pay8, k1_pay9, k1_pay10, k1_pay11, k1_pay12]
  rw [lane_lt, if_pos hl]
  simp only [sum_first]
  rfl

/-- The stored tile read at a query and a lane of the second head. -/
theorem tile_second (q : FVec Ideal S1x256x128 .bf16) (kw vw : FVec Ideal S1x768x128 .bf16) (kc vc : FVec Ideal S1x512x128 .bf16)
    (b0 b1 : FVec Ideal S1x1x256x768 .f32) (i : Fin 256) (l : Fin 128) (hl : ¬ l.val < 64) :
    tile q kw vw kc vc b0 b1 (ix3 0 i l) =
      soft (fun j : Fin 768 => ∑ d : Fin 64, q (ix3 0 i ⟨64 + d.val, by omega⟩) * eighth * kw (ix3 0 j ⟨64 + d.val, by omega⟩) + b1 (ix4 0 0 i j))
        (fun j : Fin 512 => ∑ d : Fin 64, q (ix3 0 i ⟨64 + d.val, by omega⟩) * eighth * kc (ix3 0 j ⟨64 + d.val, by omega⟩))
        (fun j => vw (ix3 0 j l)) (fun j => vc (ix3 0 j l)) := by
  pointwise [tile, k1_pay13, k1_pay2, k1_pay3, k1_pay4, k1_pay5, k1_pay6, k1_pay7, k1_pay8, k1_pay9, k1_pay10, k1_pay11, k1_pay12]
  rw [lane_lt, if_neg hl]
  simp only [sum_second]
  rfl

end Cert.KernelIdeal.Attn
-- ==== Proof.Block.lean ====
module
public import proofs.«01_k».proof.Proof.Gen.KernelIdeal.Frame
public import proofs.«01_k».proof.Proof.Attn
public import Idealize.ShloMosaic.Lib.Pipeline.Value
@[expose] public section
set_option maxRecDepth 16384
noncomputable section
namespace Cert.KernelIdeal.Attn
open Idealize.ShloMosaic Cert.KernelIdeal Cert.KernelIdeal.Gen
open scoped BigOperators

/-! # What the attention kernel leaves in one output block: 1024 queries of four heads -/

/-- The first grid row of keys that the group `g` of four query rows loads. -/
def key0 (g : ℕ) : ℕ := min 52 (4 * g - 4)

theorem key0_le (g : ℕ) : key0 g ≤ 52 := Nat.min_le_left _ _

/-- The bias table's class of the group `g`: the first group, an inner one, the last. -/
def cls (g : ℕ) : ℕ := if g = 0 then 0 else if g = 15 then 2 else 1

theorem cls_lt (g : ℕ) : cls g < 3 := by unfold cls; split_ifs <;> omega

/-- The output block's element at query `n` (of the block's 1024) and column `l` (of four heads of 64), from the blocks
    of the inputs; `r` numbers the block's query rows. -/
def blockAt (r : ℕ) (q : FVec Ideal S1x1024x256 .bf16) (k v : FVec Ideal S1x4096x256 .bf16) (kc vc : FVec Ideal S1x512x256 .bf16)
    (b : FVec Ideal S3x4x256x768 .f32) (n : Fin 1024) (l : Fin 256) : EReal :=
  soft
    (fun j : Fin 768 =>
      ∑ d : Fin 64, q (ix3 0 n ⟨64 * (l.val / 64) + d.val, by omega⟩) * eighth
          * k (ix3 0 ⟨64 * key0 (4 * r + n.val / 256) + j.val, by have := key0_le (4 * r + n.val / 256); omega⟩
              ⟨64 * (l.val / 64) + d.val, by omega⟩)
        + b (ix4 ⟨cls (4 * r + n.val / 256), cls_lt _⟩ ⟨l.val / 64, by omega⟩ ⟨n.val % 256, by omega⟩ j))
    (fun j : Fin 512 =>
      ∑ d : Fin 64, q (ix3 0 n ⟨64 * (l.val / 64) + d.val, by omega⟩) * eighth
          * kc (ix3 0 j ⟨64 * (l.val / 64) + d.val, by omega⟩))
    (fun j => v (ix3 0 ⟨64 * key0 (4 * r + n.val / 256) + j.val, by have := key0_le (4 * r + n.val / 256); omega⟩ l))
    (fun j => vc (ix3 0 j l))

/-- The whole output block. -/
def blockOut (r : ℕ) (q : FVec Ideal S1x1024x256 .bf16) (k v : FVec Ideal S1x4096x256 .bf16) (kc vc : FVec Ideal S1x512x256 .bf16)
    (b : FVec Ideal S3x4x256x768 .f32) : S1x1024x256.Idx → EReal :=
  fun y => blockAt r q k v kc vc b (y 1) (y 2)

/-- A unit-stride rectangle places an index at offset plus index. -/
theorem idx_unit_val {s : Shape} (off size : Fin s.rank → ℕ) (inb) (x : (Rect.unit off size inb).shape.Idx) (a : Fin s.rank) :
    ((Rect.unit off size inb).idx x a : ℕ) = off a + x a :=
  congrArg (off a + ·) (Nat.one_mul _)

theorem soft_congr {n k : ℕ} {s s' : Fin n → EReal} {c c' : Fin k → EReal} {v v' : Fin n → EReal} {w w' : Fin k → EReal}
    (hs : ∀ j, s j = s' j) (hc : ∀ j, c j = c' j) (hv : ∀ j, v j = v' j) (hw : ∀ j, w j = w' j) :
    soft s c v w = soft s' c' v' w' := by
  rw [funext hs, funext hc, funext hv, funext hw]

/-- A load of part of a rank-three block, at an index with the coordinates offset plus index. -/
theorem ld3 {α β γ a b c : ℕ} (X : FVec Ideal ⟨3, ![α, β, γ]⟩ .bf16) (off : Fin 3 → ℕ) (inb)
    (x : Fin a) (y : Fin b) (z : Fin c) (x' : Fin α) (y' : Fin β) (z' : Fin γ)
    (h0 : x'.val = off 0 + x.val) (h1 : y'.val = off 1 + y.val) (h2 : z'.val = off 2 + z.val) :
    View.ld (Val := Elt Ideal) (e' := .bf16) X (Rect.unit (s := ⟨3, ![α, β, γ]⟩) off ![a, b, c] inb) (ix3 x y z) = X (ix3 x' y' z') :=
  congrArg X (funext fun d => Fin.ext ((idx_unit_val off _ inb _ d).trans (by
    match d with | ⟨0, _⟩ => exact h0.symm | ⟨1, _⟩ => exact h1.symm | ⟨2, _⟩ => exact h2.symm)))

/-- A load of part of a rank-four block, likewise. -/
theorem ld4 {α β γ δ a b c d : ℕ} (X : FVec Ideal ⟨4, ![α, β, γ, δ]⟩ .f32) (off : Fin 4 → ℕ) (inb)
    (x : Fin a) (y : Fin b) (z : Fin c) (w : Fin d) (x' : Fin α) (y' : Fin β) (z' : Fin γ) (w' : Fin δ)
    (h0 : x'.val = off 0 + x.val) (h1 : y'.val = off 1 + y.val) (h2 : z'.val = off 2 + z.val) (h3 : w'.val = off 3 + w.val) :
    View.ld (Val := Elt Ideal) (e' := .f32) X (Rect.unit (s := ⟨4, ![α, β, γ, δ]⟩) off ![a, b, c, d] inb) (ix4 x y z w) = X (ix4 x' y' z' w') :=
  congrArg X (funext fun e => Fin.ext ((idx_unit_val off _ inb _ e).trans (by
    match e with | ⟨0, _⟩ => exact h0.symm | ⟨1, _⟩ => exact h1.symm | ⟨2, _⟩ => exact h2.symm | ⟨3, _⟩ => exact h3.symm)))

/-- A tile computed from the parts of the blocks it loads is that part of the output block: `gi` numbers the tile's query
    group within the block, `pp` its pair of heads. -/
theorem tile_blockAt (r : ℕ) (q : FVec Ideal S1x1024x256 .bf16) (k v : FVec Ideal S1x4096x256 .bf16)
    (kc vc : FVec Ideal S1x512x256 .bf16) (b : FVec Ideal S3x4x256x768 .f32)
    (gi pp : ℕ) (hg : gi < 4) (hp : pp < 2) {oq ok oc : Fin 3 → ℕ} {ob0 ob1 : Fin 4 → ℕ} {iq ik ik' ic ic' ib0 ib1}
    (hq : oq = ![0, 256 * gi, 128 * pp]) (hk : ok = ![0, 64 * key0 (4 * r + gi), 128 * pp]) (hc : oc = ![0, 0, 128 * pp])
    (hb0 : ob0 = ![cls (4 * r + gi), 2 * pp, 0, 0]) (hb1 : ob1 = ![cls (4 * r + gi), 2 * pp + 1, 0, 0])
    (x : S1x256x128.Idx) (y : S1x1024x256.Idx) (hy1 : (y 1).val = 256 * gi + (x 1).val) (hy2 : (y 2).val = 128 * pp + (x 2).val) :
    tile (View.ld (Val := Elt Ideal) (e' := .bf16) q (Rect.unit (s := S1x1024x256) oq S1x256x128.size iq))
        (View.ld (Val := Elt Ideal) (e' := .bf16) k (Rect.unit (s := S1x4096x256) ok S1x768x128.size ik))
        (View.ld (Val := Elt Ideal) (e' := .bf16) v (Rect.unit (s := S1x4096x256) ok S1x768x128.size ik'))
        (View.ld (Val := Elt Ideal) (e' := .bf16) kc (Rect.unit (s := S1x512x256) oc S1x512x128.size ic))
        (View.ld (Val := Elt Ideal) (e' := .bf16) vc (Rect.unit (s := S1x512x256) oc S1x512x128.size ic'))
        (View.ld (Val := Elt Ideal) (e' := .f32) b (Rect.unit (s := S3x4x256x768) ob0 S1x1x256x768.size ib0))
        (View.ld (Val := Elt Ideal) (e' := .f32) b (Rect.unit (s := S3x4x256x768) ob1 S1x1x256x768.size ib1)) x
      = blockOut r q k v kc vc b y := by
  subst hq hk hc hb0 hb1
  obtain ⟨i, l, rfl⟩ : ∃ (i : Fin 256) (l : Fin 128), x = ix3 0 i l := ⟨x 1, x 2, by
    funext a; match a with | ⟨0, _⟩ => exact Subsingleton.elim (α := Fin 1) _ _ | ⟨1, _⟩ => rfl | ⟨2, _⟩ => rfl⟩
  obtain ⟨n, l', rfl⟩ : ∃ (n : Fin 1024) (l' : Fin 256), y = ix3 0 n l' := ⟨y 1, y 2, by
    funext a; match a with | ⟨0, _⟩ => exact Subsingleton.elim (α := Fin 1) _ _ | ⟨1, _⟩ => rfl | ⟨2, _⟩ => rfl⟩
  obtain ⟨n, hn⟩ := n; obtain ⟨l', hl'⟩ := l'; obtain ⟨i, hi⟩ := i; obtain ⟨l, hl⟩ := l
  change n = 256 * gi + i at hy1; change l' = 128 * pp + l at hy2
  subst hy1 hy2
  have e1 : (256 * gi + i) / 256 = gi := by omega
  have e2 : (256 * gi + i) % 256 = i := by omega
  show _ = blockAt r q k v kc vc b ⟨256 * gi + i, hn⟩ ⟨128 * pp + l, hl'⟩
  have go : ∀ (e hh : ℕ) (he : e < 2), (128 * pp + l) / 64 = 2 * pp + e → ∀ (ob : Fin 4 → ℕ) (ib), ob = ![cls (4 * r + gi), 2 * pp + e, 0, 0] →
      hh = 64 * e → ∀ hb : ∀ d : Fin 64, hh + d.val < 128,
      soft (fun j : Fin 768 => ∑ d : Fin 64,
            View.ld (Val := Elt Ideal) (e' := .bf16) q (Rect.unit (s := S1x1024x256) ![0, 256 * gi, 128 * pp] S1x256x128.size iq) (ix3 0 ⟨i, hi⟩ ⟨hh + d.val, hb d⟩) * eighth
              * View.ld (Val := Elt Ideal) (e' := .bf16) k (Rect.unit (s := S1x4096x256) ![0, 64 * key0 (4 * r + gi), 128 * pp] S1x768x128.size ik) (ix3 0 j ⟨hh + d.val, hb d⟩)
            + View.ld (Val := Elt Ideal) (e' := .f32) b (Rect.unit (s := S3x4x256x768) ob S1x1x256x768.size ib) (ix4 0 0 ⟨i, hi⟩ j))
          (fun j : Fin 512 => ∑ d : Fin 64,
            View.ld (Val := Elt Ideal) (e' := .bf16) q (Rect.unit (s := S1x1024x256) ![0, 256 * gi, 128 * pp] S1x256x128.size iq) (ix3 0 ⟨i, hi⟩ ⟨hh + d.val, hb d⟩) * eighth
              * View.ld (Val := Elt Ideal) (e' := .bf16) kc (Rect.unit (s := S1x512x256) ![0, 0, 128 * pp] S1x512x128.size ic) (ix3 0 j ⟨hh + d.val, hb d⟩))
          (fun j => View.ld (Val := Elt Ideal) (e' := .bf16) v (Rect.unit (s := S1x4096x256) ![0, 64 * key0 (4 * r + gi), 128 * pp] S1x768x128.size ik') (ix3 0 j ⟨l, hl⟩))
          (fun j => View.ld (Val := Elt Ideal) (e' := .bf16) vc (Rect.unit (s := S1x512x256) ![0, 0, 128 * pp] S1x512x128.size ic') (ix3 0 j ⟨l, hl⟩))
        = blockAt r q k v kc vc b ⟨256 * gi + i, hn⟩ ⟨128 * pp + l, hl'⟩ := by
    intro e hh he e3 ob ib hob hhe hb
    subst hob hhe
    unfold blockAt
    refine soft_congr (fun j => ?_) (fun j => ?_) (fun j => ?_) (fun j => ?_)
    · refine congrArg₂ (· + ·) (Finset.sum_congr rfl fun d _ => congrArg₂ (· * ·) (congrArg (· * eighth) ?_) ?_) ?_
      · exact ld3 _ _ _ _ _ _ _ _ _ rfl rfl (by show _ = 128 * pp + (64 * e + d.val); simp only [e3]; omega)
      · exact ld3 _ _ _ _ _ _ _ _ _ rfl (by show _ = 64 * key0 (4 * r + gi) + j.val; simp only [e1]) (by show _ = 128 * pp + (64 * e + d.val); simp only [e3]; omega)
      · exact ld4 _ _ _ _ _ _ _ _ _ _ _ (by show cls _ = cls _ + 0; simp only [e1, add_zero]) (by show _ = 2 * pp + e + 0; simp only [e3]; omega)
          (by show _ = 0 + i; simp only [e2]; omega) (by show _ = 0 + j.val; omega)
    · refine Finset.sum_congr rfl fun d _ => congrArg₂ (· * ·) (congrArg (· * eighth) ?_) ?_
      · exact ld3 _ _ _ _ _ _ _ _ _ rfl rfl (by show _ = 128 * pp + (64 * e + d.val); simp only [e3]; omega)
      · exact ld3 _ _ _ _ _ _ _ _ _ rfl (by show _ = 0 + j.val; omega) (by show _ = 128 * pp + (64 * e + d.val); simp only [e3]; omega)
    · exact ld3 _ _ _ _ _ _ _ _ _ rfl (by show _ = 64 * key0 (4 * r + gi) + j.val; simp only [e1]) rfl
    · exact ld3 _ _ _ _ _ _ _ _ _ rfl (by show _ = 0 + j.val; omega) rfl
  by_cases h : l < 64
  · refine (tile_first _ _ _ _ _ _ _ _ _ h).trans ?_
    have := go 0 0 (by omega) (by omega) _ ib0 rfl rfl (fun d => by omega)
    simpa only [Nat.zero_add] using this
  · refine (tile_second _ _ _ _ _ _ _ _ _ h).trans ?_
    exact go 1 64 (by omega) (by omega) _ ib1 rfl rfl (fun d => by omega)

/-- The key rows' offset the kernel computes for the first pair of heads, for query group `gi` of the block. -/
theorem off1_eq (i : grid1.Coords) (gi : Fin 4) :
    k1_off1 i (BitVec.ofNat 32 gi.val) = ![0, 64 * key0 (4 * (i 2).val + gi.val), 0] := by
  have h : ∀ (r : Fin 4) (g : Fin 4), (Scalar.indexCast (Scalar.muli (Scalar.minsi 52#32 (Scalar.maxsi 0#32
      (Scalar.subi (Scalar.muli (Scalar.addi (Scalar.muli (BitVec.ofNat 32 r.val) 4#32) (BitVec.ofNat 32 g.val)) 4#32) 4#32))) 64#32)).toNat
      = 64 * key0 (4 * r.val + g.val) := by decide
  exact congrArg (fun n => ![0, n, 0]) (h (i 2) gi)

/-- The same for the second pair of heads. -/
theorem off4_eq (i : grid1.Coords) (gi : Fin 4) :
    k1_off4 i (BitVec.ofNat 32 gi.val) = ![0, 64 * key0 (4 * (i 2).val + gi.val), 128] :=
  congrArg (fun f : Fin 3 → ℕ => ![0, f 1, 128]) (off1_eq i gi)

/-- The bias class the kernel computes for query group `gi` of the block. -/
theorem off2_eq (i : grid1.Coords) (gi : Fin 4) :
    k1_off2 i (BitVec.ofNat 32 gi.val) = ![cls (4 * (i 2).val + gi.val), 0, 0, 0] := by
  have h : ∀ (r : Fin 4) (g : Fin 4), (Scalar.indexCast (Scalar.select (Scalar.cmpi .eq (Scalar.addi (Scalar.muli (BitVec.ofNat 32 r.val) 4#32) (BitVec.ofNat 32 g.val)) 0#32) 0#32
      (Scalar.select (Scalar.cmpi .eq (Scalar.addi (Scalar.muli (BitVec.ofNat 32 r.val) 4#32) (BitVec.ofNat 32 g.val)) 15#32) 2#32 1#32))).toNat
      = cls (4 * r.val + g.val) := by decide
  exact congrArg (fun n => ![n, 0, 0, 0]) (h (i 2) gi)

theorem off3_eq (i : grid1.Coords) (gi : Fin 4) :
    k1_off3 i (BitVec.ofNat 32 gi.val) = ![cls (4 * (i 2).val + gi.val), 1, 0, 0] :=
  congrArg (fun f : Fin 4 → ℕ => ![f 0, 1, 0, 0]) (off2_eq i gi)

theorem off5_eq (i : grid1.Coords) (gi : Fin 4) :
    k1_off5 i (BitVec.ofNat 32 gi.val) = ![cls (4 * (i 2).val + gi.val), 2, 0, 0] :=
  congrArg (fun f : Fin 4 → ℕ => ![f 0, 2, 0, 0]) (off2_eq i gi)

theorem off6_eq (i : grid1.Coords) (gi : Fin 4) :
    k1_off6 i (BitVec.ofNat 32 gi.val) = ![cls (4 * (i 2).val + gi.val), 3, 0, 0] :=
  congrArg (fun f : Fin 4 → ℕ => ![f 0, 3, 0, 0]) (off2_eq i gi)

/-- What one grid point leaves in the output's buffer is the output block of its input blocks. -/
theorem out_eq (c : Dev nD) (i : grid1.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S3x4x256x768 .f32) (harg8 : arg8.IsWhole) (arg9 : Memref sig .tc .vmem S1x1024x256 .bf16) (harg9 : arg9.IsWhole)
    (x0 : Vec Ideal S1x1024x256 .bf16) (x1 : Vec Ideal S1x4096x256 .bf16) (x2 : Vec Ideal S1x4096x256 .bf16) (x3 : Vec Ideal S1x512x256 .bf16) (x4 : Vec Ideal S1x512x256 .bf16) (x5 : Vec Ideal S3x4x256x768 .f32) :
    out1_A_6 (F := Ideal) c i arg3 harg3 arg4 harg4 arg5 harg5 arg6 harg6 arg7 harg7 arg8 harg8 arg9 harg9 x0 x1 x2 x3 x4 x5
      = blockOut (i 2).val x0 x1 x2 x3 x4 x5 := by
  unfold out1_A_6
  rw [View.read_writes_eq_canon _ _ _ (cover1_A_6 c i arg3 harg3 arg4 harg4 arg5 harg5 arg6 harg6 arg7 harg7 arg8 harg8 arg9 harg9 x0 x1 x2 x3 x4 x5)]
  funext y
  refine View.canon_apply_of_pieces (blockOut (i 2).val x0 x1 x2 x3 x4 x5) _ ?_ y (cover1_A_6 c i arg3 harg3 arg4 harg4 arg5 harg5 arg6 harg6 arg7 harg7 arg8 harg8 arg9 harg9 x0 x1 x2 x3 x4 x5 y)
  unfold kernelRun1_A
  dsimp only
  sl_unfold_run_names
  simp only [View.readAt_eq_ld, Memref.IsWhole.read_unread]
  intro p hp
  simp only [List.mem_cons, List.not_mem_nil, or_false] at hp
  rcases hp with rfl | rfl | rfl | rfl | rfl | rfl | rfl | rfl <;> intro x
  · exact tile_blockAt _ x0 x1 x2 x3 x4 x5 3 1 (by decide) (by decide) rfl (off4_eq i 3) rfl (off5_eq i 3) (off6_eq i 3) x _ (congrArg (_ + ·) (Nat.one_mul _)) (congrArg (_ + ·) (Nat.one_mul _))
  · exact tile_blockAt _ x0 x1 x2 x3 x4 x5 3 0 (by decide) (by decide) rfl (off1_eq i 3) rfl (off2_eq i 3) (off3_eq i 3) x _ (congrArg (_ + ·) (Nat.one_mul _)) (congrArg (_ + ·) (Nat.one_mul _))
  · exact tile_blockAt _ x0 x1 x2 x3 x4 x5 2 1 (by decide) (by decide) rfl (off4_eq i 2) rfl (off5_eq i 2) (off6_eq i 2) x _ (congrArg (_ + ·) (Nat.one_mul _)) (congrArg (_ + ·) (Nat.one_mul _))
  · exact tile_blockAt _ x0 x1 x2 x3 x4 x5 2 0 (by decide) (by decide) rfl (off1_eq i 2) rfl (off2_eq i 2) (off3_eq i 2) x _ (congrArg (_ + ·) (Nat.one_mul _)) (congrArg (_ + ·) (Nat.one_mul _))
  · exact tile_blockAt _ x0 x1 x2 x3 x4 x5 1 1 (by decide) (by decide) rfl (off4_eq i 1) rfl (off5_eq i 1) (off6_eq i 1) x _ (congrArg (_ + ·) (Nat.one_mul _)) (congrArg (_ + ·) (Nat.one_mul _))
  · exact tile_blockAt _ x0 x1 x2 x3 x4 x5 1 0 (by decide) (by decide) rfl (off1_eq i 1) rfl (off2_eq i 1) (off3_eq i 1) x _ (congrArg (_ + ·) (Nat.one_mul _)) (congrArg (_ + ·) (Nat.one_mul _))
  · exact tile_blockAt _ x0 x1 x2 x3 x4 x5 0 1 (by decide) (by decide) rfl (off4_eq i 0) rfl (off5_eq i 0) (off6_eq i 0) x _ (congrArg (_ + ·) (Nat.one_mul _)) (congrArg (_ + ·) (Nat.one_mul _))
  · exact tile_blockAt _ x0 x1 x2 x3 x4 x5 0 0 (by decide) (by decide) rfl (off1_eq i 0) rfl (off2_eq i 0) (off3_eq i 0) x _ (congrArg (_ + ·) (Nat.one_mul _)) (congrArg (_ + ·) (Nat.one_mul _))

end Cert.KernelIdeal.Attn
-- ==== Proof.Bias.lean ====
module
public import proofs.«01_k».proof.Proof.Block
@[expose] public section
set_option maxRecDepth 16384
noncomputable section
namespace Cert.KernelIdeal.Bias
open Idealize.ShloMosaic Cert.KernelIdeal Cert.KernelIdeal.Gen Cert.KernelIdeal.Attn
open scoped BigOperators

/-! # The bias table: one head's masked relative-position biases for the three classes of query groups -/

/-- The group of four query rows that stands for a class. -/
def grp (c : ℕ) : ℕ := if c = 0 then 0 else if c = 1 then 1 else 15

/-- The first row of the eight-row window of query row `r`. -/
def row0 (r : ℕ) : ℕ := min 56 (r - 4)

/-- The first column of the sixteen-column window of query column `q`. -/
def col0 (q : ℕ) : ℕ := min 48 (q - 8)

/-- The row of the bias table that query row `rl` of the class's group uses for key row `kl` of the loaded ones, if that
    key row is in the window. -/
def drow (c rl kl : ℕ) : Option (Fin 15) :=
  if row0 (4 * grp c + rl) ≤ key0 (grp c) + kl ∧ key0 (grp c) + kl < row0 (4 * grp c + rl) + 8 then
    some (Fin.ofNat 15 (key0 (grp c) + kl + 7 - (4 * grp c + rl)))
  else none

/-- Entry `n` of the flat bias table. -/
def wd (x0 : Vec Ideal S7440 .f32) (n : ℕ) : EReal := if h : n < 7440 then x0 (ix1 ⟨n, h⟩) else 0

/-- The word the kernel reads for row `a` and column difference `jj` of the table. -/
def word (i : grid0.Coords) (x0 : Vec Ideal S7440 .f32) (a : Fin 15) (jj : Fin 31) : EReal :=
  View.ld (Val := Elt Ideal) (e' := .f32) x0
    (Rect.unit (s := S7440) (k0_off1 i (BitVec.ofNat 32 (31 * a.val)) (BitVec.ofNat 32 jj.val)) S1.size (k0_off1_inb i a jj))
    (Shape.Idx.first (Nat.lt_of_lt_of_eq Nat.one_pos (Eq.symm numel1_S1)))

/-- The tile that has, at each position, the entry `f` of the position's column difference: built one difference at a time. -/
def chain (f : Fin 31 → EReal) : (n : ℕ) → n ≤ 31 → FVec Ideal S64x128 .f32
  | 0, _ => broadcast S64x128 (Scalar.ofBits (F := Ideal) .f32 0x00000000#32)
  | n + 1, h => select (cmpi .eq k0_pay6 (broadcast S64x128 (BitVec.ofNat 32 n))) (broadcast S64x128 (f ⟨n, h⟩))
      (chain f n (Nat.le_of_succ_le h))

/-- The tile of one query row against two key rows that both use row `a` of the table, or none. -/
def rowTile (i : grid0.Coords) (x0 : Vec Ideal S7440 .f32) : Option (Fin 15) → FVec Ideal S64x128 .f32
  | none => k0_pay7
  | some a => select k0_pay5 (chain (word i x0 a) 31 le_rfl) k0_pay7

/-- The tile of one query row against two key rows. -/
def pairTile (i : grid0.Coords) (x0 : Vec Ideal S7440 .f32) (a b : Option (Fin 15)) : FVec Ideal S64x128 .f32 :=
  if a = b then rowTile i x0 a
  else select (cmpi .slt (iota .tc S64x128 32 [1] iota_S64x128_d1_w32) (broadcast S64x128 64#32)) (rowTile i x0 a) (rowTile i x0 b)

theorem inb (c rl m : ℕ) (hc : c < 3) (hr : rl < 4) (hm : m < 6) :
    ∀ a, (![c, 0, 64 * rl, 128 * m] : Fin 4 → ℕ) a + ![1, 1, 64, 128] a ≤ S3x1x256x768.size a := by
  intro a
  match a with
  | ⟨0, _⟩ => show c + 1 ≤ 3; omega
  | ⟨1, _⟩ => show 0 + 1 ≤ 1; omega
  | ⟨2, _⟩ => show 64 * rl + 64 ≤ 256; omega
  | ⟨3, _⟩ => show 128 * m + 128 ≤ 768; omega

/-- The store number `n` of one head's bias block. -/
def piece (i : grid0.Coords) (x0 : Vec Ideal S7440 .f32) (n : Fin 72) : View.Piece (Elt Ideal) S3x1x256x768 .f32 :=
  ⟨Rect.unit (s := S3x1x256x768) ![n.val / 24, 0, 64 * (n.val / 6 % 4), 128 * (n.val % 6)] ![1, 1, 64, 128]
      (inb _ _ _ (by omega) (by omega) (by omega)),
    shapeCast S1x1x64x128 (pairTile i x0 (drow (n.val / 24) (n.val / 6 % 4) (2 * (n.val % 6)))
      (drow (n.val / 24) (n.val / 6 % 4) (2 * (n.val % 6) + 1))) shapeCasts_S64x128_S1x1x64x128⟩

/-- The stores of one head's bias block, last first. -/
theorem pieces_eq (c : Dev nD) (i : grid0.Coords) (arg1 : Memref sig .tc .smem S7440 .f32) (harg1 : arg1.IsWhole) (arg2 : Memref sig .tc .vmem S3x1x256x768 .f32) (harg2 : arg2.IsWhole)
    (x0 : Vec Ideal S7440 .f32) :
    (kernelRun0_A (F := Ideal) c i arg1 harg1 arg2 harg2 x0).1 = List.ofFn fun k : Fin 72 => piece i x0 k.rev := by
  unfold kernelRun0_A
  dsimp only
  sl_unfold_run_names
  simp only [View.readAt_eq_ld, Memref.IsWhole.read_unread]
  sl_kernel_rfl

/-! ## The stored tiles read at an index -/

/-- The masked-out value: zero minus the named constant. -/
theorem pay7_apply (p : S64x128.Idx) : k0_pay7 (F := Ideal) p = ⊥ := by
  pointwise [k0_pay7]
  show (0 : EReal) - ⊤ = ⊥
  rfl

/-- The column window of a query column, as the kernel tests it. -/
theorem pay5_apply (q : Fin 64) (l : Fin 128) :
    k0_pay5 (ix2 q l) = if col0 q.val ≤ l.val % 64 ∧ l.val % 64 < col0 q.val + 16 then 1#1 else 0#1 := by
  pointwise [k0_pay5, k0_pay4]
  revert q l
  decide +kernel

/-- The column difference, as the kernel computes it, inside the window. -/
theorem pay6_apply (q : Fin 64) (l : Fin 128) (h : col0 q.val ≤ l.val % 64 ∧ l.val % 64 < col0 q.val + 16) :
    k0_pay6 (ix2 q l) = BitVec.ofNat 32 (l.val % 64 + 15 - q.val) := by
  pointwise [k0_pay6, k0_pay4]
  revert q l
  decide +kernel

/-- The built tile has, where the column difference is `D`, the entry `D`. -/
theorem chain_apply (f : Fin 31 → EReal) (p : S64x128.Idx) (D : Fin 31) (hp : k0_pay6 p = BitVec.ofNat 32 D.val) :
    ∀ (n : ℕ) (hn : n ≤ 31), D.val < n → chain f n hn p = f D
  | n + 1, hn, hD => by
    show Scalar.select (IntOp.cmpi .eq (k0_pay6 p) (BitVec.ofNat 32 n)) (f ⟨n, hn⟩) (chain f n (Nat.le_of_succ_le hn) p) = f D
    rw [hp]
    have hc : ∀ a b : Fin 31, IntOp.cmpi .eq (BitVec.ofNat 32 a.val) (BitVec.ofNat 32 b.val) = if a = b then 1#1 else 0#1 := by decide
    rw [hc D ⟨n, hn⟩]
    by_cases h : D = ⟨n, hn⟩
    · rw [if_pos h, h]; rfl
    · rw [if_neg h]
      refine Eq.trans rfl (chain_apply f p D hp n _ ?_)
      have : D.val ≠ n := fun e => h (Fin.ext e)
      omega

/-- Entry `n` of the flat table. -/
def tab (x0 : Vec Ideal S7440 .f32) (n : ℕ) : EReal := if h : n < 7440 then x0 (ix1 ⟨n, h⟩) else 0

/-- The address of the table entry the kernel reads. -/
theorem off_eq (h : Fin 16) (a : Fin 15) (jj : Fin 31) :
    (Scalar.indexCast (Scalar.addi (Scalar.addi (Scalar.muli (BitVec.ofNat 32 h.val) 465#32) (BitVec.ofNat 32 (31 * a.val)))
      (BitVec.ofNat 32 jj.val))).toNat = 465 * h.val + 31 * a.val + jj.val := by
  revert h a jj
  decide +kernel

theorem word_eq (i : grid0.Coords) (x0 : Vec Ideal S7440 .f32) (a : Fin 15) (jj : Fin 31) :
    word i x0 a jj = tab x0 (465 * (i 0).val + 31 * a.val + jj.val) := by
  have h0 : (i 0).val < 16 := (i 0).isLt
  have hlt : 465 * (i 0).val + 31 * a.val + jj.val < 7440 := by omega
  unfold tab
  rw [dif_pos hlt]
  refine congrArg x0 (funext fun d => Fin.ext ?_)
  match d with
  | ⟨0, _⟩ => exact (congrArg (_ + ·) (Nat.one_mul _)).trans (off_eq (i 0) a jj)

/-- One entry of a head's bias block: class `c`, query row `rl` and column `q`, loaded key row `kl` and column `k`. -/
def biasAt (h : ℕ) (x0 : Vec Ideal S7440 .f32) (c rl q kl k : ℕ) : EReal :=
  match drow c rl kl with
  | none => ⊥
  | some a => if col0 q ≤ k ∧ k < col0 q + 16 then tab x0 (465 * h + 31 * a.val + (k + 15 - q)) else ⊥

theorem rowTile_apply (i : grid0.Coords) (x0 : Vec Ideal S7440 .f32) (c rl kl : ℕ) (q : Fin 64) (l : Fin 128) :
    rowTile i x0 (drow c rl kl) (ix2 q l) = biasAt (i 0).val x0 c rl q.val kl (l.val % 64) := by
  unfold biasAt
  cases drow c rl kl with
  | none => exact pay7_apply _
  | some a =>
    show Scalar.select (k0_pay5 (ix2 q l)) (chain (word i x0 a) 31 le_rfl (ix2 q l)) (k0_pay7 (ix2 q l)) = _
    rw [pay5_apply, pay7_apply]
    by_cases h : col0 q.val ≤ l.val % 64 ∧ l.val % 64 < col0 q.val + 16
    · rw [if_pos h]
      have hD : l.val % 64 + 15 - q.val < 31 := by unfold col0 at h; omega
      show chain (word i x0 a) 31 le_rfl (ix2 q l) = ite _ _ _
      rw [chain_apply (word i x0 a) (ix2 q l) ⟨_, hD⟩ (pay6_apply q l h) 31 le_rfl hD, word_eq, if_pos h]
    · rw [if_neg h]
      show _ = ite _ _ _
      rw [if_neg h]; rfl

theorem pairTile_apply (i : grid0.Coords) (x0 : Vec Ideal S7440 .f32) (c rl m : ℕ) (q : Fin 64) (l : Fin 128) :
    pairTile i x0 (drow c rl (2 * m)) (drow c rl (2 * m + 1)) (ix2 q l)
      = biasAt (i 0).val x0 c rl q.val (2 * m + l.val / 64) (l.val % 64) := by
  unfold pairTile
  split_ifs with h
  · rw [rowTile_apply]
    by_cases hl : l.val < 64
    · rw [show l.val / 64 = 0 by omega]; rfl
    · rw [show l.val / 64 = 1 by omega]; unfold biasAt; rw [h]
  · rw [show (select (cmpi .slt (iota .tc S64x128 32 [1] iota_S64x128_d1_w32) (broadcast S64x128 64#32)) (rowTile i x0 (drow c rl (2 * m))) (rowTile i x0 (drow c rl (2 * m + 1))) : FVec Ideal S64x128 .f32) (ix2 q l)
      = Scalar.select (IntOp.cmpi .slt (BitVec.ofNat 32 l.val) 64#32) (rowTile i x0 (drow c rl (2 * m)) (ix2 q l)) (rowTile i x0 (drow c rl (2 * m + 1)) (ix2 q l)) by pointwise]
    rw [lane_lt, rowTile_apply, rowTile_apply]
    by_cases hl : l.val < 64
    · rw [if_pos hl, show l.val / 64 = 0 by omega]; rfl
    · rw [if_neg hl, show l.val / 64 = 1 by omega]; rfl

/-- One head's bias block. -/
def biasOut (h : ℕ) (x0 : Vec Ideal S7440 .f32) : S3x1x256x768.Idx → EReal :=
  fun y => biasAt h x0 (y 0).val ((y 2).val / 64) ((y 2).val % 64) ((y 3).val / 64) ((y 3).val % 64)

theorem cast_apply (T : FVec Ideal S64x128 .f32) (q : Fin 64) (l : Fin 128) :
    shapeCast S1x1x64x128 T shapeCasts_S64x128_S1x1x64x128 (ix4 0 0 q l : (⟨4, ![1, 1, 64, 128]⟩ : Shape).Idx) = T (ix2 q l) := by
  pointwise

theorem piece_apply (i : grid0.Coords) (x0 : Vec Ideal S7440 .f32) (n : Fin 72) (x : (piece i x0 n).1.shape.Idx) :
    (piece i x0 n).2 x = biasOut (i 0).val x0 ((piece i x0 n).1.emb x) := by
  obtain ⟨q, l, rfl⟩ : ∃ (q : Fin 64) (l : Fin 128), x = (ix4 0 0 q l : (⟨4, ![1, 1, 64, 128]⟩ : Shape).Idx) := ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  have e0 : ((piece i x0 n).1.emb (ix4 0 0 q l : (⟨4, ![1, 1, 64, 128]⟩ : Shape).Idx) 0).val = n.val / 24 + 1 * 0 := rfl
  have e2 : ((piece i x0 n).1.emb (ix4 0 0 q l : (⟨4, ![1, 1, 64, 128]⟩ : Shape).Idx) 2).val = 64 * (n.val / 6 % 4) + 1 * q.val := rfl
  have e3 : ((piece i x0 n).1.emb (ix4 0 0 q l : (⟨4, ![1, 1, 64, 128]⟩ : Shape).Idx) 3).val = 128 * (n.val % 6) + 1 * l.val := rfl
  refine Eq.trans (b := pairTile i x0 (drow (n.val / 24) (n.val / 6 % 4) (2 * (n.val % 6)))
      (drow (n.val / 24) (n.val / 6 % 4) (2 * (n.val % 6) + 1)) (ix2 q l)) ?_ ?_
  · exact cast_apply _ q l
  · rw [pairTile_apply]
    unfold biasOut
    rw [e0, e2, e3]
    have h1 : (64 * (n.val / 6 % 4) + 1 * q.val) / 64 = n.val / 6 % 4 := by omega
    have h2 : (64 * (n.val / 6 % 4) + 1 * q.val) % 64 = q.val := by omega
    have h3 : (128 * (n.val % 6) + 1 * l.val) / 64 = 2 * (n.val % 6) + l.val / 64 := by omega
    have h4 : (128 * (n.val % 6) + 1 * l.val) % 64 = l.val % 64 := by omega
    rw [h1, h2, h3, h4, Nat.mul_zero, Nat.add_zero]

/-- What one grid point leaves in the output's buffer: its head's bias block. -/
theorem out_eq (c : Dev nD) (i : grid0.Coords) (arg1 : Memref sig .tc .smem S7440 .f32) (harg1 : arg1.IsWhole) (arg2 : Memref sig .tc .vmem S3x1x256x768 .f32) (harg2 : arg2.IsWhole)
    (x0 : Vec Ideal S7440 .f32) :
    out0_A_1 (F := Ideal) c i arg1 harg1 arg2 harg2 x0 = biasOut (i 0).val x0 := by
  unfold out0_A_1
  rw [View.read_writes_eq_canon _ _ _ (cover0_A_1 c i arg1 harg1 arg2 harg2 x0)]
  funext y
  refine View.canon_apply_of_pieces (biasOut (i 0).val x0) _ ?_ y (cover0_A_1 c i arg1 harg1 arg2 harg2 x0 y)
  rw [pieces_eq]
  intro p hp
  obtain ⟨k, rfl⟩ := List.mem_ofFn.mp hp
  exact piece_apply i x0 _

end Cert.KernelIdeal.Bias
-- ==== Proof.Run.lean ====
module
public import proofs.«01_k».proof.Proof.Bias
public import Idealize.ShloMosaic.Lib.Pipeline.ValueKit
public import Idealize.ShloMosaic.Lib.StableHlo.Run
@[expose] public section
set_option maxRecDepth 16384
noncomputable section
namespace Cert.KernelIdeal.Run
open Idealize.ShloMosaic Idealize.ShloMosaic.TcCoe Cert.KernelIdeal Cert.KernelIdeal.Gen Cert.KernelIdeal.Attn Cert.KernelIdeal.Bias
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

/-! # The run of the two calls: the arrays they leave, from the arguments -/

/-- The bias array: 3 classes of query groups, 16 heads, 256 queries of a group, 768 loaded keys. -/
def biasArr (x0 : Vec Ideal S7440 .f32) : S3x16x256x768.Idx → EReal :=
  fun y => biasAt (y 1).val x0 (y 0).val ((y 2).val / 64) ((y 2).val % 64) ((y 3).val / 64) ((y 3).val % 64)

theorem idx0_0 : ∀ t : Fin grid0.N, win0_0.index t = ![0] := by decide +kernel
theorem idx0_1 : ∀ t : Fin grid0.N, win0_1.index t = ![0, (grid0.coords t 0).val, 0, 0] := by decide +kernel
theorem idx1_0 : ∀ t : Fin grid1.N, win1_0.index t = ![(grid1.coords t 1).val + 2, (grid1.coords t 2).val, (grid1.coords t 0).val] := by
  decide +kernel
theorem idx1_1 : ∀ t : Fin grid1.N, win1_1.index t = ![(grid1.coords t 1).val + 2, 0, (grid1.coords t 0).val] := by decide +kernel
theorem idx1_2 : ∀ t : Fin grid1.N, win1_2.index t = ![(grid1.coords t 1).val + 2, 0, (grid1.coords t 0).val] := by decide +kernel
theorem idx1_3 : ∀ t : Fin grid1.N, win1_3.index t = ![(grid1.coords t 1).val, 0, (grid1.coords t 0).val] := by decide +kernel
theorem idx1_4 : ∀ t : Fin grid1.N, win1_4.index t = ![(grid1.coords t 1).val, 0, (grid1.coords t 0).val] := by decide +kernel
theorem idx1_5 : ∀ t : Fin grid1.N, win1_5.index t = ![0, (grid1.coords t 0).val, 0, 0] := by decide +kernel
theorem idx1_6 : ∀ t : Fin grid1.N, win1_6.index t = ![(grid1.coords t 1).val, (grid1.coords t 2).val, (grid1.coords t 0).val] := by
  decide +kernel

theorem blk0 (t : Fin cfg0.N) (c : Dev nD) (V : (c : Dev nD) → (b : Ref sig .tc) → Buf (Elt Ideal) ((c : Thread nD τ).loc b)) :
    (iblk0 V c 0 t : S7440.Idx → EReal) = V c main_v7 := by
  funext y
  blk_simp [iblk0]
  blk_ext [idx0_0]

theorem region0 (V : (c : Dev nD) → (b : Ref sig .tc) → Buf (Elt Ideal) ((c : Thread nD τ).loc b)) (c : Dev nD) :
    (dat0 V c).arrAt 1 cfg0.N = biasArr (V c main_v7) := by
  refine (dat0 V c).arrAt_eq_of_covers 1 _ (by decide +kernel) fun t hf y => ?_
  blk_simp
  rw [after0_1]
  unfold outsAt0
  rw [Bias.out_eq]
  rw [blk0]
  unfold biasOut biasArr
  blk_simp [idx0_1]

/-- The attention's result from the arrays the second call reads. -/
def attnArr (q k v : FVec Ideal S10x4096x1024 .bf16) (kc vc : FVec Ideal S8x512x1024 .bf16) (b : FVec Ideal S3x16x256x768 .f32)
    (i : Fin 8) (n : Fin 4096) (l : Fin 1024) : EReal :=
  soft
    (fun j : Fin 768 =>
      ∑ d : Fin 64, q (ix3 ⟨i.val + 2, by omega⟩ n ⟨64 * (l.val / 64) + d.val, by omega⟩) * eighth
          * k (ix3 ⟨i.val + 2, by omega⟩ ⟨64 * key0 (n.val / 256) + j.val, by have := key0_le (n.val / 256); omega⟩
              ⟨64 * (l.val / 64) + d.val, by omega⟩)
        + b (ix4 ⟨cls (n.val / 256), cls_lt _⟩ ⟨l.val / 64, by omega⟩ ⟨n.val % 256, by omega⟩ j))
    (fun j : Fin 512 =>
      ∑ d : Fin 64, q (ix3 ⟨i.val + 2, by omega⟩ n ⟨64 * (l.val / 64) + d.val, by omega⟩) * eighth
          * kc (ix3 i j ⟨64 * (l.val / 64) + d.val, by omega⟩))
    (fun j => v (ix3 ⟨i.val + 2, by omega⟩ ⟨64 * key0 (n.val / 256) + j.val, by have := key0_le (n.val / 256); omega⟩ l))
    (fun j => vc (ix3 i j l))

/-- One output block is the corresponding part of the array when the input blocks are the corresponding parts of theirs. -/
theorem block_attn (r p : ℕ) (hr : r < 4) (hp : p < 4) (q : FVec Ideal S1x1024x256 .bf16) (k v : FVec Ideal S1x4096x256 .bf16)
    (kc vc : FVec Ideal S1x512x256 .bf16) (b : FVec Ideal S3x4x256x768 .f32) (Q K V : FVec Ideal S10x4096x1024 .bf16)
    (KC VC : FVec Ideal S8x512x1024 .bf16) (B : FVec Ideal S3x16x256x768 .f32) (i : Fin 8) (n : Fin 4096) (l : Fin 1024)
    (n' : Fin 1024) (l' : Fin 256) (hn : n.val = 1024 * r + n'.val) (hl : l.val = 256 * p + l'.val)
    (hq : ∀ x : Fin 256, q (ix3 0 n' x) = Q (ix3 ⟨i.val + 2, by omega⟩ n ⟨256 * p + x.val, by omega⟩))
    (hk : ∀ (j : Fin 4096) (x : Fin 256), k (ix3 0 j x) = K (ix3 ⟨i.val + 2, by omega⟩ j ⟨256 * p + x.val, by omega⟩))
    (hv : ∀ (j : Fin 4096) (x : Fin 256), v (ix3 0 j x) = V (ix3 ⟨i.val + 2, by omega⟩ j ⟨256 * p + x.val, by omega⟩))
    (hkc : ∀ (j : Fin 512) (x : Fin 256), kc (ix3 0 j x) = KC (ix3 i j ⟨256 * p + x.val, by omega⟩))
    (hvc : ∀ (j : Fin 512) (x : Fin 256), vc (ix3 0 j x) = VC (ix3 i j ⟨256 * p + x.val, by omega⟩))
    (hb : ∀ (e : Fin 3) (h : Fin 4) (x : Fin 256) (j : Fin 768), b (ix4 e h x j) = B (ix4 e ⟨4 * p + h.val, by omega⟩ x j)) :
    blockAt r q k v kc vc b n' l' = attnArr Q K V KC VC B i n l := by
  have hg : 4 * r + n'.val / 256 = n.val / 256 := by omega
  have hh : ∀ d : Fin 64, 256 * p + (64 * (l'.val / 64) + d.val) = 64 * (l.val / 64) + d.val := fun d => by omega
  have h4 : 4 * p + l'.val / 64 = l.val / 64 := by omega
  have hm : n'.val % 256 = n.val % 256 := by omega
  unfold blockAt attnArr
  refine soft_congr (fun j => ?_) (fun j => ?_) (fun j => ?_) (fun j => ?_)
  · refine congrArg₂ _ (Finset.sum_congr rfl fun d _ => ?_) ?_
    · rw [hq, hk]; simp only [hh, hg]
    · rw [hb]; simp only [h4, hg, hm]
  · refine Finset.sum_congr rfl fun d _ => ?_
    rw [hq, hkc]; simp only [hh]
  · rw [hv]; simp only [hg, ← hl]
  · rw [hvc]; simp only [← hl]

theorem region1 (V : (c : Dev nD) → (b : Ref sig .tc) → Buf (Elt Ideal) ((c : Thread nD τ).loc b)) (c : Dev nD) :
    (dat1 V c).arrAt 6 cfg1.N = fun y : S8x4096x1024.Idx =>
      attnArr (V c main_v0) (V c main_v1) (V c main_v2) (V c main_v4) (V c main_v6) (V c main_v8) (y 0) (y 1) (y 2) := by
  refine (dat1 V c).arrAt_eq_of_covers 6 _ (by decide +kernel) fun t hf y => ?_
  blk_simp
  rw [after1_6]
  unfold outsAt1
  rw [Attn.out_eq]
  have hr : (grid1.coords t 2).val < 4 := (grid1.coords t 2).isLt
  have hb : (grid1.coords t 1).val < 8 := (grid1.coords t 1).isLt
  have hp : (grid1.coords t 0).val < 4 := (grid1.coords t 0).isLt
  have hy0 : (y 0).val = 0 := Nat.lt_one_iff.mp (y 0).isLt
  refine block_attn (grid1.coords t 2).val (grid1.coords t 0).val hr hp _ _ _ _ _ _ _ _ _ _ _ _ _ _ _ (y 1) (y 2) ?_ ?_ ?_ ?_ ?_ ?_ ?_ ?_
  · blk_simp [idx1_6]; omega
  · blk_simp [idx1_6]; omega
  · intro x; blk_ext [iblk1, idx1_0, idx1_6]
  · intro j x; blk_ext [iblk1, idx1_1, idx1_6]
  · intro j x; blk_ext [iblk1, idx1_2, idx1_6]
  · intro j x; blk_ext [iblk1, idx1_3, idx1_6]
  · intro j x; blk_ext [iblk1, idx1_4, idx1_6]
  · intro e h x j; blk_ext [iblk1, idx1_5, idx1_6]

variable (m : (ℓ : Loc nD τ sig) → Buf (Elt Ideal) ℓ) (ρ : Dev nD → PrngReg)

/-! The argument arrays as the first region finds the reshaped copies of them. -/

theorem V1_v0 (c : Dev nD) : V1 m ρ c main_v0 = shapeCast S10x4096x1024 (m ((c : Thread nD τ).loc main_arg0)) shapeCasts_S40960x1024_S10x4096x1024 := by
  show StableHlo.after hostOps0 (W0 m ρ c) (Proc.devRef .tc main_v0) = _
  after_results_simp <;> rfl

theorem V1_v1 (c : Dev nD) : V1 m ρ c main_v1 = shapeCast S10x4096x1024 (m ((c : Thread nD τ).loc main_arg1)) shapeCasts_S40960x1024_S10x4096x1024 := by
  show StableHlo.after hostOps0 (W0 m ρ c) (Proc.devRef .tc main_v1) = _
  after_results_simp <;> rfl

theorem V1_v2 (c : Dev nD) : V1 m ρ c main_v2 = shapeCast S10x4096x1024 (m ((c : Thread nD τ).loc main_arg2)) shapeCasts_S40960x1024_S10x4096x1024 := by
  show StableHlo.after hostOps0 (W0 m ρ c) (Proc.devRef .tc main_v2) = _
  after_results_simp <;> rfl

theorem V1_v4 (c : Dev nD) : V1 m ρ c main_v4 = truncf (F := Ideal) .bf16 (shapeCast S8x512x1024 (m ((c : Thread nD τ).loc main_arg3)) shapeCasts_S8x512x16x64_S8x512x1024) bitsLt_bf16_f32 := by
  show StableHlo.after hostOps0 (W0 m ρ c) (Proc.devRef .tc main_v4) = _
  after_results_simp <;> rfl

theorem V1_v6 (c : Dev nD) : V1 m ρ c main_v6 = truncf (F := Ideal) .bf16 (shapeCast S8x512x1024 (m ((c : Thread nD τ).loc main_arg4)) shapeCasts_S8x512x16x64_S8x512x1024) bitsLt_bf16_f32 := by
  show StableHlo.after hostOps0 (W0 m ρ c) (Proc.devRef .tc main_v6) = _
  after_results_simp <;> rfl

theorem V1_v7 (c : Dev nD) : V1 m ρ c main_v7 = shapeCast S7440 (m ((c : Thread nD τ).loc main_arg5)) shapeCasts_S16x15x31_S7440 := by
  show StableHlo.after hostOps0 (W0 m ρ c) (Proc.devRef .tc main_v7) = _
  after_results_simp <;> rfl

/-- The second region finds the first region's inputs as they were … -/
theorem V2_of (c : Dev nD) (r : Ref sig .tc) (h : ∀ w : Fin cfg0.W, Pipeline.arrRef spec0 w = r → (cfg0.win w).isOut = false) :
    V2 m ρ c r = V1 m ρ c r := W2_of m ρ c r h

/-- … and the bias array. -/
theorem V2_v8 (c : Dev nD) : V2 m ρ c main_v8 = biasArr (V1 m ρ c main_v7) :=
  (W2_arr m ρ c 1).trans (region0 (V1 m ρ) c)

/-- The whole kernel's result from the argument arrays. -/
def result (q k v : FVec Ideal S40960x1024 .bf16) (kc vc : FVec Ideal S8x512x16x64 .f32) (b : FVec Ideal S16x15x31 .f32) :
    S8x4096x1024.Idx → EReal := fun y =>
  attnArr (shapeCast S10x4096x1024 q shapeCasts_S40960x1024_S10x4096x1024)
    (shapeCast S10x4096x1024 k shapeCasts_S40960x1024_S10x4096x1024)
    (shapeCast S10x4096x1024 v shapeCasts_S40960x1024_S10x4096x1024)
    (truncf (F := Ideal) .bf16 (shapeCast S8x512x1024 kc shapeCasts_S8x512x16x64_S8x512x1024) bitsLt_bf16_f32)
    (truncf (F := Ideal) .bf16 (shapeCast S8x512x1024 vc shapeCasts_S8x512x16x64_S8x512x1024) bitsLt_bf16_f32)
    (biasArr (shapeCast S7440 b shapeCasts_S16x15x31_S7440)) (y 0) (y 1) (y 2)

theorem W3_v9 (c : Dev nD) : W3 m ρ c (Proc.devRef .tc main_v9) = result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (W3_arr m ρ c 6).trans ((region1 (V2 m ρ) c).trans ?_)
  rw [V2_of m ρ c main_v0 (by decide +kernel), V2_of m ρ c main_v1 (by decide +kernel), V2_of m ρ c main_v2 (by decide +kernel),
    V2_of m ρ c main_v4 (by decide +kernel), V2_of m ρ c main_v6 (by decide +kernel), V2_v8, V1_v0, V1_v1, V1_v2, V1_v4, V1_v6, V1_v7]
  rfl

set_option backward.isDefEq.respectTransparency.types false in
/-- Every execution of the kernel ends with the result array at `result` of the arguments and the arguments unchanged. -/
theorem run : θ_run defs (onTc (τ := τ) (main (F := Ideal))) ⟨m, fun _ => 0, ρ⟩ (fun r => ∀ c : Dev nD,
      r.2.mem ((c.tc : Thread nD τ).loc main_v9) = result (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => (fun c =>
      ⟨(h c _ (mem_uc main_v9 (by decide))).trans (W3_v9 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩))

end Cert.KernelIdeal.Run
-- ==== Proof.RefMask.lean ====
module
public import proofs.«01_k».proof.Proof.Gen.ReferenceIdeal.Run
public import proofs.«01_k».proof.Proof.Gen.ReferenceIdeal.Read
public import proofs.«01_k».proof.Proof.Bias
@[expose] public section
set_option maxRecDepth 16384
noncomputable section
namespace Cert.ReferenceIdeal.Ref
open Idealize.ShloMosaic Cert.ReferenceIdeal Cert.ReferenceIdeal.Gen Cert.ReferenceIdeal.Value Cert.ReferenceIdeal.Read
open Cert.KernelIdeal.Bias (row0 col0)
open scoped BigOperators

/-! # The reference's window mask and position bias, read at an index -/

/-- Which key rows are in the window of a query row. -/
theorem row_ok : ∀ r k : Fin 64, val_main_v28 (F := Ideal) (ix2 r k) =
    if row0 r.val ≤ k.val ∧ k.val < row0 r.val + 8 then 1#1 else 0#1 := by decide +kernel
/-- Which key columns are in the window of a query column. -/
theorem col_ok : ∀ r k : Fin 64, val_main_v39 (F := Ideal) (ix2 r k) =
    if col0 r.val ≤ k.val ∧ k.val < col0 r.val + 16 then 1#1 else 0#1 := by decide +kernel
/-- The row of the bias table for a pair of grid rows. -/
theorem row_idx : ∀ r k : Fin 64, val_main_v55 (F := Ideal) (ix2 r k) = BitVec.ofNat 32 (min 14 (k.val + 7 - r.val)) := by decide +kernel
/-- The column of the bias table for a pair of grid columns. -/
theorem col_idx : ∀ r k : Fin 64, val_main_v65 (F := Ideal) (ix2 r k) = BitVec.ofNat 32 (min 30 (k.val + 15 - r.val)) := by decide +kernel

/-- A key is in the window when its row and its column are. -/
theorem v45_apply (a b c d : Fin 64) : val_main_v45 (F := Ideal) (ix2 ⟨64 * a.val + b.val, by omega⟩ ⟨64 * c.val + d.val, by omega⟩)
    = IntOp.andi (val_main_v28 (F := Ideal) (ix2 a c)) (val_main_v39 (F := Ideal) (ix2 b d)) := by
  pointwise [val_main_v45, val_main_v44, val_main_v43, val_main_v42, val_main_v41, val_main_v40]

theorem small_toInt : ∀ n : Fin 31, (BitVec.ofNat 32 n.val).toInt.toNat = n.val := by decide

theorem gather_rows (x : FVec Ideal S16x15x31 .f32) (idx : IVec S64x64x1 32) (h : Fin 16) (r k : Fin 64) (j : Fin 31) :
    Host.gather gather_S16x15x31_S64x64x1_S16x64x64x31_03_1_n_n_1_2_16131 x idx (ix4 h r k j)
      = x (ix3 h ⟨min (idx (ix3 r k 0)).toInt.toNat 14, by omega⟩ j) := by
  unfold Host.gather
  congr 1
  funext a
  refine Fin.ext ?_
  show GatherDims.start _ (ix4 h r k j) idx a + GatherDims.batchCoord _ (ix4 h r k j) a + GatherDims.offCoord _ (ix4 h r k j) a = _
  match a with
  | ⟨0, _⟩ => (show 0 + 0 + h.val = h.val; omega)
  | ⟨1, _⟩ =>
    have hs : ∀ q, GatherDims.siIdx gather_S16x15x31_S64x64x1_S16x64x64x31_03_1_n_n_1_2_16131 (ix4 h r k j) q = ix3 r k 0 := fun q => by
      funext b; refine Fin.ext ?_
      match b with
      | ⟨0, _⟩ => rfl
      | ⟨1, _⟩ => rfl
      | ⟨2, _⟩ => exact Nat.lt_one_iff.mp q.isLt
    show min (idx (GatherDims.siIdx gather_S16x15x31_S64x64x1_S16x64x64x31_03_1_n_n_1_2_16131 (ix4 h r k j) _)).toInt.toNat _ + 0 + 0 = _
    rw [hs]; rfl
  | ⟨2, _⟩ => (show 0 + 0 + j.val = j.val; omega)

theorem gather_cols (x : FVec Ideal S16x64x64x31 .f32) (idx : IVec S64x64x1 32) (h : Fin 16) (r k q l : Fin 64) :
    Host.gather gather_S16x64x64x31_S64x64x1_S16x64x64x64x64_012_3_n_n_3_2_1664641 x idx (ix5 h r k q l)
      = x (ix4 h r k ⟨min (idx (ix3 q l 0)).toInt.toNat 30, by omega⟩) := by
  unfold Host.gather
  congr 1
  funext a
  refine Fin.ext ?_
  show GatherDims.start _ (ix5 h r k q l) idx a + GatherDims.batchCoord _ (ix5 h r k q l) a + GatherDims.offCoord _ (ix5 h r k q l) a = _
  match a with
  | ⟨0, _⟩ => (show 0 + 0 + h.val = h.val; omega)
  | ⟨1, _⟩ => (show 0 + 0 + r.val = r.val; omega)
  | ⟨2, _⟩ => (show 0 + 0 + k.val = k.val; omega)
  | ⟨3, _⟩ =>
    have hs : ∀ z, GatherDims.siIdx gather_S16x64x64x31_S64x64x1_S16x64x64x64x64_012_3_n_n_3_2_1664641 (ix5 h r k q l) z = ix3 q l 0 := fun z => by
      funext b; refine Fin.ext ?_
      match b with
      | ⟨0, _⟩ => rfl
      | ⟨1, _⟩ => rfl
      | ⟨2, _⟩ => exact Nat.lt_one_iff.mp z.isLt
    show min (idx (GatherDims.siIdx gather_S16x64x64x31_S64x64x1_S16x64x64x64x64_012_3_n_n_3_2_1664641 (ix5 h r k q l) _)).toInt.toNat _ + 0 + 0 = _
    rw [hs]; rfl

theorem v69_apply (x5 : FVec Ideal S16x15x31 .f32) (h : Fin 16) (r q k l : Fin 64) :
    val_main_v69 (F := Ideal) x5 (ix3 h ⟨64 * r.val + q.val, by omega⟩ ⟨64 * k.val + l.val, by omega⟩)
      = val_main_v67 (F := Ideal) x5 (ix5 h r k q l) := by
  rw [val_main_v69_apply, val_main_v68_apply]
  generalize val_main_v67 (F := Ideal) x5 = y
  refine congrArg y ?_
  have hh := h.isLt; have hr := r.isLt; have hq := q.isLt; have hk := k.isLt; have hl := l.isLt
  funext a
  refine Fin.ext ?_
  match a with
  | ⟨0, _⟩ => show ((h.val * 4096 + (64 * r.val + q.val)) * 4096 + (64 * k.val + l.val)) / 16777216 = h.val; omega
  | ⟨1, _⟩ => show ((h.val * 4096 + (64 * r.val + q.val)) * 4096 + (64 * k.val + l.val)) / 262144 % 64 = r.val; omega
  | ⟨2, _⟩ => show ((h.val * 4096 + (64 * r.val + q.val)) * 4096 + (64 * k.val + l.val)) / 64 % 64 = k.val; omega
  | ⟨3, _⟩ => show ((h.val * 4096 + (64 * r.val + q.val)) * 4096 + (64 * k.val + l.val)) / 4096 % 64 = q.val; omega
  | ⟨4, _⟩ => show ((h.val * 4096 + (64 * r.val + q.val)) * 4096 + (64 * k.val + l.val)) % 64 = l.val; omega

theorem row_entry (r k : Fin 64) : (val_main_call4_v0 (F := Ideal) (ix3 r k 0)).toInt.toNat = min 14 (k.val + 7 - r.val) := by
  have e4 : val_main_call4_v0 (F := Ideal) (ix3 r k 0) = val_main_v55 (F := Ideal) (ix2 r k) := by
    unfold val_main_call4_v0
    generalize val_main_v55 (F := Ideal) = y
    pointwise
  rw [e4, row_idx]
  exact small_toInt ⟨min 14 (k.val + 7 - r.val), by omega⟩

theorem col_entry (r k : Fin 64) : (val_main_call5_v0 (F := Ideal) (ix3 r k 0)).toInt.toNat = min 30 (k.val + 15 - r.val) := by
  have e4 : val_main_call5_v0 (F := Ideal) (ix3 r k 0) = val_main_v65 (F := Ideal) (ix2 r k) := by
    unfold val_main_call5_v0
    generalize val_main_v65 (F := Ideal) = y
    pointwise
  rw [e4, col_idx]
  exact small_toInt ⟨min 30 (k.val + 15 - r.val), by omega⟩

/-- The position-bias table over the grid: the entry at the clipped row and column distances. -/
theorem bias_apply (x5 : FVec Ideal S16x15x31 .f32) (h : Fin 16) (r q k l : Fin 64) :
    val_main_v69 (F := Ideal) x5 (ix3 h ⟨64 * r.val + q.val, by omega⟩ ⟨64 * k.val + l.val, by omega⟩)
      = x5 (ix3 h ⟨min 14 (k.val + 7 - r.val), by omega⟩ ⟨min 30 (l.val + 15 - q.val), by omega⟩) := by
  rw [v69_apply]
  unfold val_main_v67
  rw [gather_cols]
  unfold val_main_v66
  rw [gather_rows]
  refine congrArg x5 (congrArg₂ (ix3 h) (Fin.ext ?_) (Fin.ext ?_))
  · show min _ 14 = _
    rw [row_entry]; simp only; omega
  · show min _ 30 = _
    rw [col_entry]; simp only; omega

end Cert.ReferenceIdeal.Ref
-- ==== Proof.Softmax.lean ====
module
public import proofs.«01_k».proof.Proof.Attn
@[expose] public section
noncomputable section
namespace Cert.KernelIdeal.Attn
open Idealize.ShloMosaic
open scoped BigOperators

/-! # A softmax over a window of the keys is the softmax over all keys with the others at minus infinity -/

theorem negInf : Ideal.ofBits .f32 0xFF800000#32 = (⊥ : EReal) := by simp [Ideal.ofBits, Ideal.ieee]

theorem fold_max_eq {n : ℕ} (f : Fin n → EReal) : Finset.univ.fold max (Ideal.ofBits .f32 0xFF800000#32) f = Finset.univ.sup f := by
  rw [negInf]; rfl

/-- A nonnegative number other than plus infinity multiplies a finite sum term by term. -/
theorem sum_mul_of_nonneg {ι : Type} (S : Finset ι) (f : ι → EReal) (x : EReal) (h0 : 0 ≤ x) (h1 : x ≠ ⊤) :
    (∑ i ∈ S, f i) * x = ∑ i ∈ S, f i * x := by
  classical
  induction S using Finset.induction_on with
  | empty => simp
  | insert a S ha ih => rw [Finset.sum_insert ha, Finset.sum_insert ha, EReal.right_distrib_of_nonneg_of_ne_top h0 h1, ih]

theorem exp_bot_sub (r : ℝ) : Ideal.exp ((⊥ : EReal) - (r : EReal)) = 0 := by
  rw [EReal.bot_sub]; rfl

/-- The exponential of anything but plus infinity is a nonnegative real. -/
theorem exp_real (x : EReal) (h : x ≠ ⊤) : ∃ r : ℝ, 0 ≤ r ∧ Ideal.exp x = (r : EReal) := by
  induction x with
  | bot => exact ⟨0, le_rfl, rfl⟩
  | coe a => exact ⟨Real.exp a, (Real.exp_pos a).le, rfl⟩
  | top => exact absurd rfl h

theorem exp_pos_real (a : ℝ) : ∃ r : ℝ, 0 < r ∧ Ideal.exp (a : EReal) = (r : EReal) :=
  ⟨Real.exp a, Real.exp_pos a, rfl⟩

/-- A finite sum of nonnegative reals is one. -/
theorem sum_real {ι : Type} (S : Finset ι) (f : ι → EReal) (h : ∀ i, ∃ r : ℝ, 0 ≤ r ∧ f i = (r : EReal)) :
    ∃ r : ℝ, 0 ≤ r ∧ ∑ i ∈ S, f i = (r : EReal) := by
  classical
  induction S using Finset.induction_on with
  | empty => exact ⟨0, le_rfl, by simp⟩
  | insert a S ha ih =>
    obtain ⟨r, hr, er⟩ := h a
    obtain ⟨t, ht, et⟩ := ih
    exact ⟨r + t, add_nonneg hr ht, by rw [Finset.sum_insert ha, er, et, EReal.coe_add]⟩

/-- The softmax-weighted mean over all keys: the scores `T` of the `N` keys of the grid and then the `K` context keys, the
    maximum of all subtracted, each exponential divided by the sum of all. -/
def dense {N K : ℕ} (T : Fin (N + K) → EReal) (v : Fin N → EReal) (w : Fin K → EReal) : EReal :=
  ∑ k : Fin N, v k * Ideal.div (Ideal.exp (T (Fin.castAdd K k) - Finset.univ.sup T)) (∑ i, Ideal.exp (T i - Finset.univ.sup T))
    + ∑ l : Fin K, w l * Ideal.div (Ideal.exp (T (Fin.natAdd N l) - Finset.univ.sup T)) (∑ i, Ideal.exp (T i - Finset.univ.sup T))

theorem soft_eq_dense {n N K : ℕ} (e : Fin n → Fin N) (he : Function.Injective e) (l0 : Fin K)
    (s : Fin n → EReal) (c : Fin K → EReal) (v : Fin n → EReal) (w : Fin K → EReal)
    (T : Fin (N + K) → EReal) (V : Fin N → EReal)
    (hT : ∀ j, T (Fin.castAdd K (e j)) = s j) (hoff : ∀ k, k ∉ Set.range e → T (Fin.castAdd K k) = ⊥)
    (hc : ∀ l, T (Fin.natAdd N l) = c l) (hV : ∀ j, V (e j) = v j)
    (hs : ∀ j, s j ≠ ⊤) (hcr : ∀ l, ∃ r : ℝ, c l = (r : EReal)) :
    soft s c v w = dense T V w := by
  have hM : max (Finset.univ.sup s) (Finset.univ.sup c) = Finset.univ.sup T := by
    apply le_antisymm
    · refine max_le (Finset.sup_le fun j _ => ?_) (Finset.sup_le fun l _ => ?_)
      · rw [← hT]; exact Finset.le_sup (Finset.mem_univ _)
      · rw [← hc]; exact Finset.le_sup (Finset.mem_univ _)
    · refine Finset.sup_le fun i _ => ?_
      induction i using Fin.addCases with
      | left k =>
        by_cases hk : k ∈ Set.range e
        · obtain ⟨j, rfl⟩ := hk
          rw [hT]; exact le_max_of_le_left (Finset.le_sup (Finset.mem_univ j))
        · rw [hoff k hk]; exact bot_le
      | right l => rw [hc]; exact le_max_of_le_right (Finset.le_sup (Finset.mem_univ l))
  have hTtop : ∀ i, T i ≠ ⊤ := fun i => by
    induction i using Fin.addCases with
    | left k =>
      by_cases hk : k ∈ Set.range e
      · obtain ⟨j, rfl⟩ := hk
        rw [hT]; exact hs j
      · rw [hoff k hk]; exact bot_ne_top
    | right l => rw [hc]; obtain ⟨r, hr⟩ := hcr l; rw [hr]; exact EReal.coe_ne_top r
  have hMr : ∃ r : ℝ, Finset.univ.sup T = (r : EReal) := by
    have h1 : Finset.univ.sup T ≠ ⊤ := (Finset.sup_lt_iff (bot_lt_top)).mpr (fun i _ => lt_top_iff_ne_top.mpr (hTtop i)) |>.ne
    have h2 : Finset.univ.sup T ≠ ⊥ := by
      obtain ⟨r, hr⟩ := hcr l0
      refine ne_bot_of_le_ne_bot (b := T (Fin.natAdd N l0)) ?_ (Finset.le_sup (Finset.mem_univ _))
      rw [hc, hr]; exact EReal.coe_ne_bot r
    exact ⟨_, (EReal.coe_toReal h1 h2).symm⟩
  obtain ⟨M, hMeq⟩ := hMr
  unfold soft dense
  rw [fold_max_eq, fold_max_eq, hM, hMeq]
  have hE : ∀ i, ∃ r : ℝ, 0 ≤ r ∧ Ideal.exp (T i - (M : EReal)) = (r : EReal) := fun i => exp_real _ (by
    intro h
    have := hTtop i
    induction h' : T i with
    | bot => rw [h', EReal.bot_sub] at h; exact bot_ne_top h
    | coe a => rw [h', ← EReal.coe_sub] at h; exact EReal.coe_ne_top _ h
    | top => exact this h')
  have hsum : ∑ j, Ideal.exp (s j - (M : EReal)) + ∑ l, Ideal.exp (c l - (M : EReal)) = ∑ i, Ideal.exp (T i - (M : EReal)) := by
    rw [Fin.sum_univ_add]
    refine congrArg₂ _ ?_ ?_
    · refine Fintype.sum_of_injective e he _ _ (fun k hk => ?_) (fun j => ?_)
      · rw [hoff k hk, exp_bot_sub]
      · rw [hT]
    · exact Finset.sum_congr rfl fun l _ => by rw [hc]
  rw [hsum]
  obtain ⟨L, hL0, hL⟩ := sum_real Finset.univ _ hE
  have hLpos : 0 < L := by
    obtain ⟨r, hr⟩ := hcr l0
    obtain ⟨u, hu, eu⟩ := exp_pos_real (r - M)
    have h1 : (u : EReal) ≤ (L : EReal) := by
      rw [← hL, ← eu, EReal.coe_sub, ← hr, ← hc]
      exact Finset.single_le_sum (f := fun i => Ideal.exp (T i - (M : EReal))) (fun i _ => by
        obtain ⟨x, hx, ex⟩ := hE i
        simp only [ex]; exact EReal.coe_nonneg.mpr hx) (Finset.mem_univ (Fin.natAdd N l0))
    exact lt_of_lt_of_le hu (EReal.coe_le_coe_iff.mp h1)
  rw [hL]
  have hdiv : ∀ x : EReal, Ideal.div x (L : EReal) = x * ((L⁻¹ : ℝ) : EReal) := fun x => by
    unfold Ideal.div
    rw [if_neg (by exact_mod_cast hLpos.ne'), EReal.coe_inv]
  have hi0 : (0 : EReal) ≤ ((L⁻¹ : ℝ) : EReal) := EReal.coe_nonneg.mpr (inv_nonneg.mpr hL0)
  have hi1 : ((L⁻¹ : ℝ) : EReal) ≠ ⊤ := EReal.coe_ne_top _
  simp only [hdiv]
  rw [EReal.right_distrib_of_nonneg_of_ne_top hi0 hi1, sum_mul_of_nonneg _ _ _ hi0 hi1, sum_mul_of_nonneg _ _ _ hi0 hi1]
  refine congrArg₂ _ ?_ ?_
  · refine Fintype.sum_of_injective e he _ _ (fun k hk => ?_) (fun j => ?_)
    · rw [hoff k hk, exp_bot_sub, zero_mul, mul_zero]
    · rw [hT, hV, mul_comm (v j), mul_assoc, mul_assoc, mul_comm (v j)]
  · exact Finset.sum_congr rfl fun l _ => by rw [hc, mul_comm (w l), mul_assoc, mul_assoc, mul_comm (w l)]

end Cert.KernelIdeal.Attn
-- ==== Proof.RefSoft.lean ====
module
public import proofs.«01_k».proof.Proof.RefMask
public import proofs.«01_k».proof.Proof.Softmax
@[expose] public section
noncomputable section
namespace Cert.ReferenceIdeal.Ref
open Idealize.ShloMosaic Cert.ReferenceIdeal Cert.ReferenceIdeal.Gen Cert.ReferenceIdeal.Value Cert.ReferenceIdeal.Read
open Cert.KernelIdeal.Bias (row0 col0)
open Cert.KernelIdeal.Attn (dense fold_max_eq negInf)

/-! # The reference's softmax, read at an index -/

variable (x0 x1 x2 : FVec Ideal S40960x1024 .bf16) (x3 x4 : FVec Ideal S8x512x16x64 .f32) (x5 : FVec Ideal S16x15x31 .f32)

/-- The scores of one query of one head: the 4096 keys of the grid, then the 512 context keys. -/
def scores (b : Fin 8) (h : Fin 16) (n : Fin 4096) : Fin (4096 + 512) → EReal :=
  fun i => val_main_v80 (F := Ideal) x0 x1 x3 x5 (ix4 b h n ⟨i.val, i.isLt⟩)

/-- The maximum over the keys. -/
theorem v81_apply (b : Fin 8) (h : Fin 16) (n : Fin 4096) :
    val_main_v81 (F := Ideal) x0 x1 x3 x5 (ix3 b h n) = Finset.univ.sup (scores x0 x1 x3 x5 b h n) := by
  unfold scores
  unfold val_main_v81 val_main_cst_17
  generalize val_main_v80 (F := Ideal) x0 x1 x3 x5 = y
  pointwise
  exact fold_max_eq _

/-- The maximum that is subtracted. -/
theorem v85_apply (b : Fin 8) (h : Fin 16) (n : Fin 4096) (i : Fin 4608) :
    val_main_v85 (F := Ideal) x0 x1 x3 x5 (ix4 b h n i) = Finset.univ.sup (scores x0 x1 x3 x5 b h n) := by
  have e : idx_main_v84 (idx_main_v85 (ix4 b h n i)) = ix3 b h n := by
    funext a
    match a with
    | ⟨0, _⟩ => rfl
    | ⟨1, _⟩ => rfl
    | ⟨2, _⟩ => rfl
  rw [val_main_v85_apply, val_main_v84_apply, val_main_v83_apply, e, v81_apply]
  generalize Finset.univ.sup (scores x0 x1 x3 x5 b h n) = y
  rw [val_main_v82_apply, val_main_cst_18_apply]
  show max (Ideal.ofBits .f32 0xFF800000#32) y = y
  rw [negInf]
  exact max_eq_right bot_le

/-- The numerator of the softmax. -/
theorem v87_apply (b : Fin 8) (h : Fin 16) (n : Fin 4096) (i : Fin 4608) :
    val_main_v87 (F := Ideal) x0 x1 x3 x5 (ix4 b h n i)
      = Ideal.exp (scores x0 x1 x3 x5 b h n ⟨i.val, i.isLt⟩ - Finset.univ.sup (scores x0 x1 x3 x5 b h n)) := by
  rw [← v85_apply x0 x1 x3 x5 b h n i]
  rfl

/-- The denominator of the softmax. -/
theorem v90_apply (b : Fin 8) (h : Fin 16) (n : Fin 4096) (i : Fin 4608) :
    val_main_v90 (F := Ideal) x0 x1 x3 x5 (ix4 b h n i)
      = ∑ k, Ideal.exp (scores x0 x1 x3 x5 b h n k - Finset.univ.sup (scores x0 x1 x3 x5 b h n)) := by
  have e : val_main_v90 (F := Ideal) x0 x1 x3 x5 (ix4 b h n i)
      = ∑ k : Fin 4608, val_main_v87 (F := Ideal) x0 x1 x3 x5 (ix4 b h n k) := by
    unfold val_main_v90 val_main_v89 val_main_v88 val_main_cst_19
    generalize val_main_v87 (F := Ideal) x0 x1 x3 x5 = y
    pointwise
  rw [e]
  exact Finset.sum_congr rfl fun k _ => v87_apply x0 x1 x3 x5 b h n k

/-- The weights of the softmax. -/
theorem v91_apply (b : Fin 8) (h : Fin 16) (n : Fin 4096) (i : Fin 4608) :
    val_main_v91 (F := Ideal) x0 x1 x3 x5 (ix4 b h n i)
      = Ideal.div (Ideal.exp (scores x0 x1 x3 x5 b h n ⟨i.val, i.isLt⟩ - Finset.univ.sup (scores x0 x1 x3 x5 b h n)))
          (∑ k, Ideal.exp (scores x0 x1 x3 x5 b h n k - Finset.univ.sup (scores x0 x1 x3 x5 b h n))) := by
  rw [← v87_apply, ← v90_apply x0 x1 x3 x5 b h n i]
  rfl

/-- A row of the latent queries, by head. -/
theorem v2_apply (b : Fin 8) (n : Fin 4096) (h : Fin 16) (d : Fin 64) :
    val_main_v2 (F := Ideal) x0 (ix4 b n h d) = x0 (ix2 ⟨4096 * (b.val + 2) + n.val, by omega⟩ ⟨64 * h.val + d.val, by omega⟩) := by
  unfold val_main_v2 val_main_v1 val_main_v0
  pointwise
  refine congrArg x0 (congrArg₂ ix2 (Fin.ext ?_) (Fin.ext ?_))
  · simp only; omega
  · simp only; omega

/-- The keys are read the same way. -/
theorem v5_apply (b : Fin 8) (n : Fin 4096) (h : Fin 16) (d : Fin 64) :
    val_main_v5 (F := Ideal) x1 (ix4 b n h d) = val_main_v2 (F := Ideal) x1 (ix4 b n h d) := rfl

/-- The values are read the same way. -/
theorem v8_apply (b : Fin 8) (n : Fin 4096) (h : Fin 16) (d : Fin 64) :
    val_main_v8 (F := Ideal) x2 (ix4 b n h d) = val_main_v2 (F := Ideal) x2 (ix4 b n h d) := rfl

/-- The result at an index: the softmax-weighted mean of the values. -/
theorem v100_apply (b : Fin 8) (n : Fin 4096) (h : Fin 16) (d : Fin 64) :
    val_main_v100 (F := Ideal) x0 x1 x2 x3 x4 x5 (ix3 b n ⟨64 * h.val + d.val, by omega⟩)
      = dense (scores x0 x1 x3 x5 b h n)
          (fun k : Fin 4096 => x2 (ix2 ⟨4096 * (b.val + 2) + k.val, by omega⟩ ⟨64 * h.val + d.val, by omega⟩))
          (fun l : Fin 512 => x4 (ix4 b l h d)) := by
  have e : val_main_v100 (F := Ideal) x0 x1 x2 x3 x4 x5 (ix3 b n ⟨64 * h.val + d.val, by omega⟩)
      = val_main_v93 (F := Ideal) x0 x1 x2 x3 x5 (ix4 b h d n) + val_main_v96 (F := Ideal) x0 x1 x3 x4 x5 (ix4 b h d n) := by
    rw [val_main_v100_apply, val_main_v99_apply, val_main_v98_apply, val_main_v94_apply, val_main_v97_apply]
    refine congrArg₂ (· + ·) (congrArg _ ?_) (congrArg _ ?_) <;>
    · funext a
      refine Fin.ext ?_
      match a with
      | ⟨0, _⟩ => show ((b.val * 4096 + n.val) * 1024 + (64 * h.val + d.val)) / 4194304 = b.val; omega
      | ⟨1, _⟩ => show ((b.val * 4096 + n.val) * 1024 + (64 * h.val + d.val)) / 64 % 16 = h.val; omega
      | ⟨2, _⟩ => show ((b.val * 4096 + n.val) * 1024 + (64 * h.val + d.val)) % 64 = d.val; omega
      | ⟨3, _⟩ => show ((b.val * 4096 + n.val) * 1024 + (64 * h.val + d.val)) / 1024 % 4096 = n.val; omega
  rw [e, val_main_v93_apply, val_main_v96_apply]
  unfold dense
  refine congrArg₂ (· + ·) (Finset.sum_congr rfl fun k _ => congrArg₂ (· * ·) ?_ ?_) (Finset.sum_congr rfl fun l _ => congrArg₂ (· * ·) ?_ ?_)
  · refine Eq.trans (congrArg (val_main_v8 (F := Ideal) x2) ?_) ((v8_apply x2 b k h d).trans (v2_apply x2 b k h d))
    funext a
    match a with
    | ⟨0, _⟩ => rfl
    | ⟨1, _⟩ => rfl
    | ⟨2, _⟩ => rfl
    | ⟨3, _⟩ => rfl
  · rw [val_main_v92_apply]
    refine Eq.trans (congrArg _ ?_) (v91_apply x0 x1 x3 x5 b h n ⟨k.val, by omega⟩)
    funext a
    match a with
    | ⟨0, _⟩ => rfl
    | ⟨1, _⟩ => rfl
    | ⟨2, _⟩ => rfl
    | ⟨3, _⟩ => rfl
  · refine congrArg x4 ?_
    funext a
    match a with
    | ⟨0, _⟩ => rfl
    | ⟨1, _⟩ => rfl
    | ⟨2, _⟩ => rfl
    | ⟨3, _⟩ => rfl
  · rw [val_main_v95_apply]
    refine Eq.trans (congrArg _ ?_) (v91_apply x0 x1 x3 x5 b h n ⟨4096 + l.val, by omega⟩)
    funext a
    match a with
    | ⟨0, _⟩ => rfl
    | ⟨1, _⟩ => rfl
    | ⟨2, _⟩ => rfl
    | ⟨3, _⟩ => rfl

/-- The context scores. -/
theorem scores_ctx (b : Fin 8) (h : Fin 16) (n : Fin 4096) (l : Fin 512) :
    scores x0 x1 x3 x5 b h n (Fin.natAdd 4096 l)
      = (∑ d : Fin 64, x0 (ix2 ⟨4096 * (b.val + 2) + n.val, by omega⟩ ⟨64 * h.val + d.val, by omega⟩) * x3 (ix4 b l h d))
          * Ideal.ofBits .f32 0x3E000000#32 := by
  have e : scores x0 x1 x3 x5 b h n (Fin.natAdd 4096 l) = val_main_v79 (F := Ideal) x0 x3 (ix4 b h n l) := by
    unfold scores val_main_v80
    generalize val_main_v79 (F := Ideal) x0 x3 = y
    generalize val_main_v76 (F := Ideal) x0 x1 x5 = z
    refine concatenate_pair_apply_right (t := S8x16x4096x4608) (s₁ := S8x16x4096x4096) (s₂ := S8x16x4096x512) (3 : Fin 4) z y _ _ rfl rfl (ix4 b h n l) (fun a ha => ?_) ?_
    · match a with
      | ⟨0, _⟩ => rfl
      | ⟨1, _⟩ => rfl
      | ⟨2, _⟩ => rfl
      | ⟨3, _⟩ => exact absurd rfl ha
    · show l.val + 4096 = 4096 + l.val; omega
  rw [e, val_main_v79_apply, val_main_v78_apply, val_main_cst_16_apply, val_main_v77_apply]
  refine congrArg₂ (· * ·) (Finset.sum_congr rfl fun d _ => congrArg₂ (· * ·) ?_ ?_) rfl
  · refine Eq.trans (congrArg (val_main_v2 (F := Ideal) x0) ?_) (v2_apply x0 b n h d)
    funext a
    match a with
    | ⟨0, _⟩ => rfl
    | ⟨1, _⟩ => rfl
    | ⟨2, _⟩ => rfl
    | ⟨3, _⟩ => rfl
  · refine congrArg x3 ?_
    funext a
    match a with
    | ⟨0, _⟩ => rfl
    | ⟨1, _⟩ => rfl
    | ⟨2, _⟩ => rfl
    | ⟨3, _⟩ => rfl

/-- The scores of the grid's keys: minus infinity outside the window. -/
theorem scores_grid (b : Fin 8) (h : Fin 16) (r q k l : Fin 64) :
    scores x0 x1 x3 x5 b h ⟨64 * r.val + q.val, by omega⟩ (Fin.castAdd 512 ⟨64 * k.val + l.val, by omega⟩)
      = if (row0 r.val ≤ k.val ∧ k.val < row0 r.val + 8) ∧ (col0 q.val ≤ l.val ∧ l.val < col0 q.val + 16) then
          (∑ d : Fin 64, x0 (ix2 ⟨4096 * (b.val + 2) + (64 * r.val + q.val), by omega⟩ ⟨64 * h.val + d.val, by omega⟩)
              * x1 (ix2 ⟨4096 * (b.val + 2) + (64 * k.val + l.val), by omega⟩ ⟨64 * h.val + d.val, by omega⟩))
            * Ideal.ofBits .f32 0x3E000000#32
            + x5 (ix3 h ⟨min 14 (k.val + 7 - r.val), by omega⟩ ⟨min 30 (l.val + 15 - q.val), by omega⟩)
        else ⊥ := by
  have e : scores x0 x1 x3 x5 b h ⟨64 * r.val + q.val, by omega⟩ (Fin.castAdd 512 ⟨64 * k.val + l.val, by omega⟩)
      = val_main_v76 (F := Ideal) x0 x1 x5 (ix4 b h ⟨64 * r.val + q.val, by omega⟩ ⟨64 * k.val + l.val, by omega⟩) := by
    unfold scores val_main_v80
    generalize val_main_v79 (F := Ideal) x0 x3 = y
    generalize val_main_v76 (F := Ideal) x0 x1 x5 = z
    refine concatenate_pair_apply_left (t := S8x16x4096x4608) (s₁ := S8x16x4096x4096) (s₂ := S8x16x4096x512) (3 : Fin 4) z y _ _ rfl _ (fun a => ?_)
    match a with
    | ⟨0, _⟩ => rfl
    | ⟨1, _⟩ => rfl
    | ⟨2, _⟩ => rfl
    | ⟨3, _⟩ => rfl
  have em : val_main_call6_v1 (F := Ideal) (ix4 b h ⟨64 * r.val + q.val, by omega⟩ ⟨64 * k.val + l.val, by omega⟩)
      = IntOp.andi (val_main_v28 (F := Ideal) (ix2 r k)) (val_main_v39 (F := Ideal) (ix2 q l)) := by
    rw [val_main_call6_v1_apply, ← v45_apply]
    refine congrArg _ ?_
    funext a
    match a with
    | ⟨0, _⟩ => rfl
    | ⟨1, _⟩ => rfl
  have es : val_main_v75 (F := Ideal) x0 x1 x5 (ix4 b h ⟨64 * r.val + q.val, by omega⟩ ⟨64 * k.val + l.val, by omega⟩)
      = (∑ d : Fin 64, x0 (ix2 ⟨4096 * (b.val + 2) + (64 * r.val + q.val), by omega⟩ ⟨64 * h.val + d.val, by omega⟩)
              * x1 (ix2 ⟨4096 * (b.val + 2) + (64 * k.val + l.val), by omega⟩ ⟨64 * h.val + d.val, by omega⟩))
            * Ideal.ofBits .f32 0x3E000000#32
            + x5 (ix3 h ⟨min 14 (k.val + 7 - r.val), by omega⟩ ⟨min 30 (l.val + 15 - q.val), by omega⟩) := by
    rw [← bias_apply x5 h r q k l, val_main_v75_apply, val_main_v72_apply, val_main_v71_apply, val_main_v70_apply, val_main_v74_apply, val_main_v73_apply]
    refine congrArg₂ (· + ·) (congrArg₂ (· * ·) (Finset.sum_congr rfl fun d _ => congrArg₂ (· * ·) ?_ ?_) rfl) (congrArg _ ?_)
    · refine Eq.trans (congrArg (val_main_v2 (F := Ideal) x0) ?_) (v2_apply x0 b ⟨64 * r.val + q.val, by omega⟩ h d)
      funext a
      match a with
      | ⟨0, _⟩ => rfl
      | ⟨1, _⟩ => rfl
      | ⟨2, _⟩ => rfl
      | ⟨3, _⟩ => rfl
    · refine Eq.trans (congrArg (val_main_v5 (F := Ideal) x1) ?_) ((v5_apply x1 b ⟨64 * k.val + l.val, by omega⟩ h d).trans (v2_apply x1 b ⟨64 * k.val + l.val, by omega⟩ h d))
      funext a
      match a with
      | ⟨0, _⟩ => rfl
      | ⟨1, _⟩ => rfl
      | ⟨2, _⟩ => rfl
      | ⟨3, _⟩ => rfl
    · funext a
      match a with
      | ⟨0, _⟩ => rfl
      | ⟨1, _⟩ => rfl
      | ⟨2, _⟩ => rfl
  have en : val_main_call6_v2 (F := Ideal) (ix4 b h ⟨64 * r.val + q.val, by omega⟩ ⟨64 * k.val + l.val, by omega⟩) = ⊥ := negInf
  rw [e, val_main_v76_apply, em, es, en, row_ok, col_ok]
  split_ifs <;> simp_all [Scalar.select, IntOp.andi]

end Cert.ReferenceIdeal.Ref
-- ==== Proof.Same.lean ====
module
public import proofs.«01_k».proof.Proof.Run
public import proofs.«01_k».proof.Proof.RefSoft
@[expose] public section
set_option maxRecDepth 16384
noncomputable section
namespace Cert.KernelIdeal.Same
open Idealize.ShloMosaic Cert.KernelIdeal Cert.KernelIdeal.Gen Cert.KernelIdeal.Attn Cert.KernelIdeal.Bias Cert.KernelIdeal.Run
open Cert.ReferenceIdeal.Ref (scores scores_ctx scores_grid v100_apply)
open scoped BigOperators

/-! # The two calls leave what the reference gives -/

/-- The table row a query row uses for a key row does not depend on the group, only on its class. -/
theorem drow_eq : ∀ (g : Fin 16) (rl : Fin 4) (kl : Fin 12), drow (cls g.val) rl.val kl.val
    = if row0 (4 * g.val + rl.val) ≤ key0 g.val + kl.val ∧ key0 g.val + kl.val < row0 (4 * g.val + rl.val) + 8 then
        some ⟨min 14 (key0 g.val + kl.val + 7 - (4 * g.val + rl.val)), by omega⟩
      else none := by decide +kernel

/-- An entry of the flat bias table. -/
theorem tab_apply (b : FVec Ideal S16x15x31 .f32) (h : Fin 16) (a : Fin 15) (c : Fin 31) :
    tab (shapeCast S7440 b shapeCasts_S16x15x31_S7440) (465 * h.val + 31 * a.val + c.val) = b (ix3 h a c) := by
  unfold tab
  rw [dif_pos (by omega)]
  pointwise

/-- A row of a grid array, by image. -/
theorem rows_apply (x : FVec Ideal S40960x1024 .bf16) (i : Fin 10) (n : Fin 4096) (l : Fin 1024) :
    shapeCast S10x4096x1024 x shapeCasts_S40960x1024_S10x4096x1024 (ix3 i n l) = x (ix2 ⟨4096 * i.val + n.val, by omega⟩ l) := by
  pointwise
  refine congrArg x ?_
  funext a'
  refine Fin.ext ?_
  match a' with
  | ⟨0, _⟩ => show _ = 4096 * i.val + n.val; simp; omega
  | ⟨1, _⟩ => show _ = l.val; simp; try omega

/-- A row of a context array, by head. -/
theorem ctx_apply (x : FVec Ideal S8x512x16x64 .f32) (i : Fin 8) (j : Fin 512) (h : Fin 16) (d : Fin 64) :
    (truncf (F := Ideal) .bf16 (shapeCast S8x512x1024 x shapeCasts_S8x512x16x64_S8x512x1024) bitsLt_bf16_f32)
      (ix3 i j ⟨64 * h.val + d.val, by omega⟩) = x (ix4 i j h d) := by
  pointwise

/-- The scale as a real. -/
theorem eighth_eq : eighth = (((1 : ℝ) / 8 : ℝ) : EReal) := by
  simp [eighth, Ideal.ofBits, Ideal.ieee, -EReal.coe_mul]; norm_num
/-- The reference's scale as a real. -/
theorem scale_eq : Ideal.ofBits .f32 0x3E000000#32 = (((1 : ℝ) / 8 : ℝ) : EReal) := by
  simp [Ideal.ofBits, Ideal.ieee, -EReal.coe_mul]; norm_num

/-- The factor one eighth may be taken out of the sum. -/
theorem scaled {n : ℕ} (f g : Fin n → EReal) :
    ∑ d, f d * eighth * g d = (∑ d, f d * g d) * Ideal.ofBits .f32 0x3E000000#32 := by
  rw [scale_eq, sum_mul_of_nonneg _ _ _ (EReal.coe_nonneg.mpr (by norm_num)) (EReal.coe_ne_top _), eighth_eq]
  exact Finset.sum_congr rfl fun d _ => mul_right_comm _ _ _

/-- The sum of reals, as extended reals. -/
theorem coe_sum {n : ℕ} (f : Fin n → ℝ) : ((∑ d, f d : ℝ) : EReal) = ∑ d, (f d : EReal) := by
  induction n with
  | zero => simp
  | succ n ih => rw [Fin.sum_univ_succ, Fin.sum_univ_succ, EReal.coe_add, ih]

/-- A finite sum of products of reals is a real. -/
theorem sum_mul_real {n : ℕ} (f g : Fin n → EReal) (hf : ∀ i, ∃ r : ℝ, f i = (r : EReal)) (hg : ∀ i, ∃ r : ℝ, g i = (r : EReal)) :
    ∃ r : ℝ, (∑ d, f d * g d) * Ideal.ofBits .f32 0x3E000000#32 = (r : EReal) := by
  choose u hu using hf
  choose w hw using hg
  refine ⟨(∑ d, u d * w d) * (1 / 8), ?_⟩
  rw [scale_eq, EReal.coe_mul]
  refine congrArg (· * _) ?_
  rw [coe_sum]
  exact Finset.sum_congr rfl fun d _ => by rw [hu, hw, EReal.coe_mul]

section
variable (q k v : FVec Ideal S40960x1024 .bf16) (kc vc : FVec Ideal S8x512x16x64 .f32) (b : FVec Ideal S16x15x31 .f32)
variable (i : Fin 8) (h g : Fin 16) (rl : Fin 4) (c d : Fin 64)

/-- The score of a loaded key. -/
def sKey (j : Fin 768) : EReal :=
  (∑ d : Fin 64, q (ix2 ⟨4096 * (i.val + 2) + (64 * (4 * g.val + rl.val) + c.val), by omega⟩ ⟨64 * h.val + d.val, by omega⟩) * eighth
      * k (ix2 ⟨4096 * (i.val + 2) + (64 * key0 g.val + j.val), by have := key0_le g.val; omega⟩ ⟨64 * h.val + d.val, by omega⟩))
    + biasAt h.val (shapeCast S7440 b shapeCasts_S16x15x31_S7440) (cls g.val) rl.val c.val (j.val / 64) (j.val % 64)

/-- The score of a context key. -/
def sCtx (j : Fin 512) : EReal :=
  ∑ d : Fin 64, q (ix2 ⟨4096 * (i.val + 2) + (64 * (4 * g.val + rl.val) + c.val), by omega⟩ ⟨64 * h.val + d.val, by omega⟩) * eighth
      * kc (ix4 i j h d)

/-- The two calls' result at an index, as a softmax over the loaded keys and the context keys. -/
theorem result_soft : result q k v kc vc b (ix3 i ⟨64 * (4 * g.val + rl.val) + c.val, by omega⟩ ⟨64 * h.val + d.val, by omega⟩)
    = soft (sKey q k b i h g rl c) (sCtx q kc i h g rl c)
        (fun j => v (ix2 ⟨4096 * (i.val + 2) + (64 * key0 g.val + j.val), by have := key0_le g.val; omega⟩ ⟨64 * h.val + d.val, by omega⟩))
        (fun j => vc (ix4 i j h d)) := by
  have hg : (64 * (4 * g.val + rl.val) + c.val) / 256 = g.val := by omega
  have hr : (64 * (4 * g.val + rl.val) + c.val) % 256 = 64 * rl.val + c.val := by omega
  have hh : (64 * h.val + d.val) / 64 = h.val := by omega
  show attnArr _ _ _ _ _ _ i ⟨64 * (4 * g.val + rl.val) + c.val, _⟩ ⟨64 * h.val + d.val, _⟩ = _
  unfold attnArr
  simp only [hg, hr, hh, rows_apply, ctx_apply]
  have e1 : (64 * rl.val + c.val) / 64 = rl.val := by omega
  have e2 : (64 * rl.val + c.val) % 64 = c.val := by omega
  refine soft_congr (fun j => ?_) (fun _ => rfl) (fun _ => rfl) (fun _ => rfl)
  refine congrArg₂ (· + ·) rfl ?_
  show biasAt h.val _ (cls g.val) ((64 * rl.val + c.val) / 64) ((64 * rl.val + c.val) % 64) (j.val / 64) (j.val % 64) = _
  rw [e1, e2]

/-- The grid key a loaded key is. -/
def key (j : Fin 768) : Fin 4096 := ⟨64 * key0 g.val + j.val, by have := key0_le g.val; omega⟩

/-- The reference's score of a loaded key is the kernel's. -/
theorem score_key (j : Fin 768) :
    scores q k kc b i h ⟨64 * (4 * g.val + rl.val) + c.val, by omega⟩ (Fin.castAdd 512 (key g j)) = sKey q k b i h g rl c j := by
  have hk := key0_le g.val
  have ek : key g j = ⟨64 * (⟨key0 g.val + j.val / 64, by omega⟩ : Fin 64).val + (⟨j.val % 64, by omega⟩ : Fin 64).val, by simp only; omega⟩ :=
    Fin.ext (by show 64 * key0 g.val + j.val = 64 * (key0 g.val + j.val / 64) + j.val % 64; omega)
  rw [ek, scores_grid q k kc b i h ⟨4 * g.val + rl.val, by omega⟩ c]
  unfold sKey
  rw [scaled]
  unfold biasAt
  rw [drow_eq g rl ⟨j.val / 64, by omega⟩]
  have ej : 64 * (key0 g.val + j.val / 64) + j.val % 64 = 64 * key0 g.val + j.val := by omega
  simp only [ej]
  by_cases h1 : row0 (4 * g.val + rl.val) ≤ key0 g.val + j.val / 64 ∧ key0 g.val + j.val / 64 < row0 (4 * g.val + rl.val) + 8
  · by_cases h2 : col0 c.val ≤ j.val % 64 ∧ j.val % 64 < col0 c.val + 16
    · simp only [h1, h2, and_self, if_true]
      refine congrArg _ ?_
      have hc : j.val % 64 + 15 - c.val ≤ 30 := by unfold col0 at h2; omega
      have := tab_apply b h ⟨min 14 (key0 g.val + j.val / 64 + 7 - (4 * g.val + rl.val)), by omega⟩ ⟨j.val % 64 + 15 - c.val, by omega⟩
      refine Eq.trans ?_ this.symm
      refine congrArg b (congrArg₂ (ix3 h) rfl (Fin.ext ?_))
      exact min_eq_right hc
    · simp only [h1, h2, and_false, if_false, and_self, if_true]
      exact (EReal.add_bot _).symm
  · simp only [h1, false_and, if_false]
    exact (EReal.add_bot _).symm

/-- The reference's score of a key that is not loaded is minus infinity. -/
theorem score_off (x : Fin 4096) (hx : x ∉ Set.range (key g)) :
    scores q k kc b i h ⟨64 * (4 * g.val + rl.val) + c.val, by omega⟩ (Fin.castAdd 512 x) = ⊥ := by
  have ek : x = ⟨64 * (⟨x.val / 64, by omega⟩ : Fin 64).val + (⟨x.val % 64, by omega⟩ : Fin 64).val, by simp only; omega⟩ :=
    Fin.ext (by show x.val = 64 * (x.val / 64) + x.val % 64; omega)
  have hout : x.val < 64 * key0 g.val ∨ 64 * key0 g.val + 768 ≤ x.val := by
    by_contra hcon
    exact hx ⟨⟨x.val - 64 * key0 g.val, by omega⟩, Fin.ext (by show 64 * key0 g.val + (x.val - 64 * key0 g.val) = x.val; omega)⟩
  rw [ek, scores_grid q k kc b i h ⟨4 * g.val + rl.val, by omega⟩ c]
  refine if_neg fun hin => ?_
  have h1 := hin.1
  simp only at h1
  unfold key0 at hout
  unfold row0 at h1
  omega

variable (hq : ∀ x, ∃ r : ℝ, q x = (r : EReal)) (hk : ∀ x, ∃ r : ℝ, k x = (r : EReal)) (hkc : ∀ x, ∃ r : ℝ, kc x = (r : EReal))
  (hb : ∀ x, ∃ r : ℝ, b x = (r : EReal))
include hq hk hb in
theorem sKey_ne_top (j : Fin 768) : sKey q k b i h g rl c j ≠ ⊤ := by
  unfold sKey
  rw [scaled]
  obtain ⟨r, hr⟩ := sum_mul_real (fun d : Fin 64 => q (ix2 ⟨4096 * (i.val + 2) + (64 * (4 * g.val + rl.val) + c.val), by omega⟩ ⟨64 * h.val + d.val, by omega⟩))
    (fun d : Fin 64 => k (ix2 ⟨4096 * (i.val + 2) + (64 * key0 g.val + j.val), by have := key0_le g.val; omega⟩ ⟨64 * h.val + d.val, by omega⟩))
    (fun _ => hq _) (fun _ => hk _)
  rw [hr]
  have ht : ∀ n, ∃ t : ℝ, tab (shapeCast S7440 b shapeCasts_S16x15x31_S7440) n = (t : EReal) := fun n => by
    unfold tab
    by_cases hn : n < 7440
    · rw [dif_pos hn]; exact hb _
    · rw [dif_neg hn]; exact ⟨0, rfl⟩
  unfold biasAt
  split
  · rw [EReal.add_bot]; exact bot_ne_top
  · split_ifs
    · obtain ⟨t, et⟩ := ht _
      rw [et, ← EReal.coe_add]; exact EReal.coe_ne_top _
    · rw [EReal.add_bot]; exact bot_ne_top

include hq hkc in
theorem sCtx_real (j : Fin 512) : ∃ r : ℝ, sCtx q kc i h g rl c j = (r : EReal) := by
  unfold sCtx
  rw [scaled]
  exact sum_mul_real _ _ (fun _ => hq _) (fun _ => hkc _)

include hq hk hkc hb in
/-- The two calls' result at an index is the reference's. -/
theorem result_at : result q k v kc vc b (ix3 i ⟨64 * (4 * g.val + rl.val) + c.val, by omega⟩ ⟨64 * h.val + d.val, by omega⟩)
    = Cert.ReferenceIdeal.Read.val_main_v100 (F := Ideal) q k v kc vc b
        (ix3 i ⟨64 * (4 * g.val + rl.val) + c.val, by omega⟩ ⟨64 * h.val + d.val, by omega⟩) := by
  rw [result_soft, v100_apply]
  refine soft_eq_dense (key g) (fun j j' e => ?_) 0 _ _ _ _ _ _ (score_key q k kc b i h g rl c) (score_off q k kc b i h g rl c) (fun l => ?_)
    (fun _ => rfl) (sKey_ne_top q k b i h g rl c hq hk hb) (sCtx_real q kc i h g rl c hq hkc)
  · have e' : 64 * key0 g.val + j.val = 64 * key0 g.val + j'.val := congrArg Fin.val e
    exact Fin.ext (by omega)
  · rw [scores_ctx]
    unfold sCtx
    rw [scaled]

end

/-- With finite queries, keys, cached keys and biases the two calls leave the reference's result. -/
theorem result_eq (q k v : FVec Ideal S40960x1024 .bf16) (kc vc : FVec Ideal S8x512x16x64 .f32) (b : FVec Ideal S16x15x31 .f32)
    (hq : ∀ x, ∃ r : ℝ, q x = (r : EReal)) (hk : ∀ x, ∃ r : ℝ, k x = (r : EReal)) (hkc : ∀ x, ∃ r : ℝ, kc x = (r : EReal))
    (hb : ∀ x, ∃ r : ℝ, b x = (r : EReal)) :
    result q k v kc vc b = Cert.ReferenceIdeal.Read.val_main_v100 (F := Ideal) q k v kc vc b := by
  funext y
  have h0 : (y 0).val < 8 := (y 0).isLt
  have h1 : (y 1).val < 4096 := (y 1).isLt
  have h2 : (y 2).val < 1024 := (y 2).isLt
  have := result_at q k v kc vc b ⟨(y 0).val, h0⟩ ⟨(y 2).val / 64, by omega⟩ ⟨(y 1).val / 256, by omega⟩ ⟨(y 1).val / 64 % 4, by omega⟩
    ⟨(y 1).val % 64, by omega⟩ ⟨(y 2).val % 64, by omega⟩ hq hk hkc hb
  have ey : y = ix3 ⟨(y 0).val, h0⟩ ⟨64 * (4 * ((y 1).val / 256) + (y 1).val / 64 % 4) + (y 1).val % 64, by omega⟩
      ⟨64 * ((y 2).val / 64) + (y 2).val % 64, by omega⟩ := by
    funext a
    refine Fin.ext ?_
    match a with
    | ⟨0, _⟩ => rfl
    | ⟨1, _⟩ => show (y 1).val = 64 * (4 * ((y 1).val / 256) + (y 1).val / 64 % 4) + (y 1).val % 64; omega
    | ⟨2, _⟩ => show (y 2).val = 64 * ((y 2).val / 64) + (y 2).val % 64; omega
  rw [ey]
  exact this

end Cert.KernelIdeal.Same
-- ==== Proof.MoePay.lean ====
module
public import proofs.«01_k».proof.Proof.Gen.MoeIdeal.Skeleton
public import Idealize.ShloMosaic.Lib.Pointwise
@[expose] public section
set_option maxRecDepth 16384
noncomputable section
namespace Cert.MoeIdeal.Pay
open Idealize.ShloMosaic Cert.MoeIdeal Cert.MoeIdeal.Gen
open scoped BigOperators

/-! # The values one grid point of the mixture-of-experts kernel stores, entry by entry -/

/-- The SiLU activation. -/
def silu (x : EReal) : EReal := x * Ideal.logistic x

/-- A sum over 128 lanes that keeps lane `e`. -/
theorem lane_sum (e : Fin 64) (f : Fin 128 → EReal) :
    ∑ l : Fin 128, Scalar.select (IntOp.cmpi .eq (BitVec.ofNat 32 l.val) (BitVec.ofNat 32 e.val)) (f l) 0
      = f ⟨e.val, by omega⟩ := by
  have hc : ∀ (l : Fin 128) (e : Fin 64), IntOp.cmpi .eq (BitVec.ofNat 32 l.val) (BitVec.ofNat 32 e.val)
      = if l.val = e.val then 1#1 else 0#1 := by decide +kernel
  rw [Finset.sum_eq_single (⟨e.val, by omega⟩ : Fin 128)]
  · rw [hc, if_pos rfl]; rfl
  · intro l _ hl
    rw [hc, if_neg (fun h => hl (Fin.ext h))]; rfl
  · intro h; exact absurd (Finset.mem_univ _) h

theorem pay1_apply (x : Vec Ideal S1024x1024 .f32) (g : Vec Ideal S1x1x1024 .f32) (a : Vec Ideal S1024x1024 .f32) (r l : Fin 1024) :
    k0_pay1 x g a (ix2 r l) = x (ix2 r l) + g (ix3 0 0 l) * a (ix2 r l) := by
  pointwise [k0_pay1]

theorem pay2_apply (h : Vec Ideal S1024x1024 .bf16) (w : Vec Ideal S1024x512 .bf16) (d : Vec Ideal S256x1024 .bf16) (r l : Fin 1024) :
    k0_pay2 h w d (ix2 r l) = ∑ f : Fin 256, silu (∑ k : Fin 1024, h (ix2 r k) * w (ix2 k ⟨f.val, by omega⟩))
      * (∑ k : Fin 1024, h (ix2 r k) * w (ix2 k ⟨256 + f.val, by omega⟩)) * d (ix2 f l) := by
  pointwise [k0_pay2]
  rfl

theorem pay3_apply (i : grid0.Coords) (h : Vec Ideal S1024x1024 .bf16) (w : Vec Ideal S1x1024x512 .bf16) (g : Vec Ideal S1024x128 .f32)
    (a : Vec Ideal S1024x1024 .f32) (d : Vec Ideal S1x256x1024 .bf16) (r l : Fin 1024) (e : Fin 64) (he : (i 1).val = e.val) :
    k0_pay3 i h w g a d (ix2 r l) = a (ix2 r l) + ∑ f : Fin 256, silu (∑ k : Fin 1024, h (ix2 r k) * w (ix3 0 k ⟨f.val, by omega⟩))
      * (∑ k : Fin 1024, h (ix2 r k) * w (ix3 0 k ⟨256 + f.val, by omega⟩)) * g (ix2 r ⟨e.val, by omega⟩) * d (ix3 0 f l) := by
  pointwise [k0_pay3]
  rw [he]
  simp only [lane_sum]
  rfl

end Cert.MoeIdeal.Pay
-- ==== Proof.MoePoint.lean ====
module
public import proofs.«01_k».proof.Proof.Gen.MoeIdeal.Frame
public import proofs.«01_k».proof.Proof.MoePay
public import Idealize.ShloMosaic.Lib.Pipeline.Value
@[expose] public section
set_option maxRecDepth 16384
noncomputable section
namespace Cert.MoeIdeal.Point
open Idealize.ShloMosaic Cert.MoeIdeal Cert.MoeIdeal.Gen

/-! # What one grid point of the mixture-of-experts kernel leaves in its accumulator and in its output block -/

theorem z2 : (![0, 0] : Fin 2 → ℕ) = fun _ => 0 := funext fun a => by fin_cases a <;> rfl
theorem z3 : (![0, 0, 0] : Fin 3 → ℕ) = fun _ => 0 := funext fun a => by fin_cases a <;> rfl

variable (c : Dev nD) (i : grid0.Coords)
  (b0 : Memref sig .tc .vmem S1024x1024 .bf16) (h0 : b0.IsWhole) (b1 : Memref sig .tc .vmem S1024x128 .f32) (h1 : b1.IsWhole)
  (b2 : Memref sig .tc .vmem S1024x1024 .f32) (h2 : b2.IsWhole) (b3 : Memref sig .tc .vmem S1x6x1024 .f32) (h3 : b3.IsWhole)
  (b4 : Memref sig .tc .vmem S1x1024x512 .bf16) (h4 : b4.IsWhole) (b5 : Memref sig .tc .vmem S1x256x1024 .bf16) (h5 : b5.IsWhole)
  (b6 : Memref sig .tc .vmem S1024x512 .bf16) (h6 : b6.IsWhole) (b7 : Memref sig .tc .vmem S256x1024 .bf16) (h7 : b7.IsWhole)
  (b8 : Memref sig .tc .vmem S1024x1024 .f32) (h8 : b8.IsWhole) (b9 : Memref sig .tc .vmem S1024x1024 .f32) (h9 : b9.IsWhole)
  (x0 : Vec Ideal S1024x1024 .bf16) (x1 : Vec Ideal S1024x128 .f32) (x2 : Vec Ideal S1024x1024 .f32) (x3 : Vec Ideal S1x6x1024 .f32)
  (x4 : Vec Ideal S1x1024x512 .bf16) (x5 : Vec Ideal S1x256x1024 .bf16) (x6 : Vec Ideal S1024x512 .bf16) (x7 : Vec Ideal S256x1024 .bf16)
  (acc : Vec Ideal S1024x1024 .f32)

/-- At the first expert the accumulator ends with the shared expert's output plus the first expert's. -/
theorem first (hc0 : cond0_0 i) (hc1 : ¬cond0_1 i) :
    sout0_A_0 (F := Ideal) c i b0 h0 b1 h1 b2 h2 b3 h3 b4 h4 b5 h5 b6 h6 b7 h7 b8 h8 b9 h9 hc0 hc1 x0 x1 x2 x3 x4 x5 x6 x7
      = k0_pay3 i x0 x4 x1 (k0_pay2 x0 x6 x7) x5 := by
  unfold sout0_A_0
  rw [View.read_writes_eq_canon _ _ _ (scover0_A_0 c i b0 h0 b1 h1 b2 h2 b3 h3 b4 h4 b5 h5 b6 h6 b7 h7 b8 h8 b9 h9 hc0 hc1 x0 x1 x2 x3 x4 x5 x6 x7)]
  unfold kernelRun0_A
  dsimp only
  sl_unfold_words
  rw [View.canon_cons_unit_zero (S := S1024x1024) z2, View.readCov_unit_zero (S := S1024x1024) _ z2]
  simp only [View.readAt_eq_ld, Memref.IsWhole.read_unread, View.ld_unit_zero (S := S1024x1024) z2, View.ld_unit_zero (S := S1024x128) z2,
    View.ld_unit_zero (S := S1x1024x512) z3, View.ld_unit_zero (S := S1x256x1024) z3, View.ld_unit_zero (S := S1024x512) z2,
    View.ld_unit_zero (S := S256x1024) z2]

/-- At an inner expert the accumulator gains that expert's output. -/
theorem inner (hc0 : ¬cond0_0 i) (hc1 : ¬cond0_1 i) :
    sout0_B_0 (F := Ideal) c i b0 h0 b1 h1 b2 h2 b3 h3 b4 h4 b5 h5 b6 h6 b7 h7 b8 h8 b9 h9 hc0 hc1 x0 x1 x2 x3 x4 x5 x6 x7 acc
      = k0_pay3 i x0 x4 x1 acc x5 := by
  unfold sout0_B_0
  rw [View.read_writes_eq_canon _ _ _ (scover0_B_0 c i b0 h0 b1 h1 b2 h2 b3 h3 b4 h4 b5 h5 b6 h6 b7 h7 b8 h8 b9 h9 hc0 hc1 x0 x1 x2 x3 x4 x5 x6 x7 acc)]
  unfold kernelRun0_B
  dsimp only
  sl_unfold_words
  rw [View.canon_unit_zero (S := S1024x1024) z2]
  simp only [View.readAt_eq_ld, Memref.IsWhole.read_unread, View.ld_unit_zero (S := S1024x1024) z2, View.ld_unit_zero (S := S1024x128) z2,
    View.ld_unit_zero (S := S1x1024x512) z3, View.ld_unit_zero (S := S1x256x1024) z3]

/-- At the last expert likewise. -/
theorem last (hc0 : ¬cond0_0 i) (hc1 : cond0_1 i) :
    sout0_C_0 (F := Ideal) c i b0 h0 b1 h1 b2 h2 b3 h3 b4 h4 b5 h5 b6 h6 b7 h7 b8 h8 b9 h9 hc0 hc1 x0 x1 x2 x3 x4 x5 x6 x7 acc
      = k0_pay3 i x0 x4 x1 acc x5 := by
  unfold sout0_C_0
  rw [View.read_writes_eq_canon _ _ _ (scover0_C_0 c i b0 h0 b1 h1 b2 h2 b3 h3 b4 h4 b5 h5 b6 h6 b7 h7 b8 h8 b9 h9 hc0 hc1 x0 x1 x2 x3 x4 x5 x6 x7 acc)]
  unfold kernelRun0_C
  dsimp only
  sl_unfold_words
  rw [View.canon_unit_zero (S := S1024x1024) z2]
  simp only [View.readAt_eq_ld, Memref.IsWhole.read_unread, View.ld_unit_zero (S := S1024x1024) z2, View.ld_unit_zero (S := S1024x128) z2,
    View.ld_unit_zero (S := S1x1024x512) z3, View.ld_unit_zero (S := S1x256x1024) z3]

/-- The gate row of the modulation that the kernel loads: row 5 of six. -/
def gateRow : Vec Ideal S1x1x1024 .f32 :=
  View.ld (Val := Elt Ideal) (e' := .f32) x3 (Rect.unit (s := S1x6x1024) ![0, 5, 0] S1x1x1024.size inb_S1x6x1024_S1x1x1024_0_5_0)

/-- At the last expert the output block is the residual plus the gate row times the accumulator as that point leaves it. -/
theorem out (hc0 : ¬cond0_0 i) (hc1 : cond0_1 i) :
    out0_C_8 (F := Ideal) c i b0 h0 b1 h1 b2 h2 b3 h3 b4 h4 b5 h5 b6 h6 b7 h7 b8 h8 b9 h9 hc0 hc1 x0 x1 x2 x3 x4 x5 x6 x7 acc
      = k0_pay1 x2 (gateRow x3) (k0_pay3 i x0 x4 x1 acc x5) := by
  unfold out0_C_8
  rw [View.read_writes_eq_canon _ _ _ (cover0_C_8 c i b0 h0 b1 h1 b2 h2 b3 h3 b4 h4 b5 h5 b6 h6 b7 h7 b8 h8 b9 h9 hc0 hc1 x0 x1 x2 x3 x4 x5 x6 x7 acc)]
  unfold kernelRun0_C
  dsimp only
  sl_unfold_words
  rw [View.canon_unit_zero (S := S1024x1024) z2, View.readCov_unit_zero (S := S1024x1024) _ z2]
  simp only [View.readAt_eq_ld, Memref.IsWhole.read_unread, View.ld_unit_zero (S := S1024x1024) z2, View.ld_unit_zero (S := S1024x128) z2,
    View.ld_unit_zero (S := S1x1024x512) z3, View.ld_unit_zero (S := S1x256x1024) z3]
  rfl

end Cert.MoeIdeal.Point
-- ==== Proof.MoeRun.lean ====
module
public import proofs.«01_k».proof.Proof.MoePoint
public import proofs.«01_k».proof.Proof.Gen.MoeIdeal.Value
public import Idealize.ShloMosaic.Lib.Pipeline.ValueKit
public import Idealize.ShloMosaic.Lib.StableHlo.Run
@[expose] public section
set_option maxRecDepth 16384
noncomputable section
namespace Cert.MoeIdeal.Run
open Idealize.ShloMosaic Idealize.ShloMosaic.TcCoe Cert.MoeIdeal Cert.MoeIdeal.Gen Cert.MoeIdeal.Pay
open scoped BigOperators

/-! # The run of the mixture-of-experts call: the array it leaves, from the arrays it reads -/

/-- The shared expert's output at token `n` and channel `l`: `w` holds the gate projection in columns 0 to 255 and the up
    projection in columns 256 to 511, `d` the down projection. -/
def shared (h : FVec Ideal S40960x1024 .bf16) (w : FVec Ideal S1024x512 .bf16) (d : FVec Ideal S256x1024 .bf16)
    (n : Fin 40960) (l : Fin 1024) : EReal :=
  ∑ f : Fin 256, silu (∑ k : Fin 1024, h (ix2 n k) * w (ix2 k ⟨f.val, by omega⟩))
      * (∑ k : Fin 1024, h (ix2 n k) * w (ix2 k ⟨256 + f.val, by omega⟩)) * d (ix2 f l)

/-- Expert `e`'s output at token `n` and channel `l`, weighted by the token's gate for that expert. -/
def expert (h : FVec Ideal S40960x1024 .bf16) (g : FVec Ideal S40960x128 .f32) (w : FVec Ideal S64x1024x512 .bf16)
    (d : FVec Ideal S64x256x1024 .bf16) (n : Fin 40960) (l : Fin 1024) (e : Fin 64) : EReal :=
  ∑ f : Fin 256, silu (∑ k : Fin 1024, h (ix2 n k) * w (ix3 e k ⟨f.val, by omega⟩))
      * (∑ k : Fin 1024, h (ix2 n k) * w (ix3 e k ⟨256 + f.val, by omega⟩)) * g (ix2 n ⟨e.val, by omega⟩) * d (ix3 e f l)

/-- The accumulator after expert `e` of the token's pass. -/
def accum (h : FVec Ideal S40960x1024 .bf16) (g : FVec Ideal S40960x128 .f32) (w : FVec Ideal S64x1024x512 .bf16)
    (d : FVec Ideal S64x256x1024 .bf16) (sw : FVec Ideal S1024x512 .bf16) (sd : FVec Ideal S256x1024 .bf16)
    (n : Fin 40960) (l : Fin 1024) (e : ℕ) : EReal :=
  shared h sw sd n l + ∑ j ∈ Finset.range (e + 1), expert h g w d n l ⟨j % 64, Nat.mod_lt _ (by decide)⟩

theorem coord1 : ∀ t : Fin grid0.N, (grid0.coords t 1).val = t.val % 64 := by decide +kernel
theorem idx_0 : ∀ t : Fin grid0.N, win0_0.index t = ![t.val / 64, 0] := by decide +kernel
theorem idx_1 : ∀ t : Fin grid0.N, win0_1.index t = ![t.val / 64, 0] := by decide +kernel
theorem idx_2 : ∀ t : Fin grid0.N, win0_2.index t = ![t.val / 64, 0] := by decide +kernel
theorem idx_4 : ∀ t : Fin grid0.N, win0_4.index t = ![t.val % 64, 0, 0] := by decide +kernel
theorem idx_5 : ∀ t : Fin grid0.N, win0_5.index t = ![t.val % 64, 0, 0] := by decide +kernel
theorem idx_6 : ∀ t : Fin grid0.N, win0_6.index t = ![0, 0] := by decide +kernel
theorem idx_7 : ∀ t : Fin grid0.N, win0_7.index t = ![0, 0] := by decide +kernel
theorem idx_8 : ∀ t : Fin grid0.N, win0_8.index t = ![t.val / 64, 0] := by decide +kernel

/-- The row of the modulation that a block of 1024 tokens uses: row 0 for the prompt's eight blocks, then one row for every
    four blocks. -/
def modRow (b : ℕ) : ℕ := if b < 8 then 0 else 1 + (b - 8) / 4

theorem idx_3 : ∀ t : Fin grid0.N, win0_3.index t = ![modRow (t.val / 64), 0, 0] := by decide +kernel

variable (m : (ℓ : Loc nD τ sig) → Buf (Elt Ideal) ℓ)

theorem blk_0 (c : Dev nD) (t : Fin cfg0.N) (r k : Fin 1024) (n : Fin 40960) (hn : n.val = 1024 * (t.val / 64) + r.val) :
    (iblk m c 0 t : FVec Ideal S1024x1024 .bf16) (ix2 r k) = (V m c main_arg1 : FVec Ideal S40960x1024 .bf16) (ix2 n k) := by
  blk_ext [iblk, idx_0, hn]

theorem blk_1 (c : Dev nD) (t : Fin cfg0.N) (r : Fin 1024) (k : Fin 128) (n : Fin 40960) (hn : n.val = 1024 * (t.val / 64) + r.val) :
    (iblk m c 1 t : FVec Ideal S1024x128 .f32) (ix2 r k) = (V m c main_arg2 : FVec Ideal S40960x128 .f32) (ix2 n k) := by
  blk_ext [iblk, idx_1, hn]

theorem blk_2 (c : Dev nD) (t : Fin cfg0.N) (r k : Fin 1024) (n : Fin 40960) (hn : n.val = 1024 * (t.val / 64) + r.val) :
    (iblk m c 2 t : FVec Ideal S1024x1024 .f32) (ix2 r k) = (V m c main_arg0 : FVec Ideal S40960x1024 .f32) (ix2 n k) := by
  blk_ext [iblk, idx_2, hn]

theorem blk_3 (c : Dev nD) (t : Fin cfg0.N) (s : Fin 6) (k : Fin 1024) (i : Fin 16) (hi : i.val = modRow (t.val / 64)) :
    (iblk m c 3 t : FVec Ideal S1x6x1024 .f32) (ix3 0 s k) = (V m c main_arg3 : FVec Ideal S16x6x1024 .f32) (ix3 i s k) := by
  blk_ext [iblk, idx_3, hi]

theorem blk_4 (c : Dev nD) (t : Fin cfg0.N) (k : Fin 1024) (j : Fin 512) (e : Fin 64) (he : e.val = t.val % 64) :
    (iblk m c 4 t : FVec Ideal S1x1024x512 .bf16) (ix3 0 k j) = (V m c main_v1 : FVec Ideal S64x1024x512 .bf16) (ix3 e k j) := by
  blk_ext [iblk, idx_4, he]

theorem blk_5 (c : Dev nD) (t : Fin cfg0.N) (f : Fin 256) (l : Fin 1024) (e : Fin 64) (he : e.val = t.val % 64) :
    (iblk m c 5 t : FVec Ideal S1x256x1024 .bf16) (ix3 0 f l) = (V m c main_v4 : FVec Ideal S64x256x1024 .bf16) (ix3 e f l) := by
  blk_ext [iblk, idx_5, he]

theorem blk_6 (c : Dev nD) (t : Fin cfg0.N) (k : Fin 1024) (j : Fin 512) :
    (iblk m c 6 t : FVec Ideal S1024x512 .bf16) (ix2 k j) = (V m c main_v3 : FVec Ideal S1024x512 .bf16) (ix2 k j) := by
  blk_ext [iblk, idx_6]

theorem blk_7 (c : Dev nD) (t : Fin cfg0.N) (f : Fin 256) (l : Fin 1024) :
    (iblk m c 7 t : FVec Ideal S256x1024 .bf16) (ix2 f l) = (V m c main_v5 : FVec Ideal S256x1024 .bf16) (ix2 f l) := by
  blk_ext [iblk, idx_7]

end Cert.MoeIdeal.Run
-- ==== Proof.MoeAcc.lean ====
module
public import proofs.«01_k».proof.Proof.MoeRun
@[expose] public section
set_option maxRecDepth 16384
noncomputable section
namespace Cert.MoeIdeal.Run
open Idealize.ShloMosaic Idealize.ShloMosaic.TcCoe Cert.MoeIdeal Cert.MoeIdeal.Gen Cert.MoeIdeal.Pay
open scoped BigOperators

/-! # The accumulator point by point, and the array the call leaves -/

variable (m : (ℓ : Loc nD τ sig) → Buf (Elt Ideal) ℓ)

/-- The accumulator of the arrays the call reads. -/
def accumV (c : Dev nD) (n : Fin 40960) (l : Fin 1024) (e : ℕ) : EReal :=
  accum (V m c main_arg1) (V m c main_arg2) (V m c main_v1) (V m c main_v4) (V m c main_v3) (V m c main_v5) n l e

/-- One point adds its expert's output. -/
theorem point_step (c : Dev nD) (t : Fin cfg0.N) (a : Vec Ideal S1024x1024 .f32) (r l : Fin 1024) (n : Fin 40960)
    (hn : n.val = 1024 * (t.val / 64) + r.val) (e : Fin 64) (he : e.val = t.val % 64) :
    k0_pay3 (grid0.coords t) (iblk m c 0 t) (iblk m c 4 t) (iblk m c 1 t) a (iblk m c 5 t) (ix2 r l)
      = a (ix2 r l) + expert (V m c main_arg1) (V m c main_arg2) (V m c main_v1) (V m c main_v4) n l e := by
  refine (pay3_apply (grid0.coords t) (iblk m c 0 t) (iblk m c 4 t) (iblk m c 1 t) a (iblk m c 5 t) r l e
    ((coord1 t).trans he.symm)).trans ?_
  unfold expert
  refine congrArg _ (Finset.sum_congr rfl fun f _ => ?_)
  rw [blk_1 m c t r _ n hn, blk_5 m c t f l e he]
  simp only [blk_0 m c t r _ n hn, blk_4 m c t _ _ e he]

/-- The first point of a block's pass starts from the shared expert's output. -/
theorem point_shared (c : Dev nD) (t : Fin cfg0.N) (r l : Fin 1024) (n : Fin 40960)
    (hn : n.val = 1024 * (t.val / 64) + r.val) :
    k0_pay2 (iblk m c 0 t) (iblk m c 6 t) (iblk m c 7 t) (ix2 r l)
      = shared (V m c main_arg1) (V m c main_v3) (V m c main_v5) n l := by
  refine (pay2_apply (iblk m c 0 t) (iblk m c 6 t) (iblk m c 7 t) r l).trans ?_
  unfold shared
  refine Finset.sum_congr rfl fun f _ => ?_
  rw [blk_7 m c t f l]
  simp only [blk_0 m c t r _ n hn, blk_6 m c t]

/-- After point `t` the accumulator holds, for its block of tokens, the shared expert's output plus those of the experts up to
    the point's. -/
theorem acc_eq (c : Dev nD) : ∀ (t : ℕ) (ht : t < cfg0.N) (r l : Fin 1024) (n : Fin 40960), n.val = 1024 * (t / 64) + r.val →
    (outsAt0 m c t ht).2 (ix2 r l) = accumV m c n l (t % 64)
  | 0, ht, r, l, n, hn => by
    rw [outsAt0_A m c ⟨0, ht⟩ (Nat.zero_mod _) (show ¬0 % 64 = 63 by decide)]
    dsimp only
    rw [Point.first, point_step m c ⟨0, ht⟩ _ r l n hn ⟨0, by decide⟩ rfl, point_shared m c ⟨0, ht⟩ r l n hn]
    unfold accumV accum
    rw [Finset.sum_range_one]
  | t + 1, ht, r, l, n, hn => by
    by_cases h0 : (t + 1) % 64 = 0
    · have h1 : ¬(t + 1) % 64 = 63 := by omega
      rw [outsAt0_A m c ⟨t + 1, ht⟩ h0 h1]
      dsimp only
      rw [Point.first, point_step m c ⟨t + 1, ht⟩ _ r l n hn ⟨0, by decide⟩ h0.symm, point_shared m c ⟨t + 1, ht⟩ r l n hn, h0]
      unfold accumV accum
      rw [Finset.sum_range_one]
    · have hq : t / 64 = (t + 1) / 64 := by omega
      have hm : (t + 1) % 64 = t % 64 + 1 := by omega
      have ih := acc_eq c t (Nat.lt_of_succ_lt ht) r l n (by rw [hq]; exact hn)
      have hs : accumV m c n l (t % 64) + expert (V m c main_arg1) (V m c main_arg2) (V m c main_v1) (V m c main_v4) n l
          ⟨(t + 1) % 64, Nat.mod_lt _ (by decide)⟩ = accumV m c n l ((t + 1) % 64) := by
        unfold accumV accum
        simp only [hm]
        rw [Finset.sum_range_succ _ (t % 64 + 1), ← add_assoc]
        refine congrArg _ (congrArg _ (Fin.ext ?_))
        show t % 64 + 1 = (t % 64 + 1) % 64
        omega
      by_cases h1 : (t + 1) % 64 = 63
      · rw [outsAt0_C m c ⟨t + 1, ht⟩ h0 h1]
        dsimp only
        rw [Point.last, point_step m c ⟨t + 1, ht⟩ _ r l n hn ⟨(t + 1) % 64, Nat.mod_lt _ (by decide)⟩ rfl]
        exact (congrArg (· + _) ih).trans hs
      · rw [outsAt0_B m c ⟨t + 1, ht⟩ h0 h1]
        dsimp only
        rw [Point.inner, point_step m c ⟨t + 1, ht⟩ _ r l n hn ⟨(t + 1) % 64, Nat.mod_lt _ (by decide)⟩ rfl]
        exact (congrArg (· + _) ih).trans hs

/-- The row of the modulation that token `n` uses. -/
def modOf (n : Fin 40960) : Fin 16 := ⟨modRow (n.val / 1024), by unfold modRow; split_ifs <;> omega⟩

/-- The mixture's sum over the experts added to the residual under the modulation's gate, for any arrays. -/
def result (x : FVec Ideal S40960x1024 .f32) (h : FVec Ideal S40960x1024 .bf16) (g : FVec Ideal S40960x128 .f32)
    (md : FVec Ideal S16x6x1024 .f32) (w : FVec Ideal S64x1024x512 .bf16) (d : FVec Ideal S64x256x1024 .bf16)
    (sw : FVec Ideal S1024x512 .bf16) (sd : FVec Ideal S256x1024 .bf16) (n : Fin 40960) (l : Fin 1024) : EReal :=
  x (ix2 n l) + md (ix3 (modOf n) 5 l) * accum h g w d sw sd n l 63

/-- The array the call leaves, from the arrays it reads. -/
def resultV (c : Dev nD) (n : Fin 40960) (l : Fin 1024) : EReal :=
  result (V m c main_arg0) (V m c main_arg1) (V m c main_arg2) (V m c main_arg3) (V m c main_v1) (V m c main_v4) (V m c main_v3)
    (V m c main_v5) n l

theorem gateRow_apply (x : Vec Ideal S1x6x1024 .f32) (l : Fin 1024) : Point.gateRow x (ix3 0 0 l) = x (ix3 0 5 l) := by
  unfold Point.gateRow
  refine congrArg x (funext fun a => Fin.ext ?_)
  match a with
  | ⟨0, _⟩ => rfl
  | ⟨1, _⟩ => rfl
  | ⟨2, _⟩ => exact (Nat.zero_add _).trans (Nat.one_mul _)

/-- What the last point of a block's pass stores is that block of the array. -/
theorem block_out (c : Dev nD) (t : Fin cfg0.N) (h1 : t.val % 64 = 63) (r l : Fin 1024) (n : Fin 40960)
    (hn : n.val = 1024 * (t.val / 64) + r.val) :
    (outsAt0 m c t.val t.isLt).1 (ix2 r l) = resultV m c n l := by
  have h0 : ¬t.val % 64 = 0 := by omega
  have hacc := acc_eq m c t.val t.isLt r l n hn
  rw [outsAt0_C m c t h0 h1] at hacc ⊢
  dsimp only at hacc ⊢
  rw [Point.last, h1] at hacc
  rw [Point.out]
  refine (pay1_apply _ _ _ r l).trans ?_
  have hr : r.val < 1024 := r.isLt
  have hb : n.val / 1024 = t.val / 64 := by omega
  rw [hacc, gateRow_apply, blk_2 m c t r l n hn, blk_3 m c t 5 l (modOf n) (congrArg modRow hb)]
  rfl

/-- The same of the whole block. -/
theorem block_fun (c : Dev nD) (t : Fin cfg0.N) (h1 : t.val % 64 = 63) (hN : t.val < 2560) :
    (outsAt0 m c t.val t.isLt).1 = fun y : S1024x1024.Idx =>
      resultV m c ⟨1024 * (t.val / 64) + (y 0).val, by have := (y 0).isLt; have : (y 0).val < 1024 := this; omega⟩ (y 1) := by
  funext y
  have hy : y = ix2 (y 0) (y 1) := by funext a; match a with | ⟨0, _⟩ => rfl | ⟨1, _⟩ => rfl
  exact (congrArg (outsAt0 m c t.val t.isLt).1 hy).trans (block_out m c t h1 (y 0) (y 1) _ rfl)

theorem resultV_congr (c : Dev nD) {n n' : Fin 40960} {l l' : Fin 1024} (hn : n.val = n'.val) (hl : l.val = l'.val) :
    resultV m c n l = resultV m c n' l' := by
  rw [Fin.ext hn, Fin.ext hl]

/-- The call's output array. -/
theorem final (c : Dev nD) : (dats m 0 c).arrAt 8 cfg0.N = fun y : S40960x1024.Idx => resultV m c (y 0) (y 1) := by
  refine (dats m 0 c).arrAt_eq_of_covers 8 _ (by decide +kernel) fun t hf y => ?_
  have hN : t.val < 2560 := lt_of_lt_of_eq t.isLt (show cfg0.N = 2560 from N_0)
  blk_simp
  rw [after0_8, block_fun m c t ((flush0_8 t).mp hf) hN]
  refine resultV_congr m c ?_ ?_
  · show 1024 * (t.val / 64) + (y 0).val = _
    blk_simp [idx_8]; omega
  · blk_simp [idx_8]

end Cert.MoeIdeal.Run
-- ==== Proof.MoeHost.lean ====
module
public import proofs.«01_k».proof.Proof.MoeAcc
@[expose] public section
set_option maxRecDepth 16384
noncomputable section
namespace Cert.MoeIdeal.Run
open Idealize.ShloMosaic Idealize.ShloMosaic.TcCoe Cert.MoeIdeal Cert.MoeIdeal.Gen Cert.MoeIdeal.Pay
open scoped BigOperators

/-! # The arrays the call reads, from the arguments -/

/-- Gate and up projections side by side, read in the gate's half … -/
theorem cat3_lo (a b : FVec Ideal S64x1024x256 .f32) (e : Fin 64) (k : Fin 1024) (f : Fin 256) :
    (truncf (F := Ideal) .bf16 (concatenate S64x1024x512 2 [⟨S64x1024x256, a⟩, ⟨S64x1024x256, b⟩]
      concatenates_S64x1024x256_S64x1024x256_S64x1024x512_d2 : FVec Ideal S64x1024x512 .f32) bitsLt_bf16_f32) (ix3 e k ⟨f.val, by omega⟩)
      = a (ix3 e k f) := by
  pointwise

/-- … and in the up projection's. -/
theorem cat3_hi (a b : FVec Ideal S64x1024x256 .f32) (e : Fin 64) (k : Fin 1024) (f : Fin 256) :
    (truncf (F := Ideal) .bf16 (concatenate S64x1024x512 2 [⟨S64x1024x256, a⟩, ⟨S64x1024x256, b⟩]
      concatenates_S64x1024x256_S64x1024x256_S64x1024x512_d2 : FVec Ideal S64x1024x512 .f32) bitsLt_bf16_f32) (ix3 e k ⟨256 + f.val, by omega⟩)
      = b (ix3 e k f) := by
  pointwise

/-- The shared expert's two projections side by side, read in the gate's half … -/
theorem cat2_lo (a b : FVec Ideal S1024x256 .f32) (k : Fin 1024) (f : Fin 256) :
    (truncf (F := Ideal) .bf16 (concatenate S1024x512 1 [⟨S1024x256, a⟩, ⟨S1024x256, b⟩]
      concatenates_S1024x256_S1024x256_S1024x512_d1 : FVec Ideal S1024x512 .f32) bitsLt_bf16_f32) (ix2 k ⟨f.val, by omega⟩)
      = a (ix2 k f) := by
  pointwise

/-- … and in the up projection's. -/
theorem cat2_hi (a b : FVec Ideal S1024x256 .f32) (k : Fin 1024) (f : Fin 256) :
    (truncf (F := Ideal) .bf16 (concatenate S1024x512 1 [⟨S1024x256, a⟩, ⟨S1024x256, b⟩]
      concatenates_S1024x256_S1024x256_S1024x512_d1 : FVec Ideal S1024x512 .f32) bitsLt_bf16_f32) (ix2 k ⟨256 + f.val, by omega⟩)
      = b (ix2 k f) := by
  pointwise

/-- The shared expert's output plus the gated sum of the 64 experts' outputs, at token `n` and channel `l`. -/
def mixture (h : FVec Ideal S40960x1024 .bf16) (g : FVec Ideal S40960x128 .f32) (wg wu : FVec Ideal S64x1024x256 .f32)
    (wd : FVec Ideal S64x256x1024 .f32) (sg su : FVec Ideal S1024x256 .f32) (sd : FVec Ideal S256x1024 .f32)
    (n : Fin 40960) (l : Fin 1024) : EReal :=
  (∑ f : Fin 256, silu (∑ k : Fin 1024, h (ix2 n k) * sg (ix2 k f)) * (∑ k : Fin 1024, h (ix2 n k) * su (ix2 k f)) * sd (ix2 f l))
    + ∑ e : Fin 64, ∑ f : Fin 256, silu (∑ k : Fin 1024, h (ix2 n k) * wg (ix3 e k f)) * (∑ k : Fin 1024, h (ix2 n k) * wu (ix3 e k f))
        * g (ix2 n ⟨e.val, by omega⟩) * wd (ix3 e f l)

/-- What the call leaves at token `n` and channel `l`, from the arguments: the mixture added to the residual stream under the
    modulation's gate. -/
def mixed (x : FVec Ideal S40960x1024 .f32) (h : FVec Ideal S40960x1024 .bf16) (g : FVec Ideal S40960x128 .f32)
    (md : FVec Ideal S16x6x1024 .f32) (wg wu : FVec Ideal S64x1024x256 .f32)
    (wd : FVec Ideal S64x256x1024 .f32) (sg su : FVec Ideal S1024x256 .f32) (sd : FVec Ideal S256x1024 .f32)
    (n : Fin 40960) (l : Fin 1024) : EReal :=
  x (ix2 n l) + md (ix3 (modOf n) 5 l) * mixture h g wg wu wd sg su sd n l

theorem result_mixed (x : FVec Ideal S40960x1024 .f32) (h : FVec Ideal S40960x1024 .bf16) (g : FVec Ideal S40960x128 .f32)
    (md : FVec Ideal S16x6x1024 .f32) (wg wu : FVec Ideal S64x1024x256 .f32)
    (wd : FVec Ideal S64x256x1024 .f32) (sg su : FVec Ideal S1024x256 .f32) (sd : FVec Ideal S256x1024 .f32)
    (n : Fin 40960) (l : Fin 1024) :
    result x h g md (truncf (F := Ideal) .bf16 (concatenate S64x1024x512 2 [⟨S64x1024x256, wg⟩, ⟨S64x1024x256, wu⟩]
        concatenates_S64x1024x256_S64x1024x256_S64x1024x512_d2 : FVec Ideal S64x1024x512 .f32) bitsLt_bf16_f32)
      (truncf (F := Ideal) .bf16 wd bitsLt_bf16_f32)
      (truncf (F := Ideal) .bf16 (concatenate S1024x512 1 [⟨S1024x256, sg⟩, ⟨S1024x256, su⟩]
        concatenates_S1024x256_S1024x256_S1024x512_d1 : FVec Ideal S1024x512 .f32) bitsLt_bf16_f32)
      (truncf (F := Ideal) .bf16 sd bitsLt_bf16_f32) n l = mixed x h g md wg wu wd sg su sd n l := by
  unfold result mixed accum mixture shared expert
  simp only [cat3_lo, cat3_hi, cat2_lo, cat2_hi]
  rw [Finset.sum_range]
  refine congrArg _ (congrArg _ (congrArg _ (Finset.sum_congr rfl fun e _ => ?_)))
  have he : (⟨e.val % 64, Nat.mod_lt _ (by decide)⟩ : Fin 64) = e := Fin.ext (Nat.mod_eq_of_lt e.isLt)
  simp only [he, Nat.mod_eq_of_lt (show e.val < 64 from e.isLt)]
  rfl

variable (m : (ℓ : Loc nD τ sig) → Buf (Elt Ideal) ℓ)

theorem V_v1 (c : Dev nD) : (V m c main_v1 : FVec Ideal S64x1024x512 .bf16)
    = truncf (F := Ideal) .bf16 (concatenate S64x1024x512 2 [⟨S64x1024x256, m ((c : Thread nD τ).loc main_arg4)⟩, ⟨S64x1024x256, m ((c : Thread nD τ).loc main_arg5)⟩]
      concatenates_S64x1024x256_S64x1024x256_S64x1024x512_d2 : FVec Ideal S64x1024x512 .f32) bitsLt_bf16_f32 := by
  show StableHlo.after hostOps0 _ (Proc.devRef .tc main_v1) = _
  after_results_simp <;> rfl

theorem V_v3 (c : Dev nD) : (V m c main_v3 : FVec Ideal S1024x512 .bf16)
    = truncf (F := Ideal) .bf16 (concatenate S1024x512 1 [⟨S1024x256, m ((c : Thread nD τ).loc main_arg7)⟩, ⟨S1024x256, m ((c : Thread nD τ).loc main_arg8)⟩]
      concatenates_S1024x256_S1024x256_S1024x512_d1 : FVec Ideal S1024x512 .f32) bitsLt_bf16_f32 := by
  show StableHlo.after hostOps0 _ (Proc.devRef .tc main_v3) = _
  after_results_simp <;> rfl

theorem V_v4 (c : Dev nD) : (V m c main_v4 : FVec Ideal S64x256x1024 .bf16)
    = truncf (F := Ideal) .bf16 (m ((c : Thread nD τ).loc main_arg6) : FVec Ideal S64x256x1024 .f32) bitsLt_bf16_f32 := by
  show StableHlo.after hostOps0 _ (Proc.devRef .tc main_v4) = _
  after_results_simp <;> rfl

theorem V_v5 (c : Dev nD) : (V m c main_v5 : FVec Ideal S256x1024 .bf16)
    = truncf (F := Ideal) .bf16 (m ((c : Thread nD τ).loc main_arg9) : FVec Ideal S256x1024 .f32) bitsLt_bf16_f32 := by
  show StableHlo.after hostOps0 _ (Proc.devRef .tc main_v5) = _
  after_results_simp <;> rfl

theorem V_arg0 (c : Dev nD) : V m c main_arg0 = m ((c : Thread nD τ).loc main_arg0) := by
  show StableHlo.after hostOps0 _ (Proc.devRef .tc main_arg0) = _
  after_results_simp <;> rfl
theorem V_arg1 (c : Dev nD) : V m c main_arg1 = m ((c : Thread nD τ).loc main_arg1) := by
  show StableHlo.after hostOps0 _ (Proc.devRef .tc main_arg1) = _
  after_results_simp <;> rfl
theorem V_arg2 (c : Dev nD) : V m c main_arg2 = m ((c : Thread nD τ).loc main_arg2) := by
  show StableHlo.after hostOps0 _ (Proc.devRef .tc main_arg2) = _
  after_results_simp <;> rfl
theorem V_arg3 (c : Dev nD) : V m c main_arg3 = m ((c : Thread nD τ).loc main_arg3) := by
  show StableHlo.after hostOps0 _ (Proc.devRef .tc main_arg3) = _
  after_results_simp <;> rfl

/-- The call's output array, from the arguments. -/
theorem resultV_mixed (c : Dev nD) (n : Fin 40960) (l : Fin 1024) : resultV m c n l
    = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) n l := by
  unfold resultV
  rw [V_arg0, V_arg1, V_arg2, V_arg3, V_v1, V_v3, V_v4, V_v5]
  exact result_mixed _ _ _ _ _ _ _ _ _ _ n l

end Cert.MoeIdeal.Run
-- ==== Proof.MoeRef.lean ====
module
public import proofs.«01_k».proof.Proof.MoeHost
public import proofs.«01_k».proof.Proof.Gen.MoeReferenceIdeal.Read
public import Idealize.ShloMosaic.Lib.IdealHost
@[expose] public section
set_option maxRecDepth 16384
noncomputable section
namespace Cert.MoeReferenceIdeal.Ref
open Idealize.ShloMosaic Cert.MoeReferenceIdeal Cert.MoeReferenceIdeal.Gen Cert.MoeReferenceIdeal.Read
open Cert.MoeIdeal.Pay (silu)
open Cert.MoeIdeal.Run (mixture mixed modOf modRow)
open scoped BigOperators

/-! # The reference's result, read at an index -/

variable (x0 : FVec Ideal S40960x1024 .f32) (x1 : FVec Ideal S40960x1024 .bf16) (x2 : FVec Ideal S40960x128 .f32)
  (x3 : FVec Ideal S16x6x1024 .f32) (x4 x5 : FVec Ideal S64x1024x256 .f32) (x6 : FVec Ideal S64x256x1024 .f32)
  (x7 x8 : FVec Ideal S1024x256 .f32) (x9 : FVec Ideal S256x1024 .f32)

/-- The reference's sigmoid is the logistic function. -/
theorem silu_eq (x : EReal) : x * Ideal.div (Ideal.ofBits .f32 0x3F800000#32) (Ideal.ofBits .f32 0x3F800000#32 + Ideal.exp (-x)) = silu x := by
  rw [Ideal.ofBits_one_f32]; rfl

theorem v2_apply (n : Fin 40960) (f : Fin 256) :
    val_main_v2 (F := Ideal) x1 x7 (ix2 n f) = ∑ k : Fin 1024, x1 (ix2 n k) * x7 (ix2 k f) := by
  pointwise [val_main_v2, val_main_v0]

theorem v7_apply (n : Fin 40960) (e : Fin 64) (f : Fin 256) :
    val_main_v7 (F := Ideal) x1 x4 (ix3 n e f) = ∑ k : Fin 1024, x1 (ix2 n k) * x4 (ix3 e k f) := by
  pointwise [val_main_v7, val_main_v0]

theorem v3_apply (n : Fin 40960) (f : Fin 256) :
    val_main_v3 (F := Ideal) x1 x7 (ix2 n f) = silu (∑ k : Fin 1024, x1 (ix2 n k) * x7 (ix2 k f)) := by
  rw [← v2_apply, ← silu_eq]
  rfl

theorem v9_apply (n : Fin 40960) (e : Fin 64) (f : Fin 256) :
    val_main_v9 (F := Ideal) x1 x4 (ix3 n e f) = silu (∑ k : Fin 1024, x1 (ix2 n k) * x4 (ix3 e k f)) := by
  rw [← v7_apply, ← silu_eq]
  rfl

/-- The shared expert's output. -/
theorem v6_apply (n : Fin 40960) (l : Fin 1024) :
    val_main_v6 (F := Ideal) x1 x7 x8 x9 (ix2 n l) = ∑ f : Fin 256, silu (∑ k : Fin 1024, x1 (ix2 n k) * x7 (ix2 k f))
      * (∑ k : Fin 1024, x1 (ix2 n k) * x8 (ix2 k f)) * x9 (ix2 f l) := by
  have e : val_main_v6 (F := Ideal) x1 x7 x8 x9 (ix2 n l)
      = ∑ f : Fin 256, val_main_v5 (F := Ideal) x1 x7 x8 (ix2 n f) * x9 (ix2 f l) := by
    unfold val_main_v6
    generalize val_main_v5 (F := Ideal) x1 x7 x8 = y
    pointwise
  rw [e]
  refine Finset.sum_congr rfl fun f _ => congrArg (· * _) ?_
  rw [← v3_apply, ← v2_apply x1 x8]
  rfl

/-- One expert's gated activation. -/
theorem v13_apply (n : Fin 40960) (e : Fin 64) (f : Fin 256) :
    val_main_v13 (F := Ideal) x1 x2 x4 x5 (ix3 n e f) = silu (∑ k : Fin 1024, x1 (ix2 n k) * x4 (ix3 e k f))
      * (∑ k : Fin 1024, x1 (ix2 n k) * x5 (ix3 e k f)) * x2 (ix2 n ⟨e.val, by omega⟩) := by
  have hg : val_main_v12 (F := Ideal) x2 (ix3 n e f) = x2 (ix2 n ⟨e.val, by omega⟩) := by
    pointwise [val_main_v12, val_main_v11, val_main_v1]
  rw [← v9_apply, ← v7_apply x1 x5, ← hg]
  rfl

/-- The experts' gated outputs, summed. -/
theorem v14_apply (n : Fin 40960) (l : Fin 1024) :
    val_main_v14 (F := Ideal) x1 x2 x4 x5 x6 (ix2 n l)
      = ∑ e : Fin 64, ∑ f : Fin 256, silu (∑ k : Fin 1024, x1 (ix2 n k) * x4 (ix3 e k f))
      * (∑ k : Fin 1024, x1 (ix2 n k) * x5 (ix3 e k f)) * x2 (ix2 n ⟨e.val, by omega⟩) * x6 (ix3 e f l) := by
  have e : val_main_v14 (F := Ideal) x1 x2 x4 x5 x6 (ix2 n l)
      = ∑ e : Fin 64, ∑ f : Fin 256, val_main_v13 (F := Ideal) x1 x2 x4 x5 (ix3 n e f) * x6 (ix3 e f l) := by
    unfold val_main_v14
    generalize val_main_v13 (F := Ideal) x1 x2 x4 x5 = y
    pointwise
  rw [e]
  exact Finset.sum_congr rfl fun e _ => Finset.sum_congr rfl fun f _ => congrArg (· * _) (v13_apply x1 x2 x4 x5 n e f)

/-- The mixture. -/
theorem v15_apply (n : Fin 40960) (l : Fin 1024) :
    val_main_v15 (F := Ideal) x1 x2 x4 x5 x6 x7 x8 x9 (ix2 n l) = mixture x1 x2 x4 x5 x6 x7 x8 x9 n l := by
  unfold mixture
  rw [← v6_apply, ← v14_apply]
  rfl

/-- A prompt token's result. -/
theorem v27_apply (n : Fin 8192) (l : Fin 1024) :
    val_main_v27 (F := Ideal) x0 x1 x2 x3 x4 x5 x6 x7 x8 x9 (ix2 n l) = x0 (ix2 ⟨n.val, by omega⟩ l)
      + x3 (ix3 0 5 l) * val_main_v15 (F := Ideal) x1 x2 x4 x5 x6 x7 x8 x9 (ix2 ⟨n.val, by omega⟩ l) := by
  unfold val_main_v27 val_main_v26 val_main_v23
  generalize val_main_v15 (F := Ideal) x1 x2 x4 x5 x6 x7 x8 x9 = y
  pointwise [val_main_v18, val_main_v25, val_main_v24, val_main_v22, val_main_v21, val_main_v17, val_main_v16]

/-- A sample token's result. -/
theorem v35_apply (n : Fin 32768) (l : Fin 1024) :
    val_main_v35 (F := Ideal) x0 x1 x2 x3 x4 x5 x6 x7 x8 x9 (ix2 n l) = x0 (ix2 ⟨8192 + n.val, by omega⟩ l)
      + x3 (ix3 ⟨1 + n.val / 4096, by omega⟩ 5 l) * val_main_v15 (F := Ideal) x1 x2 x4 x5 x6 x7 x8 x9 (ix2 ⟨8192 + n.val, by omega⟩ l) := by
  unfold val_main_v35 val_main_v34 val_main_v33 val_main_v31 val_main_v30
  generalize val_main_v15 (F := Ideal) x1 x2 x4 x5 x6 x7 x8 x9 = y
  pointwise [val_main_v20, val_main_v19, val_main_v32, val_main_v29, val_main_v28, val_main_v17, val_main_v16]

/-- Every entry of the reference's result. -/
theorem result_apply (n : Fin 40960) (l : Fin 1024) :
    val_main_v36 (F := Ideal) x0 x1 x2 x3 x4 x5 x6 x7 x8 x9 (ix2 n l) = mixed x0 x1 x2 x3 x4 x5 x6 x7 x8 x9 n l := by
  unfold mixed
  rw [← v15_apply]
  by_cases hn : n.val < 8192
  · have h := v27_apply x0 x1 x2 x3 x4 x5 x6 x7 x8 x9 ⟨n.val, hn⟩ l
    have hm : modOf n = 0 := Fin.ext (by show modRow (n.val / 1024) = 0; unfold modRow; rw [if_pos (by omega)])
    rw [hm]
    refine Eq.trans ?_ h
    unfold val_main_v36
    generalize val_main_v27 (F := Ideal) x0 x1 x2 x3 x4 x5 x6 x7 x8 x9 = y
    generalize val_main_v35 (F := Ideal) x0 x1 x2 x3 x4 x5 x6 x7 x8 x9 = z
    pointwise
    rw [dif_pos hn]
  · have h := v35_apply x0 x1 x2 x3 x4 x5 x6 x7 x8 x9 ⟨n.val - 8192, by omega⟩ l
    have hm : modOf n = ⟨1 + (n.val - 8192) / 4096, by omega⟩ :=
      Fin.ext (by show modRow (n.val / 1024) = 1 + (n.val - 8192) / 4096; unfold modRow; rw [if_neg (by omega)]; omega)
    have hv : (⟨8192 + (n.val - 8192), by omega⟩ : Fin 40960) = n := Fin.ext (by show 8192 + (n.val - 8192) = n.val; omega)
    rw [hm]
    simp only [hv] at h
    refine Eq.trans ?_ h
    unfold val_main_v36
    generalize val_main_v27 (F := Ideal) x0 x1 x2 x3 x4 x5 x6 x7 x8 x9 = y
    generalize val_main_v35 (F := Ideal) x0 x1 x2 x3 x4 x5 x6 x7 x8 x9 = z
    pointwise
    rw [dif_neg hn]

/-- The call and the reference leave the same array of the same arguments. -/
theorem same (m : (ℓ : Loc Cert.MoeIdeal.nD Cert.MoeIdeal.τ Cert.MoeIdeal.sig) → Buf (Elt Ideal) ℓ) (c : Dev Cert.MoeIdeal.nD) :
    val_main_v36 (F := Ideal)
      (m ((c.tc : Thread Cert.MoeIdeal.nD Cert.MoeIdeal.τ).loc Cert.MoeIdeal.main_arg0))
      (m ((c.tc : Thread Cert.MoeIdeal.nD Cert.MoeIdeal.τ).loc Cert.MoeIdeal.main_arg1))
      (m ((c.tc : Thread Cert.MoeIdeal.nD Cert.MoeIdeal.τ).loc Cert.MoeIdeal.main_arg2))
      (m ((c.tc : Thread Cert.MoeIdeal.nD Cert.MoeIdeal.τ).loc Cert.MoeIdeal.main_arg3))
      (m ((c.tc : Thread Cert.MoeIdeal.nD Cert.MoeIdeal.τ).loc Cert.MoeIdeal.main_arg4))
      (m ((c.tc : Thread Cert.MoeIdeal.nD Cert.MoeIdeal.τ).loc Cert.MoeIdeal.main_arg5))
      (m ((c.tc : Thread Cert.MoeIdeal.nD Cert.MoeIdeal.τ).loc Cert.MoeIdeal.main_arg6))
      (m ((c.tc : Thread Cert.MoeIdeal.nD Cert.MoeIdeal.τ).loc Cert.MoeIdeal.main_arg7))
      (m ((c.tc : Thread Cert.MoeIdeal.nD Cert.MoeIdeal.τ).loc Cert.MoeIdeal.main_arg8))
      (m ((c.tc : Thread Cert.MoeIdeal.nD Cert.MoeIdeal.τ).loc Cert.MoeIdeal.main_arg9))
      = fun y : S40960x1024.Idx => Cert.MoeIdeal.Run.resultV m c (y 0) (y 1) := by
  funext y
  have hy : y = ix2 (y 0) (y 1) := by funext a; match a with | ⟨0, _⟩ => rfl | ⟨1, _⟩ => rfl
  exact (congrArg _ hy).trans ((result_apply _ _ _ _ _ _ _ _ _ _ (y 0) (y 1)).trans (Cert.MoeIdeal.Run.resultV_mixed m c (y 0) (y 1)).symm)

end Cert.MoeReferenceIdeal.Ref
-- ==== Proof.QkvPay.lean ====
module
public import proofs.«01_k».proof.Proof.Gen.QkvIdeal.Skeleton
public import Idealize.ShloMosaic.Lib.Pointwise
public import Idealize.ShloMosaic.Lib.IdealHost
@[expose] public section
set_option maxRecDepth 16384
noncomputable section
namespace Cert.QkvIdeal.Pay
open Idealize.ShloMosaic Cert.QkvIdeal Cert.QkvIdeal.Gen
open scoped BigOperators

/-! # The values one grid point of the query/key/value kernel stores, entry by entry -/

/-- The small constant the normalisations add to a mean square. -/
def eps : EReal := Ideal.ofBits .f32 0x358637BD#32

/-- Reciprocal root of a mean square `s` plus the small constant. -/
def rootInv (s : EReal) : EReal := Ideal.rsqrt (s + eps)

/-- The adaptive normalisation of a row `x` of 1024 channels at channel `k`: root-mean-square normalisation, a gain `g`, the
    modulation's scale `sc` and shift `sh`. -/
def adaln (x g sc sh : Fin 1024 → EReal) (k : Fin 1024) : EReal :=
  x k * rootInv (Ideal.div (∑ l : Fin 1024, x l * x l) (Ideal.ofBits .f32 0x44800000#32)) * g k
    * (Ideal.ofBits .f32 0x3F800000#32 + sc k) + sh k

/-- The mean square of the head that channel `l` belongs to. -/
def headMean (y : Fin 1024 → EReal) (l : Fin 1024) : EReal :=
  Ideal.div (∑ d : Fin 64, y ⟨64 * (l.val / 64) + d.val, by omega⟩ * y ⟨64 * (l.val / 64) + d.val, by omega⟩)
    (Ideal.ofBits .f32 0x42800000#32)

/-- The root-mean-square normalisation of each head of a row, with one gain for all heads. -/
def headNorm (y : Fin 1024 → EReal) (g : Fin 64 → EReal) (l : Fin 1024) : EReal :=
  y l * rootInv (headMean y l) * g ⟨l.val % 64, by omega⟩

theorem pay4_apply (sh sc : Vec Ideal S1x1x1024 .f32) (x : Vec Ideal S256x1024 .f32) (g : Vec Ideal S1x1024 .f32)
    (w : Vec Ideal S1024x3072 .bf16) (r : Fin 256) (j : Fin 3072) :
    k0_pay4 sh sc x g w (ix2 r j) = ∑ k : Fin 1024, adaln (fun k => x (ix2 r k)) (fun k => g (ix2 0 k)) (fun k => sc (ix3 0 0 k))
      (fun k => sh (ix3 0 0 k)) k * w (ix2 k j) := by
  unfold adaln rootInv eps
  pointwise [k0_pay4]

theorem pay5_apply (sh sc : Vec Ideal S1x1x1024 .f32) (x : Vec Ideal S256x1024 .f32) (g : Vec Ideal S1x1024 .f32)
    (w : Vec Ideal S1024x3072 .bf16) (r : Fin 256) (l : Fin 1024) :
    k0_pay5 sh sc x g w (ix2 r l) = k0_pay4 sh sc x g w (ix2 r ⟨l.val, by omega⟩) := by
  unfold k0_pay5
  generalize k0_pay4 sh sc x g w = y
  pointwise

theorem pay10_apply (y : FVec Ideal S256x3072 .f32) (r : Fin 256) (l : Fin 1024) :
    k0_pay10 y (ix2 r l) = y (ix2 r ⟨2048 + l.val, by omega⟩) := by
  pointwise [k0_pay10]

theorem pay7_apply (sh sc : Vec Ideal S1x1x1024 .f32) (x : Vec Ideal S256x1024 .f32) (g : Vec Ideal S1x1024 .f32)
    (w : Vec Ideal S1024x3072 .bf16) (t : Vec Ideal S1024x128 .bf16) (r : Fin 256) (j : Fin 128) :
    k0_pay7 sh sc x g w t (ix2 r j) = ∑ k : Fin 1024, k0_pay5 sh sc x g w (ix2 r k) * k0_pay5 sh sc x g w (ix2 r k) * t (ix2 k j) := by
  unfold k0_pay7
  generalize k0_pay5 sh sc x g w = y
  pointwise

/-- The factor the kernel multiplies a channel by: the heads' reciprocal roots spread by the table `t`, in two parts. -/
def spread (s : Fin 128 → EReal) (t : Fin 128 → EReal) : EReal :=
  (∑ j : Fin 128, rootInv (s j * Ideal.ofBits .f32 0x3C800000#32) * t j)
    + ∑ j : Fin 128, (rootInv (s j * Ideal.ofBits .f32 0x3C800000#32) - rootInv (s j * Ideal.ofBits .f32 0x3C800000#32)) * t j

theorem pay8_apply (y : FVec Ideal S256x1024 .f32) (g : FVec Ideal S1x1024 .f32) (s : FVec Ideal S256x128 .f32)
    (t : Vec Ideal S128x1024 .bf16) (r : Fin 256) (l : Fin 1024) :
    k0_pay8 y g s t (ix2 r l) = y (ix2 r l) * spread (fun j => s (ix2 r j)) (fun j => t (ix2 j l)) * g (ix2 0 l) := by
  unfold spread rootInv eps
  pointwise [k0_pay8]

theorem pay9_apply (y : FVec Ideal S256x3072 .f32) (g : Vec Ideal S1x1024 .f32) (h : Vec Ideal S1024x128 .bf16)
    (t : Vec Ideal S128x1024 .bf16) (r : Fin 256) (l : Fin 1024) :
    k0_pay9 y g h t (ix2 r l) = y (ix2 r ⟨1024 + l.val, by omega⟩)
      * spread (fun j => ∑ k : Fin 1024, y (ix2 r ⟨1024 + k.val, by omega⟩) * y (ix2 r ⟨1024 + k.val, by omega⟩) * h (ix2 k j))
        (fun j => t (ix2 j l)) * g (ix2 0 l) := by
  unfold spread rootInv eps
  pointwise [k0_pay9]

end Cert.QkvIdeal.Pay
-- ==== Proof.QkvNorm.lean ====
module
public import proofs.«01_k».proof.Proof.QkvPay
@[expose] public section
set_option maxRecDepth 16384
noncomputable section
namespace Cert.QkvIdeal.Pay
open Idealize.ShloMosaic
open scoped BigOperators

/-! # The kernel's table-based head normalisation is the plain one -/

theorem mul_self_nonneg' (x : EReal) : 0 ≤ x * x := by
  rcases le_total 0 x with h | h
  · exact mul_nonneg h h
  · have h' : 0 ≤ -x := EReal.neg_nonneg.mpr h
    have := mul_nonneg h' h'
    rwa [neg_mul_neg] at this

theorem eps_pos : ∃ e : ℝ, 0 < e ∧ eps = (e : EReal) := by
  unfold eps
  simp [Ideal.ofBits, Ideal.ieee, -EReal.coe_mul]

/-- The reciprocal root of a nonnegative mean square plus the small constant is a real number … -/
theorem rootInv_real (s : EReal) (hs : 0 ≤ s) : ∃ r : ℝ, rootInv s = (r : EReal) := by
  obtain ⟨e, he, hE⟩ := eps_pos
  unfold rootInv
  rw [hE]
  induction s with
  | bot => exact absurd hs (by simp)
  | top => exact ⟨0, by rw [EReal.top_add_coe]; rfl⟩
  | coe x =>
    have hx : 0 ≤ x := EReal.coe_nonneg.mp hs
    refine ⟨(Real.sqrt (x + e))⁻¹, ?_⟩
    rw [← EReal.coe_add, Ideal.rsqrt_coe, if_neg (by linarith), if_neg (by linarith)]

/-- … so what is left of it after taking it away is zero. -/
theorem rootInv_sub (s : EReal) (hs : 0 ≤ s) : rootInv s - rootInv s = 0 := by
  obtain ⟨r, hr⟩ := rootInv_real s hs
  rw [hr, ← EReal.coe_sub, sub_self, EReal.coe_zero]

/-- Multiplying by the constant 1/64 is dividing by 64. -/
theorem mul_inv64 (s : EReal) : s * Ideal.ofBits .f32 0x3C800000#32 = Ideal.div s (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div, if_neg (by norm_num), ← EReal.coe_inv]
  norm_num

theorem scale_nonneg : (0 : EReal) ≤ Ideal.ofBits .f32 0x3C800000#32 := by
  have h1 : Ideal.ofBits .f32 0x3C800000#32 = (((1 : ℝ) / 64 : ℝ) : EReal) := by
    simp [Ideal.ofBits, Ideal.ieee, -EReal.coe_mul]; norm_num
  rw [h1]
  exact EReal.coe_nonneg.mpr (by norm_num)

/-- The table entry for channel `k` and head `j`: one where the channel is of that head. -/
def member (k : Fin 1024) (j : Fin 128) : EReal := if k.val / 64 = j.val then 1 else 0

/-- A sum over all channels with the table's weights is the sum over the head's channels. -/
theorem member_sum (f : Fin 1024 → EReal) (j : Fin 128) (hj : j.val < 16) :
    ∑ k : Fin 1024, f k * member k j = ∑ d : Fin 64, f ⟨64 * j.val + d.val, by omega⟩ := by
  unfold member
  simp only [mul_ite, mul_one, mul_zero]
  rw [← Finset.sum_filter]
  refine Finset.sum_bij' (fun k _ => (⟨k.val % 64, Nat.mod_lt _ (by decide)⟩ : Fin 64))
    (fun d _ => (⟨64 * j.val + d.val, by omega⟩ : Fin 1024)) ?_ ?_ ?_ ?_ ?_
  · intro k _; exact Finset.mem_univ _
  · intro d _
    refine Finset.mem_filter.mpr ⟨Finset.mem_univ _, ?_⟩
    show (64 * j.val + d.val) / 64 = j.val
    omega
  · intro k hk
    have h := (Finset.mem_filter.mp hk).2
    refine Fin.ext ?_
    show 64 * j.val + k.val % 64 = k.val
    omega
  · intro d _
    refine Fin.ext ?_
    show (64 * j.val + d.val) % 64 = d.val
    omega
  · intro k hk
    have h := (Finset.mem_filter.mp hk).2
    refine congrArg f (Fin.ext ?_)
    show k.val = 64 * j.val + k.val % 64
    omega

/-- A sum over the heads with the table's weights keeps the channel's head. -/
theorem member_pick (f : Fin 128 → EReal) (l : Fin 1024) :
    ∑ j : Fin 128, f j * member l j = f ⟨l.val / 64, by omega⟩ := by
  rw [Finset.sum_eq_single (⟨l.val / 64, by omega⟩ : Fin 128)]
  · unfold member; rw [if_pos rfl, mul_one]
  · intro j _ hj
    unfold member
    rw [if_neg (fun h => hj (Fin.ext h.symm)), mul_zero]
  · intro h; exact absurd (Finset.mem_univ _) h

theorem member_nonneg (k : Fin 1024) (j : Fin 128) : 0 ≤ member k j := by
  unfold member; split_ifs
  · exact zero_le_one
  · exact le_refl _

/-- The spread factor is the reciprocal root of the channel's head's mean square. -/
theorem spread_eq (y : Fin 1024 → EReal) (l : Fin 1024) :
    spread (fun j => ∑ k : Fin 1024, y k * y k * member k j) (fun j => member l j) = rootInv (headMean y l) := by
  have h0 : ∀ j : Fin 128, 0 ≤ (∑ k : Fin 1024, y k * y k * member k j) * Ideal.ofBits .f32 0x3C800000#32 := fun j =>
    mul_nonneg (Finset.sum_nonneg fun k _ => mul_nonneg (mul_self_nonneg' _) (member_nonneg _ _)) scale_nonneg
  unfold spread
  simp only [fun j => rootInv_sub _ (h0 j), zero_mul, Finset.sum_const_zero, add_zero]
  rw [member_pick (fun j => rootInv ((∑ k : Fin 1024, y k * y k * member k j) * Ideal.ofBits .f32 0x3C800000#32)) l]
  show rootInv ((∑ k : Fin 1024, y k * y k * member k ⟨l.val / 64, by omega⟩) * Ideal.ofBits .f32 0x3C800000#32) = _
  rw [member_sum (fun k => y k * y k) ⟨l.val / 64, by omega⟩ (by show l.val / 64 < 16; omega), mul_inv64]
  rfl

end Cert.QkvIdeal.Pay
-- ==== Proof.QkvBlock.lean ====
module
public import proofs.«01_k».proof.Proof.QkvNorm
public import proofs.«01_k».proof.Proof.Gen.QkvIdeal.Frame
public import Idealize.ShloMosaic.Lib.Pipeline.ValueKit
@[expose] public section
set_option maxRecDepth 16384
noncomputable section
namespace Cert.QkvIdeal.Block
open Idealize.ShloMosaic Idealize.ShloMosaic.TcCoe Cert.QkvIdeal Cert.QkvIdeal.Gen Cert.QkvIdeal.Pay
open scoped BigOperators

/-! # One block of tokens: what the kernel stores from the blocks it reads

The tokens and the modulation row are left open, so the prompt's call and the samples' call both use it. -/

/-- A token's adaptively normalised row, projected: 3072 channels, queries, keys and values side by side. The token is row `n`
    of the residual stream, its modulation entry `s`. -/
def projAt (x : FVec Ideal S40960x1024 .f32) (md : FVec Ideal S16x6x1024 .f32) (g : FVec Ideal S1024 .f32)
    (w : FVec Ideal S1024x3072 .f32) (n : Fin 40960) (s : Fin 16) (j : Fin 3072) : EReal :=
  ∑ k : Fin 1024, adaln (fun k => x (ix2 n k)) (fun k => g (ix1 k)) (fun k => md (ix3 s 1 k)) (fun k => md (ix3 s 0 k)) k * w (ix2 k j)

/-- The query, normalised head by head. -/
def queryAt (x : FVec Ideal S40960x1024 .f32) (md : FVec Ideal S16x6x1024 .f32) (g : FVec Ideal S1024 .f32)
    (w : FVec Ideal S1024x3072 .f32) (qn : FVec Ideal S64 .f32) (n : Fin 40960) (s : Fin 16) (l : Fin 1024) : EReal :=
  headNorm (fun k => projAt x md g w n s ⟨k.val, by omega⟩) (fun d => qn (ix1 d)) l

/-- The key, normalised head by head. -/
def keyAt (x : FVec Ideal S40960x1024 .f32) (md : FVec Ideal S16x6x1024 .f32) (g : FVec Ideal S1024 .f32)
    (w : FVec Ideal S1024x3072 .f32) (kn : FVec Ideal S64 .f32) (n : Fin 40960) (s : Fin 16) (l : Fin 1024) : EReal :=
  headNorm (fun k => projAt x md g w n s ⟨1024 + k.val, by omega⟩) (fun d => kn (ix1 d)) l

/-- The value. -/
def valueAt (x : FVec Ideal S40960x1024 .f32) (md : FVec Ideal S16x6x1024 .f32) (g : FVec Ideal S1024 .f32)
    (w : FVec Ideal S1024x3072 .f32) (n : Fin 40960) (s : Fin 16) (l : Fin 1024) : EReal :=
  projAt x md g w n s ⟨2048 + l.val, by omega⟩

/-- What the eight blocks hold of the arguments: the tokens from row `n0` on, modulation entry `s`, and the whole weights. -/
structure Holds (b0 : FVec Ideal S256x1024 .f32) (b1 : FVec Ideal S1x6x1024 .f32) (b2 : FVec Ideal S1x1024 .f32)
    (b3 : FVec Ideal S1024x3072 .bf16) (b4 b5 : FVec Ideal S1x1024 .f32) (b6 : FVec Ideal S1024x128 .bf16) (b7 : FVec Ideal S128x1024 .bf16)
    (x : FVec Ideal S40960x1024 .f32) (md : FVec Ideal S16x6x1024 .f32) (g : FVec Ideal S1024 .f32)
    (w : FVec Ideal S1024x3072 .f32) (qn kn : FVec Ideal S64 .f32) (n0 : ℕ) (s : Fin 16) : Prop where
  tok : ∀ (r : Fin 256) (k : Fin 1024) (n : Fin 40960), n.val = n0 + r.val → b0 (ix2 r k) = x (ix2 n k)
  mod : ∀ (q : Fin 6) (k : Fin 1024), b1 (ix3 0 q k) = md (ix3 s q k)
  gain : ∀ k : Fin 1024, b2 (ix2 0 k) = g (ix1 k)
  weight : ∀ (k : Fin 1024) (j : Fin 3072), b3 (ix2 k j) = w (ix2 k j)
  qgain : ∀ l : Fin 1024, b4 (ix2 0 l) = qn (ix1 ⟨l.val % 64, by omega⟩)
  kgain : ∀ l : Fin 1024, b5 (ix2 0 l) = kn (ix1 ⟨l.val % 64, by omega⟩)
  table : ∀ (k : Fin 1024) (j : Fin 128), b6 (ix2 k j) = member k j
  tableT : ∀ (j : Fin 128) (l : Fin 1024), b7 (ix2 j l) = member l j

theorem z2 : (![0, 0] : Fin 2 → ℕ) = fun _ => 0 := funext fun a => by fin_cases a <;> rfl

/-- The modulation's shift row, as the kernel loads it. -/
def shiftRow (x : Vec Ideal S1x6x1024 .f32) : Vec Ideal S1x1x1024 .f32 :=
  View.ld (Val := Elt Ideal) (e' := .f32) x r0_0

/-- The modulation's scale row. -/
def scaleRow (x : Vec Ideal S1x6x1024 .f32) : Vec Ideal S1x1x1024 .f32 :=
  View.ld (Val := Elt Ideal) (e' := .f32) x r0_1

theorem shiftRow_apply (x : Vec Ideal S1x6x1024 .f32) (l : Fin 1024) : shiftRow x (ix3 0 0 l) = x (ix3 0 0 l) := by
  unfold shiftRow
  refine congrArg x (funext fun a => Fin.ext ?_)
  match a with
  | ⟨0, _⟩ => rfl
  | ⟨1, _⟩ => rfl
  | ⟨2, _⟩ => exact (Nat.zero_add _).trans (Nat.one_mul _)

theorem scaleRow_apply (x : Vec Ideal S1x6x1024 .f32) (l : Fin 1024) : scaleRow x (ix3 0 0 l) = x (ix3 0 1 l) := by
  unfold scaleRow
  refine congrArg x (funext fun a => Fin.ext ?_)
  match a with
  | ⟨0, _⟩ => rfl
  | ⟨1, _⟩ => rfl
  | ⟨2, _⟩ => exact (Nat.zero_add _).trans (Nat.one_mul _)

variable (b0 : FVec Ideal S256x1024 .f32) (b1 : FVec Ideal S1x6x1024 .f32) (b2 : FVec Ideal S1x1024 .f32)
  (b3 : FVec Ideal S1024x3072 .bf16) (b4 b5 : FVec Ideal S1x1024 .f32) (b6 : FVec Ideal S1024x128 .bf16) (b7 : FVec Ideal S128x1024 .bf16)

/-- The projected rows of one block. -/
def rows : FVec Ideal S256x3072 .f32 := k0_pay4 (shiftRow b1) (scaleRow b1) b0 b2 b3

/-- One block's query as the kernel computes it, -/
theorem out8 : out0_8 (F := Ideal) b0 b1 b2 b3 b4 b5 b6 b7
    = k0_pay1 (F := Ideal) (k0_pay8 (k0_pay5 (shiftRow b1) (scaleRow b1) b0 b2 b3)
      (k0_pay6 b4)
      (k0_pay7 (shiftRow b1) (scaleRow b1) b0 b2 b3 b6) b7) := by
  unfold out0_8
  rw [View.canon_unit_zero (S := S256x1024) z2]
  simp only [View.ld_unit_zero (S := S256x1024) z2, View.ld_unit_zero (S := S1x1024) z2, View.ld_unit_zero (S := S1024x3072) z2,
    View.ld_unit_zero (S := S1024x128) z2, View.ld_unit_zero (S := S128x1024) z2]
  rfl

theorem rows_eq : k0_pay11 (F := Ideal) b0 b1 b2 b3 b4 b5 b6 b7
    = rows b0 b1 b2 b3 := by
  unfold k0_pay11
  simp only [View.ld_unit_zero (S := S256x1024) z2, View.ld_unit_zero (S := S1x1024) z2, View.ld_unit_zero (S := S1024x3072) z2]
  rfl

/-- … its key, -/
theorem out11 : out0_11 (F := Ideal) b0 b1 b2 b3 b4 b5 b6 b7
    = k0_pay9 (rows b0 b1 b2 b3) b5 b6 b7 := by
  unfold out0_11
  rw [View.canon_unit_zero (S := S256x1024) z2]
  unfold k0_pay12
  simp only [rows_eq, View.ld_unit_zero (S := S1x1024) z2, View.ld_unit_zero (S := S1024x128) z2, View.ld_unit_zero (S := S128x1024) z2]

/-- … and its value. -/
theorem out12 : out0_12 (F := Ideal) b0 b1 b2 b3 b4 b5 b6 b7
    = k0_pay10 (rows b0 b1 b2 b3) := by
  unfold out0_12
  rw [View.canon_unit_zero (S := S256x1024) z2]
  unfold k0_pay13
  rw [rows_eq]

theorem out9 : out0_9 (F := Ideal) b0 b1 b2 b3 b4 b5 b6 b7
    = k0_pay2 (k0_pay9 (rows b0 b1 b2 b3) b5 b6 b7) := by
  unfold out0_9
  rw [View.canon_unit_zero (S := S256x1024) z2]
  unfold k0_pay12
  simp only [rows_eq, View.ld_unit_zero (S := S1x1024) z2, View.ld_unit_zero (S := S1024x128) z2, View.ld_unit_zero (S := S128x1024) z2]

theorem out10 : out0_10 (F := Ideal) b0 b1 b2 b3 b4 b5 b6 b7
    = k0_pay3 (k0_pay10 (rows b0 b1 b2 b3)) := by
  unfold out0_10
  rw [View.canon_unit_zero (S := S256x1024) z2]
  unfold k0_pay13
  rw [rows_eq]

variable {b0 b1 b2 b3 b4 b5 b6 b7}
variable {x : FVec Ideal S40960x1024 .f32} {md : FVec Ideal S16x6x1024 .f32} {g : FVec Ideal S1024 .f32}
  {w : FVec Ideal S1024x3072 .f32} {qn kn : FVec Ideal S64 .f32} {n0 : ℕ} {s : Fin 16}
  (H : Holds b0 b1 b2 b3 b4 b5 b6 b7 x md g w qn kn n0 s)
include H

/-- A block's projected rows are the tokens' projections. -/
theorem rows_apply (r : Fin 256) (j : Fin 3072) (n : Fin 40960) (hn : n.val = n0 + r.val) :
    rows b0 b1 b2 b3 (ix2 r j) = projAt x md g w n s j := by
  unfold rows projAt
  rw [pay4_apply]
  refine Finset.sum_congr rfl fun k _ => ?_
  rw [H.weight k j]
  refine congrArg (· * _) ?_
  simp only [shiftRow_apply, scaleRow_apply, H.mod, H.gain, fun k => H.tok r k n hn]

/-- What a block's point stores as the query, -/
theorem query_block (r : Fin 256) (l : Fin 1024) (n : Fin 40960) (hn : n.val = n0 + r.val) :
    out0_8 (F := Ideal) b0 b1 b2 b3 b4 b5 b6 b7 (ix2 r l) = queryAt x md g w qn n s l := by
  rw [out8]
  show k0_pay8 (F := Ideal) _ _ _ _ (ix2 r l) = _
  rw [pay8_apply]
  have hy : ∀ k : Fin 1024, k0_pay5 (F := Ideal) (shiftRow b1) (scaleRow b1) b0 b2 b3 (ix2 r k) = projAt x md g w n s ⟨k.val, by omega⟩ :=
    fun k => (pay5_apply _ _ _ _ _ r k).trans (rows_apply H r _ n hn)
  have hg : k0_pay6 (F := Ideal) b4 (ix2 0 l) = qn (ix1 ⟨l.val % 64, by omega⟩) := by
    rw [← H.qgain l]
    pointwise [k0_pay6]
  rw [hg, hy]
  simp only [pay7_apply, hy, H.table, H.tableT]
  rw [spread_eq (fun k => projAt x md g w n s ⟨k.val, by omega⟩) l]
  rfl

/-- … as the key, -/
theorem key_block (r : Fin 256) (l : Fin 1024) (n : Fin 40960) (hn : n.val = n0 + r.val) :
    out0_11 (F := Ideal) b0 b1 b2 b3 b4 b5 b6 b7 (ix2 r l) = keyAt x md g w kn n s l := by
  rw [out11, pay9_apply]
  simp only [H.table, H.tableT, H.kgain, rows_apply H r _ n hn]
  rw [spread_eq (fun k => projAt x md g w n s ⟨1024 + k.val, by omega⟩) l]
  rfl

/-- … and as the value. -/
theorem value_block (r : Fin 256) (l : Fin 1024) (n : Fin 40960) (hn : n.val = n0 + r.val) :
    out0_12 (F := Ideal) b0 b1 b2 b3 b4 b5 b6 b7 (ix2 r l) = valueAt x md g w n s l := by
  rw [out12]
  exact (pay10_apply _ r l).trans (rows_apply H r _ n hn)

/-- The key's narrow copy holds the same values, -/
theorem key_block16 (r : Fin 256) (l : Fin 1024) (n : Fin 40960) (hn : n.val = n0 + r.val) :
    out0_9 (F := Ideal) b0 b1 b2 b3 b4 b5 b6 b7 (ix2 r l) = keyAt x md g w kn n s l := by
  rw [← key_block H r l n hn, out9, out11]
  rfl

/-- and so does the value's. -/
theorem value_block16 (r : Fin 256) (l : Fin 1024) (n : Fin 40960) (hn : n.val = n0 + r.val) :
    out0_10 (F := Ideal) b0 b1 b2 b3 b4 b5 b6 b7 (ix2 r l) = valueAt x md g w n s l := by
  rw [← value_block H r l n hn, out10, out12]
  rfl

omit H

/-- A block's contents entry by entry, from what it holds at each row and channel. -/
theorem block_fun {φ : FTy} (o : FVec Ideal S256x1024 φ) (G : Fin 40960 → Fin 1024 → EReal) (n0 : ℕ) (hN : n0 + 256 ≤ 40960)
    (h : ∀ (r : Fin 256) (l : Fin 1024) (n : Fin 40960), n.val = n0 + r.val → o (ix2 r l) = G n l) :
    o = fun y : S256x1024.Idx => G ⟨n0 + (y 0).val, by have : (y 0).val < 256 := (y 0).isLt; omega⟩ (y 1) := by
  funext y
  have hy : y = ix2 (y 0) (y 1) := by funext a; match a with | ⟨0, _⟩ => rfl | ⟨1, _⟩ => rfl
  exact (congrArg o hy).trans (h (y 0) (y 1) _ rfl)

theorem pair_congr (G : Fin 40960 → Fin 1024 → EReal) {n n' : Fin 40960} {l l' : Fin 1024} (hn : n.val = n'.val) (hl : l.val = l'.val) :
    G n l = G n' l' := by
  rw [Fin.ext hn, Fin.ext hl]

end Cert.QkvIdeal.Block
-- ==== Proof.QkvHost.lean ====
module
public import proofs.«01_k».proof.Proof.QkvBlock
public import proofs.«01_k».proof.Proof.Gen.QkvIdeal.Value
public import Idealize.ShloMosaic.Lib.Pipeline.ValueKit
public import Idealize.ShloMosaic.Lib.StableHlo.Run
@[expose] public section
set_option maxRecDepth 16384
noncomputable section
namespace Cert.QkvIdeal.Run
open Idealize.ShloMosaic Idealize.ShloMosaic.TcCoe Cert.QkvIdeal Cert.QkvIdeal.Gen Cert.QkvIdeal.Pay
open scoped BigOperators

/-! # The arrays the query/key/value call reads, from the arguments -/

/-- The head number of a channel, as the call's tables hold it. -/
def heads : IVec S1024 32 :=
  Host.divsi (iotaInDim S1024 32 0) (broadcastInDim S1024 ![] bcast_S_S1024 (constantI S_ 32 64#32))

/-- The table of the channels' heads, one row a channel. -/
def headTable : FVec Ideal S1024x128 .bf16 :=
  uitofp (F := Ideal) .bf16 (cmpi .eq (broadcastInDim S1024x128 ![0, 1] bcast_S1024x1_S1024x128_0_1
      (broadcastInDim S1024x1 ![0] bcast_S1024_S1024x1_0 heads))
    (broadcastInDim S1024x128 ![0, 1] bcast_S1x128_S1024x128_0_1
      (broadcastInDim S1x128 ![1] bcast_S128_S1x128_1 (iotaInDim S128 32 0))))

/-- The same table, one row a head. -/
def headTableT : FVec Ideal S128x1024 .bf16 :=
  uitofp (F := Ideal) .bf16 (cmpi .eq (broadcastInDim S128x1024 ![0, 1] bcast_S128x1_S128x1024_0_1
      (broadcastInDim S128x1 ![0] bcast_S128_S128x1_0 (iotaInDim S128 32 0)))
    (broadcastInDim S128x1024 ![0, 1] bcast_S1x1024_S128x1024_0_1
      (broadcastInDim S1x1024 ![1] bcast_S1024_S1x1024_1 heads)))

/-- A head's gain repeated for the sixteen heads, as one row. -/
def tiled (y : FVec Ideal S64 .f32) : FVec Ideal S1x1024 .f32 :=
  shapeCast _ (shapeCast _ (broadcastInDim S16x64 ![0, 1] bcast_S1x64_S16x64_0_1 (shapeCast _ y shapeCasts_S64_S1x64))
    shapeCasts_S16x64_S1024) shapeCasts_S1024_S1x1024

/-- A gain as a row. -/
def asRow (y : FVec Ideal S1024 .f32) : FVec Ideal S1x1024 .f32 := shapeCast _ y shapeCasts_S1024_S1x1024

theorem div64 : ∀ k : Fin 1024, IntOp.divsi .host (BitVec.ofNat 32 k.val) 64#32 = BitVec.ofNat 32 (k.val / 64) := by
  decide +kernel

/-- A channel's head number is its quotient by 64. -/
theorem heads_apply (k : Fin 1024) : heads (ix1 k) = BitVec.ofNat 32 (k.val / 64) := div64 k

/-- Comparing a channel's head number with a head gives the table entry. -/
theorem cmp_member (k : Fin 1024) (j : Fin 128) :
    FloatOps.uitofp (F := Ideal) FTy.bf16 (IntOp.cmpi CmpIPredicate.eq (BitVec.ofNat 32 (k.val / 64)) (BitVec.ofNat 32 j.val))
      = member k j := by
  have hc : ∀ (a : Fin 16) (j : Fin 128), IntOp.cmpi CmpIPredicate.eq (BitVec.ofNat 32 a.val) (BitVec.ofNat 32 j.val)
      = if a.val = j.val then 1#1 else 0#1 := by decide +kernel
  unfold member
  rw [hc ⟨k.val / 64, by omega⟩ j]
  show (((if k.val / 64 = j.val then 1#1 else 0#1 : BitVec 1).toNat : ℝ) : EReal) = _
  split_ifs <;> simp

theorem cmp_comm (a b : BitVec 32) : IntOp.cmpi CmpIPredicate.eq a b = IntOp.cmpi CmpIPredicate.eq b a := by
  show BitVec.ofBool (a == b) = BitVec.ofBool (b == a)
  rw [Bool.beq_comm]

theorem headTable_apply (k : Fin 1024) (j : Fin 128) : headTable (ix2 k j) = member k j := by
  rw [← cmp_member, ← heads_apply]
  unfold headTable
  generalize heads = h
  pointwise

theorem headTableT_apply (j : Fin 128) (l : Fin 1024) : headTableT (ix2 j l) = member l j := by
  rw [← cmp_member, cmp_comm, ← heads_apply]
  unfold headTableT
  generalize heads = h
  pointwise

theorem tiled_apply (y : FVec Ideal S64 .f32) (l : Fin 1024) : tiled y (ix2 0 l) = y (ix1 ⟨l.val % 64, by omega⟩) := by
  unfold tiled
  pointwise

theorem asRow_apply (y : FVec Ideal S1024 .f32) (k : Fin 1024) : asRow y (ix2 0 k) = y (ix1 k) := by
  unfold asRow
  pointwise

variable (m : (ℓ : Loc nD τ sig) → Buf (Elt Ideal) ℓ)

theorem V_v9 (c : Dev nD) : (V m c main_v9 : FVec Ideal S1024x128 .bf16) = headTable := by
  show StableHlo.after hostOps0 _ (Proc.devRef .tc main_v9) = _
  after_results_simp <;> rfl

theorem V_v16 (c : Dev nD) : (V m c main_v16 : FVec Ideal S128x1024 .bf16) = headTableT := by
  show StableHlo.after hostOps0 _ (Proc.devRef .tc main_v16) = _
  after_results_simp <;> rfl

theorem V_v20 (c : Dev nD) : (V m c main_v20 : FVec Ideal S1x1024 .f32) = tiled (m ((c : Thread nD τ).loc main_arg4)) := by
  show StableHlo.after hostOps0 _ (Proc.devRef .tc main_v20) = _
  after_results_simp <;> rfl

theorem V_v24 (c : Dev nD) : (V m c main_v24 : FVec Ideal S1x1024 .f32) = tiled (m ((c : Thread nD τ).loc main_arg5)) := by
  show StableHlo.after hostOps0 _ (Proc.devRef .tc main_v24) = _
  after_results_simp <;> rfl

theorem V_v25 (c : Dev nD) : (V m c main_v25 : FVec Ideal S1x1024 .f32) = asRow (m ((c : Thread nD τ).loc main_arg2)) := by
  show StableHlo.after hostOps0 _ (Proc.devRef .tc main_v25) = _
  after_results_simp <;> rfl

theorem V_v26 (c : Dev nD) : (V m c main_v26 : FVec Ideal S1024x3072 .bf16)
    = truncf (F := Ideal) .bf16 (m ((c : Thread nD τ).loc main_arg3) : FVec Ideal S1024x3072 .f32) bitsLt_bf16_f32 := by
  show StableHlo.after hostOps0 _ (Proc.devRef .tc main_v26) = _
  after_results_simp <;> rfl

end Cert.QkvIdeal.Run
-- ==== Proof.QkvRun.lean ====
module
public import proofs.«01_k».proof.Proof.QkvHost
@[expose] public section
set_option maxRecDepth 16384
noncomputable section
namespace Cert.QkvIdeal.Run
open Idealize.ShloMosaic Idealize.ShloMosaic.TcCoe Cert.QkvIdeal Cert.QkvIdeal.Gen Cert.QkvIdeal.Pay
open Cert.QkvIdeal.Block
open scoped BigOperators

/-! # The arrays the query/key/value call leaves, from the arguments -/

/-- A prompt token's projected row: the token is one of the residual stream's first rows, and its modulation the first entry. -/
def proj (x : FVec Ideal S40960x1024 .f32) (md : FVec Ideal S16x6x1024 .f32) (g : FVec Ideal S1024 .f32)
    (w : FVec Ideal S1024x3072 .f32) (n : Fin 8192) (j : Fin 3072) : EReal := projAt x md g w ⟨n.val, by omega⟩ 0 j

/-- Its query. -/
def query (x : FVec Ideal S40960x1024 .f32) (md : FVec Ideal S16x6x1024 .f32) (g : FVec Ideal S1024 .f32)
    (w : FVec Ideal S1024x3072 .f32) (qn : FVec Ideal S64 .f32) (n : Fin 8192) (l : Fin 1024) : EReal :=
  queryAt x md g w qn ⟨n.val, by omega⟩ 0 l

/-- Its key. -/
def key (x : FVec Ideal S40960x1024 .f32) (md : FVec Ideal S16x6x1024 .f32) (g : FVec Ideal S1024 .f32)
    (w : FVec Ideal S1024x3072 .f32) (kn : FVec Ideal S64 .f32) (n : Fin 8192) (l : Fin 1024) : EReal :=
  keyAt x md g w kn ⟨n.val, by omega⟩ 0 l

/-- Its value. -/
def value (x : FVec Ideal S40960x1024 .f32) (md : FVec Ideal S16x6x1024 .f32) (g : FVec Ideal S1024 .f32)
    (w : FVec Ideal S1024x3072 .f32) (n : Fin 8192) (l : Fin 1024) : EReal :=
  valueAt x md g w ⟨n.val, by omega⟩ 0 l

theorem idx_0 : ∀ t : Fin grid0.N, win0_0.index t = ![t.val, 0] := by decide +kernel
theorem idx_1 : ∀ t : Fin grid0.N, win0_1.index t = ![0, 0, 0] := by decide +kernel
theorem idx_2 : ∀ t : Fin grid0.N, win0_2.index t = ![0, 0] := by decide +kernel
theorem idx_3 : ∀ t : Fin grid0.N, win0_3.index t = ![0, 0] := by decide +kernel
theorem idx_4 : ∀ t : Fin grid0.N, win0_4.index t = ![0, 0] := by decide +kernel
theorem idx_5 : ∀ t : Fin grid0.N, win0_5.index t = ![0, 0] := by decide +kernel
theorem idx_6 : ∀ t : Fin grid0.N, win0_6.index t = ![0, 0] := by decide +kernel
theorem idx_7 : ∀ t : Fin grid0.N, win0_7.index t = ![0, 0] := by decide +kernel
theorem idx_8 : ∀ t : Fin grid0.N, win0_8.index t = ![t.val, 0] := by decide +kernel
theorem idx_9 : ∀ t : Fin grid0.N, win0_9.index t = ![t.val, 0] := by decide +kernel
theorem idx_10 : ∀ t : Fin grid0.N, win0_10.index t = ![t.val, 0] := by decide +kernel
theorem idx_11 : ∀ t : Fin grid0.N, win0_11.index t = ![t.val, 0] := by decide +kernel
theorem idx_12 : ∀ t : Fin grid0.N, win0_12.index t = ![t.val, 0] := by decide +kernel

variable (m : (ℓ : Loc nD τ sig) → Buf (Elt Ideal) ℓ) (c : Dev nD) (t : Fin cfg0.N)

set_option maxHeartbeats 2000000 in
/-- The blocks of point `t` hold the 256 tokens from `256 * t` on, the first modulation entry and the weights. -/
theorem holds : Holds (iblk m c 0 t) (iblk m c 1 t) (iblk m c 2 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (256 * t.val) 0 where
  tok r k n hn := by
    rw [← V_main_arg0 m c]
    blk_ext [iblk, idx_0, hn]
  mod q k := by
    rw [← V_main_arg1 m c]
    blk_ext [iblk, idx_1]
  gain k := by
    refine Eq.trans ?_ ((congrFun (V_v25 m c) (ix2 0 k)).trans (asRow_apply _ k))
    blk_ext [iblk, idx_2]
  weight k j := by
    refine Eq.trans ?_ (congrFun (V_v26 m c) (ix2 k j))
    blk_ext [iblk, idx_3]
  qgain l := by
    refine Eq.trans ?_ ((congrFun (V_v20 m c) (ix2 0 l)).trans (tiled_apply _ l))
    blk_ext [iblk, idx_4]
  kgain l := by
    refine Eq.trans ?_ ((congrFun (V_v24 m c) (ix2 0 l)).trans (tiled_apply _ l))
    blk_ext [iblk, idx_5]
  table k j := by
    rw [← headTable_apply, ← V_v9 m c]
    blk_ext [iblk, idx_6]
  tableT j l := by
    rw [← headTableT_apply, ← V_v16 m c]
    blk_ext [iblk, idx_7]

theorem lt32 (t : Fin cfg0.N) : t.val < 32 := lt_of_lt_of_eq t.isLt (show cfg0.N = 32 from N_0)

/-- The query array. -/
theorem final8 : (dats m 0 c).arrAt 8 cfg0.N = fun y : S8192x1024.Idx =>
    query (m ((c : Thread nD τ).loc main_arg0)) (m ((c : Thread nD τ).loc main_arg1))
      (m ((c : Thread nD τ).loc main_arg2)) (m ((c : Thread nD τ).loc main_arg3)) (m ((c : Thread nD τ).loc main_arg4)) (y 0) (y 1) := by
  refine (dats m 0 c).arrAt_eq_of_covers 8 _ (by decide +kernel) fun t hf y => ?_
  have hN := lt32 t
  blk_simp
  rw [after0_8, block_fun (φ := .bf16) _ _ (256 * t.val) (by omega) (query_block (holds m c t))]
  refine pair_congr (queryAt _ _ _ _ _ · 0 ·) ?_ ?_
  · show 256 * t.val + (y 0).val = _
    blk_simp [idx_8]
    show 256 * t.val + (y 0).val = t.val * 256 + (y 0).val
    omega
  · blk_simp [idx_8]

/-- The key array, -/
theorem final9 : (dats m 0 c).arrAt 9 cfg0.N = fun y : S8192x1024.Idx =>
    key (m ((c : Thread nD τ).loc main_arg0)) (m ((c : Thread nD τ).loc main_arg1))
      (m ((c : Thread nD τ).loc main_arg2)) (m ((c : Thread nD τ).loc main_arg3)) (m ((c : Thread nD τ).loc main_arg5)) (y 0) (y 1) := by
  refine (dats m 0 c).arrAt_eq_of_covers 9 _ (by decide +kernel) fun t hf y => ?_
  have hN := lt32 t
  blk_simp
  rw [after0_9, block_fun (φ := .bf16) _ _ (256 * t.val) (by omega) (key_block16 (holds m c t))]
  refine pair_congr (keyAt _ _ _ _ _ · 0 ·) ?_ ?_
  · show 256 * t.val + (y 0).val = _
    blk_simp [idx_9]
    show 256 * t.val + (y 0).val = t.val * 256 + (y 0).val
    omega
  · blk_simp [idx_9]

/-- … in both formats. -/
theorem final11 : (dats m 0 c).arrAt 11 cfg0.N = fun y : S8192x1024.Idx =>
    key (m ((c : Thread nD τ).loc main_arg0)) (m ((c : Thread nD τ).loc main_arg1))
      (m ((c : Thread nD τ).loc main_arg2)) (m ((c : Thread nD τ).loc main_arg3)) (m ((c : Thread nD τ).loc main_arg5)) (y 0) (y 1) := by
  refine (dats m 0 c).arrAt_eq_of_covers 11 _ (by decide +kernel) fun t hf y => ?_
  have hN := lt32 t
  blk_simp
  rw [after0_11, block_fun (φ := .f32) _ _ (256 * t.val) (by omega) (key_block (holds m c t))]
  refine pair_congr (keyAt _ _ _ _ _ · 0 ·) ?_ ?_
  · show 256 * t.val + (y 0).val = _
    blk_simp [idx_11]
    show 256 * t.val + (y 0).val = t.val * 256 + (y 0).val
    omega
  · blk_simp [idx_11]

/-- The value array, -/
theorem final10 : (dats m 0 c).arrAt 10 cfg0.N = fun y : S8192x1024.Idx =>
    value (m ((c : Thread nD τ).loc main_arg0)) (m ((c : Thread nD τ).loc main_arg1))
      (m ((c : Thread nD τ).loc main_arg2)) (m ((c : Thread nD τ).loc main_arg3)) (y 0) (y 1) := by
  refine (dats m 0 c).arrAt_eq_of_covers 10 _ (by decide +kernel) fun t hf y => ?_
  have hN := lt32 t
  blk_simp
  rw [after0_10, block_fun (φ := .bf16) _ _ (256 * t.val) (by omega) (value_block16 (holds m c t))]
  refine pair_congr (valueAt _ _ _ _ · 0 ·) ?_ ?_
  · show 256 * t.val + (y 0).val = _
    blk_simp [idx_10]
    show 256 * t.val + (y 0).val = t.val * 256 + (y 0).val
    omega
  · blk_simp [idx_10]

/-- … in both formats. -/
theorem final12 : (dats m 0 c).arrAt 12 cfg0.N = fun y : S8192x1024.Idx =>
    value (m ((c : Thread nD τ).loc main_arg0)) (m ((c : Thread nD τ).loc main_arg1))
      (m ((c : Thread nD τ).loc main_arg2)) (m ((c : Thread nD τ).loc main_arg3)) (y 0) (y 1) := by
  refine (dats m 0 c).arrAt_eq_of_covers 12 _ (by decide +kernel) fun t hf y => ?_
  have hN := lt32 t
  blk_simp
  rw [after0_12, block_fun (φ := .f32) _ _ (256 * t.val) (by omega) (value_block (holds m c t))]
  refine pair_congr (valueAt _ _ _ _ · 0 ·) ?_ ?_
  · show 256 * t.val + (y 0).val = _
    blk_simp [idx_12]
    show 256 * t.val + (y 0).val = t.val * 256 + (y 0).val
    omega
  · blk_simp [idx_12]

end Cert.QkvIdeal.Run
-- ==== Proof.QkvRef.lean ====
module
public import proofs.«01_k».proof.Proof.QkvRun
public import proofs.«01_k».proof.Proof.Gen.QkvReferenceIdeal.Read
@[expose] public section
set_option maxRecDepth 16384
noncomputable section
namespace Cert.QkvReferenceIdeal.Ref
open Idealize.ShloMosaic Cert.QkvReferenceIdeal Cert.QkvReferenceIdeal.Gen Cert.QkvReferenceIdeal.Read
open Cert.QkvIdeal.Pay (adaln headNorm headMean rootInv eps)
open Cert.QkvIdeal.Block (projAt queryAt keyAt)
open Cert.QkvIdeal.Run (proj query key value)
open scoped BigOperators

/-! # The reference's results, read at an index -/

variable (x0 : FVec Ideal S40960x1024 .f32) (x1 : FVec Ideal S16x6x1024 .f32) (x2 : FVec Ideal S1024 .f32)
  (x3 : FVec Ideal S1024x3072 .f32) (x4 x5 : FVec Ideal S64 .f32)

/-- A token's reciprocal root of its mean square. -/
theorem v12_apply (n : Fin 8192) : val_main_v12 (F := Ideal) x0 (ix2 n 0)
    = rootInv (Ideal.div (∑ l : Fin 1024, x0 (ix2 ⟨n.val, by omega⟩ l) * x0 (ix2 ⟨n.val, by omega⟩ l)) (Ideal.ofBits .f32 0x44800000#32)) := by
  unfold rootInv eps
  pointwise [val_main_v12, val_main_v11, val_main_v10, val_main_v9, val_main_v8, val_main_v7, val_main_v6, val_main_v5, val_main_v4,
    val_main_cst, val_main_cst_0, val_main_cst_1]

/-- The adaptively normalised row. -/
theorem v25_apply (n : Fin 8192) (k : Fin 1024) : val_main_v25 (F := Ideal) x0 x1 x2 (ix2 n k)
    = adaln (fun k => x0 (ix2 ⟨n.val, by omega⟩ k)) (fun k => x2 (ix1 k)) (fun k => x1 (ix3 0 1 k)) (fun k => x1 (ix3 0 0 k)) k := by
  unfold adaln
  rw [← v12_apply]
  unfold val_main_v25 val_main_v22 val_main_v17 val_main_v14 val_main_v13
  generalize val_main_v12 (F := Ideal) x0 = y
  pointwise [val_main_v24, val_main_v23, val_main_v21, val_main_v20, val_main_v19, val_main_v18, val_main_v16, val_main_v15, val_main_v4,
    val_main_v3, val_main_v2, val_main_v1, val_main_v0, val_main_cst_2]

/-- Its projection. -/
theorem v26_apply (n : Fin 8192) (j : Fin 3072) : val_main_v26 (F := Ideal) x0 x1 x2 x3 (ix2 n j) = proj x0 x1 x2 x3 n j := by
  unfold proj projAt
  simp only [← v25_apply]
  unfold val_main_v26
  generalize val_main_v25 (F := Ideal) x0 x1 x2 = y
  pointwise

theorem v29_apply (n : Fin 8192) (h : Fin 16) (d : Fin 64) :
    val_main_v29 (F := Ideal) x0 x1 x2 x3 (ix3 n h d) = proj x0 x1 x2 x3 n ⟨64 * h.val + d.val, by omega⟩ := by
  rw [← v26_apply]
  unfold val_main_v29 val_main_v28 val_main_v27
  generalize val_main_v26 (F := Ideal) x0 x1 x2 x3 = y
  pointwise
  exact congrArg (fun i => y (ix2 n i)) (Fin.ext (by dsimp only; omega))

theorem v44_apply (n : Fin 8192) (h : Fin 16) (d : Fin 64) :
    val_main_v44 (F := Ideal) x0 x1 x2 x3 (ix3 n h d) = proj x0 x1 x2 x3 n ⟨1024 + (64 * h.val + d.val), by omega⟩ := by
  rw [← v26_apply]
  unfold val_main_v44 val_main_v43 val_main_v27
  generalize val_main_v26 (F := Ideal) x0 x1 x2 x3 = y
  pointwise
  exact congrArg (fun i => y (ix2 n i)) (Fin.ext (by dsimp only; omega))

/-- A head's normalisation as the reference computes it. -/
def refNorm (y : Fin 64 → EReal) (g : Fin 64 → EReal) (d : Fin 64) : EReal :=
  y d * rootInv (Ideal.div (∑ e : Fin 64, y e * y e) (Ideal.ofBits .f32 0x42800000#32)) * g d

theorem refNorm_headNorm (y : Fin 1024 → EReal) (g : Fin 64 → EReal) (l : Fin 1024) :
    refNorm (fun d => y ⟨64 * (l.val / 64) + d.val, by omega⟩) g ⟨l.val % 64, by omega⟩ = headNorm y g l := by
  have h : (⟨64 * (l.val / 64) + l.val % 64, by omega⟩ : Fin 1024) = l := Fin.ext (by show 64 * (l.val / 64) + l.val % 64 = l.val; omega)
  unfold refNorm headNorm headMean
  simp only [h]

theorem v42_apply (n : Fin 8192) (h : Fin 16) (d : Fin 64) : val_main_v42 (F := Ideal) x0 x1 x2 x3 x4 (ix3 n h d)
    = refNorm (fun d => val_main_v29 (F := Ideal) x0 x1 x2 x3 (ix3 n h d)) (fun d => x4 (ix1 d)) d := by
  unfold val_main_v42 val_main_v39 val_main_v38 val_main_v37 val_main_v36 val_main_v34 val_main_v32 val_main_v31 val_main_v30
  generalize val_main_v29 (F := Ideal) x0 x1 x2 x3 = y
  unfold refNorm rootInv eps
  pointwise [val_main_v41, val_main_v40, val_main_v35, val_main_v33, val_main_cst_3, val_main_cst_4, val_main_cst_5]

theorem v57_apply (n : Fin 8192) (h : Fin 16) (d : Fin 64) : val_main_v57 (F := Ideal) x0 x1 x2 x3 x5 (ix3 n h d)
    = refNorm (fun d => val_main_v44 (F := Ideal) x0 x1 x2 x3 (ix3 n h d)) (fun d => x5 (ix1 d)) d := by
  unfold val_main_v57 val_main_v54 val_main_v53 val_main_v52 val_main_v51 val_main_v49 val_main_v47 val_main_v46 val_main_v45
  generalize val_main_v44 (F := Ideal) x0 x1 x2 x3 = y
  unfold refNorm rootInv eps
  pointwise [val_main_v56, val_main_v55, val_main_v50, val_main_v48, val_main_cst_6, val_main_cst_7, val_main_cst_8]

/-- The query. -/
theorem v60_apply (n : Fin 8192) (l : Fin 1024) : val_main_v60 (F := Ideal) x0 x1 x2 x3 x4 (ix2 n l) = query x0 x1 x2 x3 x4 n l := by
  have e : val_main_v60 (F := Ideal) x0 x1 x2 x3 x4 (ix2 n l)
      = val_main_v42 (F := Ideal) x0 x1 x2 x3 x4 (ix3 n ⟨l.val / 64, by omega⟩ ⟨l.val % 64, by omega⟩) := by
    unfold val_main_v60
    generalize val_main_v42 (F := Ideal) x0 x1 x2 x3 x4 = y
    pointwise
  unfold query queryAt
  rw [e, v42_apply, ← refNorm_headNorm]
  simp only [v29_apply]
  rfl

/-- The key. -/
theorem v61_apply (n : Fin 8192) (l : Fin 1024) : val_main_v61 (F := Ideal) x0 x1 x2 x3 x5 (ix2 n l) = key x0 x1 x2 x3 x5 n l := by
  have e : val_main_v61 (F := Ideal) x0 x1 x2 x3 x5 (ix2 n l)
      = val_main_v57 (F := Ideal) x0 x1 x2 x3 x5 (ix3 n ⟨l.val / 64, by omega⟩ ⟨l.val % 64, by omega⟩) := by
    unfold val_main_v61
    generalize val_main_v57 (F := Ideal) x0 x1 x2 x3 x5 = y
    pointwise
  unfold key keyAt
  rw [e, v57_apply, ← refNorm_headNorm]
  simp only [v44_apply]
  rfl

/-- The value. -/
theorem v62_apply (n : Fin 8192) (l : Fin 1024) : val_main_v62 (F := Ideal) x0 x1 x2 x3 (ix2 n l) = value x0 x1 x2 x3 n l := by
  show _ = proj x0 x1 x2 x3 n ⟨2048 + l.val, by omega⟩
  rw [← v26_apply]
  unfold val_main_v62 val_main_v59 val_main_v58 val_main_v27
  generalize val_main_v26 (F := Ideal) x0 x1 x2 x3 = y
  pointwise
  exact congrArg (fun i => y (ix2 n i)) (Fin.ext (by dsimp only; omega))

theorem idx_eta (y : S8192x1024.Idx) : y = ix2 (y 0) (y 1) := by funext a; match a with | ⟨0, _⟩ => rfl | ⟨1, _⟩ => rfl

/-- The query, as a whole array. -/
theorem query_eq : val_main_v60 (F := Ideal) x0 x1 x2 x3 x4 = fun y : S8192x1024.Idx => query x0 x1 x2 x3 x4 (y 0) (y 1) :=
  funext fun y => (congrArg _ (idx_eta y)).trans (v60_apply x0 x1 x2 x3 x4 (y 0) (y 1))

/-- The key. -/
theorem key_eq : val_main_v61 (F := Ideal) x0 x1 x2 x3 x5 = fun y : S8192x1024.Idx => key x0 x1 x2 x3 x5 (y 0) (y 1) :=
  funext fun y => (congrArg _ (idx_eta y)).trans (v61_apply x0 x1 x2 x3 x5 (y 0) (y 1))

/-- The value. -/
theorem value_eq : val_main_v62 (F := Ideal) x0 x1 x2 x3 = fun y : S8192x1024.Idx => value x0 x1 x2 x3 (y 0) (y 1) :=
  funext fun y => (congrArg _ (idx_eta y)).trans (v62_apply x0 x1 x2 x3 (y 0) (y 1))

/-- The query as it is given, cast to bf16: the cast is the identity on ideal numbers. -/
theorem query_cast_eq : val_main_v63 (F := Ideal) x0 x1 x2 x3 x4 = fun y : S8192x1024.Idx => query x0 x1 x2 x3 x4 (y 0) (y 1) := by
  rw [← query_eq]
  unfold val_main_v63
  generalize val_main_v60 (F := Ideal) x0 x1 x2 x3 x4 = y
  rfl

/-- The key as it is given, cast to bf16. -/
theorem key_cast_eq : val_main_v64 (F := Ideal) x0 x1 x2 x3 x5 = fun y : S8192x1024.Idx => key x0 x1 x2 x3 x5 (y 0) (y 1) := by
  rw [← key_eq]
  unfold val_main_v64
  generalize val_main_v61 (F := Ideal) x0 x1 x2 x3 x5 = y
  rfl

/-- The value as it is given, cast to bf16. -/
theorem value_cast_eq : val_main_v65 (F := Ideal) x0 x1 x2 x3 = fun y : S8192x1024.Idx => value x0 x1 x2 x3 (y 0) (y 1) := by
  rw [← value_eq]
  unfold val_main_v65
  generalize val_main_v62 (F := Ideal) x0 x1 x2 x3 = y
  rfl

end Cert.QkvReferenceIdeal.Ref
-- ==== Proof.SqkvRun.lean ====
module
public import proofs.«01_k».proof.Proof.QkvHost
public import proofs.«01_k».proof.Proof.Gen.SqkvIdeal.Value
@[expose] public section
set_option maxRecDepth 16384
noncomputable section
namespace Cert.SqkvIdeal.Run
open Idealize.ShloMosaic Idealize.ShloMosaic.TcCoe Cert.SqkvIdeal Cert.SqkvIdeal.Gen
open Cert.QkvIdeal.Block (Holds projAt queryAt keyAt valueAt block_fun query_block key_block16 value_block16)
open Cert.QkvIdeal.Run (headTable headTableT tiled asRow headTable_apply headTableT_apply tiled_apply asRow_apply)
open scoped BigOperators

/-! # The arrays the samples' query/key/value call leaves, from the arguments

The kernel is the prompt's, so what a block's point stores is taken from there; the tokens and modulation entries differ. -/

/-- A sample token's projected row: the residual stream's rows after the prompt's 8192 are the samples', 4096 of each, and sample
    `b` has modulation entry `1 + b`. -/
def proj (x : FVec Ideal S40960x1024 .f32) (md : FVec Ideal S16x6x1024 .f32) (g : FVec Ideal S1024 .f32)
    (w : FVec Ideal S1024x3072 .f32) (n : Fin 32768) (j : Fin 3072) : EReal := projAt x md g w ⟨8192 + n.val, by omega⟩ ⟨1 + n.val / 4096, by omega⟩ j

/-- Its query. -/
def query (x : FVec Ideal S40960x1024 .f32) (md : FVec Ideal S16x6x1024 .f32) (g : FVec Ideal S1024 .f32)
    (w : FVec Ideal S1024x3072 .f32) (qn : FVec Ideal S64 .f32) (n : Fin 32768) (l : Fin 1024) : EReal :=
  queryAt x md g w qn ⟨8192 + n.val, by omega⟩ ⟨1 + n.val / 4096, by omega⟩ l

/-- Its key. -/
def key (x : FVec Ideal S40960x1024 .f32) (md : FVec Ideal S16x6x1024 .f32) (g : FVec Ideal S1024 .f32)
    (w : FVec Ideal S1024x3072 .f32) (kn : FVec Ideal S64 .f32) (n : Fin 32768) (l : Fin 1024) : EReal :=
  keyAt x md g w kn ⟨8192 + n.val, by omega⟩ ⟨1 + n.val / 4096, by omega⟩ l

/-- Its value. -/
def value (x : FVec Ideal S40960x1024 .f32) (md : FVec Ideal S16x6x1024 .f32) (g : FVec Ideal S1024 .f32)
    (w : FVec Ideal S1024x3072 .f32) (n : Fin 32768) (l : Fin 1024) : EReal :=
  valueAt x md g w ⟨8192 + n.val, by omega⟩ ⟨1 + n.val / 4096, by omega⟩ l

theorem idx_0 : ∀ t : Fin grid0.N, win0_0.index t = ![32 + t.val, 0] := by decide +kernel
theorem idx_1 : ∀ t : Fin grid0.N, win0_1.index t = ![1 + t.val / 16, 0, 0] := by decide +kernel
theorem idx_2 : ∀ t : Fin grid0.N, win0_2.index t = ![0, 0] := by decide +kernel
theorem idx_3 : ∀ t : Fin grid0.N, win0_3.index t = ![0, 0] := by decide +kernel
theorem idx_4 : ∀ t : Fin grid0.N, win0_4.index t = ![0, 0] := by decide +kernel
theorem idx_5 : ∀ t : Fin grid0.N, win0_5.index t = ![0, 0] := by decide +kernel
theorem idx_6 : ∀ t : Fin grid0.N, win0_6.index t = ![0, 0] := by decide +kernel
theorem idx_7 : ∀ t : Fin grid0.N, win0_7.index t = ![0, 0] := by decide +kernel
theorem idx_8 : ∀ t : Fin grid0.N, win0_8.index t = ![t.val, 0] := by decide +kernel
theorem idx_9 : ∀ t : Fin grid0.N, win0_9.index t = ![t.val, 0] := by decide +kernel
theorem idx_10 : ∀ t : Fin grid0.N, win0_10.index t = ![t.val, 0] := by decide +kernel

variable (m : (ℓ : Loc nD τ sig) → Buf (Elt Ideal) ℓ)

theorem V_v9 (c : Dev nD) : (V m c main_v9 : FVec Ideal S1024x128 .bf16) = headTable := by
  show StableHlo.after hostOps0 _ (Proc.devRef .tc main_v9) = _
  after_results_simp <;> rfl

theorem V_v16 (c : Dev nD) : (V m c main_v16 : FVec Ideal S128x1024 .bf16) = headTableT := by
  show StableHlo.after hostOps0 _ (Proc.devRef .tc main_v16) = _
  after_results_simp <;> rfl

theorem V_v20 (c : Dev nD) : (V m c main_v20 : FVec Ideal S1x1024 .f32) = tiled (m ((c : Thread nD τ).loc main_arg4)) := by
  show StableHlo.after hostOps0 _ (Proc.devRef .tc main_v20) = _
  after_results_simp <;> rfl

theorem V_v24 (c : Dev nD) : (V m c main_v24 : FVec Ideal S1x1024 .f32) = tiled (m ((c : Thread nD τ).loc main_arg5)) := by
  show StableHlo.after hostOps0 _ (Proc.devRef .tc main_v24) = _
  after_results_simp <;> rfl

theorem V_v25 (c : Dev nD) : (V m c main_v25 : FVec Ideal S1x1024 .f32) = asRow (m ((c : Thread nD τ).loc main_arg2)) := by
  show StableHlo.after hostOps0 _ (Proc.devRef .tc main_v25) = _
  after_results_simp <;> rfl

theorem V_v26 (c : Dev nD) : (V m c main_v26 : FVec Ideal S1024x3072 .bf16)
    = truncf (F := Ideal) .bf16 (m ((c : Thread nD τ).loc main_arg3) : FVec Ideal S1024x3072 .f32) bitsLt_bf16_f32 := by
  show StableHlo.after hostOps0 _ (Proc.devRef .tc main_v26) = _
  after_results_simp <;> rfl

variable (c : Dev nD) (t : Fin cfg0.N)

theorem lt128 (t : Fin cfg0.N) : t.val < 128 := lt_of_lt_of_eq t.isLt (show cfg0.N = 128 from N_0)

set_option maxHeartbeats 2000000 in
/-- The blocks of point `t` hold the 256 tokens from `8192 + 256 * t` on, their sample's modulation entry and the weights. -/
theorem holds : Holds (iblk m c 0 t) (iblk m c 1 t) (iblk m c 2 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (8192 + 256 * t.val)
    ⟨1 + t.val / 16, by have := lt128 t; omega⟩ where
  tok r k n hn := by
    rw [← V_main_arg0 m c]
    blk_ext [iblk, idx_0, hn]
  mod q k := by
    rw [← V_main_arg1 m c]
    blk_ext [iblk, idx_1]
  gain k := by
    refine Eq.trans ?_ ((congrFun (V_v25 m c) (ix2 0 k)).trans (asRow_apply _ k))
    blk_ext [iblk, idx_2]
  weight k j := by
    refine Eq.trans ?_ (congrFun (V_v26 m c) (ix2 k j))
    blk_ext [iblk, idx_3]
  qgain l := by
    refine Eq.trans ?_ ((congrFun (V_v20 m c) (ix2 0 l)).trans (tiled_apply _ l))
    blk_ext [iblk, idx_4]
  kgain l := by
    refine Eq.trans ?_ ((congrFun (V_v24 m c) (ix2 0 l)).trans (tiled_apply _ l))
    blk_ext [iblk, idx_5]
  table k j := by
    rw [← headTable_apply, ← V_v9 m c]
    blk_ext [iblk, idx_6]
  tableT j l := by
    rw [← headTableT_apply, ← V_v16 m c]
    blk_ext [iblk, idx_7]

/-- A point stores the same functions of its blocks as the prompt's call. -/
theorem out8 : out0_8 (F := Ideal) = Cert.QkvIdeal.Gen.out0_8 (F := Ideal) := rfl
theorem out9 : out0_9 (F := Ideal) = Cert.QkvIdeal.Gen.out0_9 (F := Ideal) := rfl
theorem out10 : out0_10 (F := Ideal) = Cert.QkvIdeal.Gen.out0_10 (F := Ideal) := rfl

theorem triple_congr (G : Fin 40960 → Fin 16 → Fin 1024 → EReal) {n n' : Fin 40960} {s s' : Fin 16} {l l' : Fin 1024}
    (hn : n.val = n'.val) (hs : s.val = s'.val) (hl : l.val = l'.val) : G n s l = G n' s' l' := by
  rw [Fin.ext hn, Fin.ext hs, Fin.ext hl]

/-- The query array. -/
theorem final8 : (dats m 0 c).arrAt 8 cfg0.N = fun y : S32768x1024.Idx =>
    query (m ((c : Thread nD τ).loc main_arg0)) (m ((c : Thread nD τ).loc main_arg1))
      (m ((c : Thread nD τ).loc main_arg2)) (m ((c : Thread nD τ).loc main_arg3)) (m ((c : Thread nD τ).loc main_arg4)) (y 0) (y 1) := by
  refine (dats m 0 c).arrAt_eq_of_covers 8 _ (by decide +kernel) fun t hf y => ?_
  have hN := lt128 t
  blk_simp
  rw [after0_8, out8, block_fun (φ := .bf16) _ _ (8192 + 256 * t.val) (by omega) (query_block (holds m c t))]
  refine triple_congr (queryAt _ _ _ _ _) ?_ ?_ ?_
  · show 8192 + 256 * t.val + (y 0).val = _
    blk_simp [idx_8]
    show 8192 + 256 * t.val + (y 0).val = 8192 + (t.val * 256 + (y 0).val)
    omega
  · have hy : (y 0).val < 256 := (y 0).isLt
    show 1 + t.val / 16 = _
    blk_simp [idx_8]
    show 1 + t.val / 16 = 1 + (t.val * 256 + (y 0).val) / 4096
    omega
  · blk_simp [idx_8]

/-- The key array. -/
theorem final9 : (dats m 0 c).arrAt 9 cfg0.N = fun y : S32768x1024.Idx =>
    key (m ((c : Thread nD τ).loc main_arg0)) (m ((c : Thread nD τ).loc main_arg1))
      (m ((c : Thread nD τ).loc main_arg2)) (m ((c : Thread nD τ).loc main_arg3)) (m ((c : Thread nD τ).loc main_arg5)) (y 0) (y 1) := by
  refine (dats m 0 c).arrAt_eq_of_covers 9 _ (by decide +kernel) fun t hf y => ?_
  have hN := lt128 t
  blk_simp
  rw [after0_9, out9, block_fun (φ := .bf16) _ _ (8192 + 256 * t.val) (by omega) (key_block16 (holds m c t))]
  refine triple_congr (keyAt _ _ _ _ _) ?_ ?_ ?_
  · show 8192 + 256 * t.val + (y 0).val = _
    blk_simp [idx_9]
    show 8192 + 256 * t.val + (y 0).val = 8192 + (t.val * 256 + (y 0).val)
    omega
  · have hy : (y 0).val < 256 := (y 0).isLt
    show 1 + t.val / 16 = _
    blk_simp [idx_9]
    show 1 + t.val / 16 = 1 + (t.val * 256 + (y 0).val) / 4096
    omega
  · blk_simp [idx_9]

/-- The value array. -/
theorem final10 : (dats m 0 c).arrAt 10 cfg0.N = fun y : S32768x1024.Idx =>
    value (m ((c : Thread nD τ).loc main_arg0)) (m ((c : Thread nD τ).loc main_arg1))
      (m ((c : Thread nD τ).loc main_arg2)) (m ((c : Thread nD τ).loc main_arg3)) (y 0) (y 1) := by
  refine (dats m 0 c).arrAt_eq_of_covers 10 _ (by decide +kernel) fun t hf y => ?_
  have hN := lt128 t
  blk_simp
  rw [after0_10, out10, block_fun (φ := .bf16) _ _ (8192 + 256 * t.val) (by omega) (value_block16 (holds m c t))]
  refine triple_congr (valueAt _ _ _ _) ?_ ?_ ?_
  · show 8192 + 256 * t.val + (y 0).val = _
    blk_simp [idx_10]
    show 8192 + 256 * t.val + (y 0).val = 8192 + (t.val * 256 + (y 0).val)
    omega
  · have hy : (y 0).val < 256 := (y 0).isLt
    show 1 + t.val / 16 = _
    blk_simp [idx_10]
    show 1 + t.val / 16 = 1 + (t.val * 256 + (y 0).val) / 4096
    omega
  · blk_simp [idx_10]

end Cert.SqkvIdeal.Run
-- ==== Proof.SqkvRef.lean ====
module
public import proofs.«01_k».proof.Proof.QkvRef
public import proofs.«01_k».proof.Proof.SqkvRun
public import proofs.«01_k».proof.Proof.Gen.SqkvReferenceIdeal.Read
@[expose] public section
set_option maxRecDepth 16384
noncomputable section
namespace Cert.SqkvReferenceIdeal.Ref
open Idealize.ShloMosaic Cert.SqkvReferenceIdeal Cert.SqkvReferenceIdeal.Gen Cert.SqkvReferenceIdeal.Read
open Cert.QkvIdeal.Pay (adaln headNorm headMean rootInv eps)
open Cert.QkvIdeal.Block (projAt queryAt keyAt valueAt)
open Cert.QkvReferenceIdeal.Ref (refNorm refNorm_headNorm)
open Cert.SqkvIdeal.Run (proj query key value)
open scoped BigOperators

/-! # The samples' reference's results, read at an index -/

variable (x0 : FVec Ideal S40960x1024 .f32) (x1 : FVec Ideal S16x6x1024 .f32) (x2 : FVec Ideal S1024 .f32)
  (x3 : FVec Ideal S1024x3072 .f32) (x4 x5 : FVec Ideal S64 .f32)

/-- A sample's token among the residual stream's rows. -/
theorem v1_apply (b : Fin 8) (p : Fin 4096) (k : Fin 1024) :
    val_main_v1 (F := Ideal) x0 (ix3 b p k) = x0 (ix2 ⟨8192 + (4096 * b.val + p.val), by omega⟩ k) := by
  pointwise [val_main_v1, val_main_v0]
  exact congrArg (fun i => x0 (ix2 i k)) (Fin.ext (by dsimp only; omega))

/-- A sample's shift, -/
theorem v4_apply (b : Fin 8) (k : Fin 1024) : val_main_v4 (F := Ideal) x1 (ix3 b 0 k) = x1 (ix3 ⟨1 + b.val, by omega⟩ 0 k) := by
  pointwise [val_main_v4, val_main_v3, val_main_v2]

/-- … and its scale. -/
theorem v7_apply (b : Fin 8) (k : Fin 1024) : val_main_v7 (F := Ideal) x1 (ix3 b 0 k) = x1 (ix3 ⟨1 + b.val, by omega⟩ 1 k) := by
  pointwise [val_main_v7, val_main_v6, val_main_v5]

/-- A token's reciprocal root of its mean square. -/
theorem v15_apply (b : Fin 8) (p : Fin 4096) : val_main_v15 (F := Ideal) x0 (ix3 b p 0)
    = rootInv (Ideal.div (∑ l : Fin 1024, val_main_v1 (F := Ideal) x0 (ix3 b p l) * val_main_v1 (F := Ideal) x0 (ix3 b p l))
        (Ideal.ofBits .f32 0x44800000#32)) := by
  unfold rootInv eps val_main_v15 val_main_v14 val_main_v12 val_main_v10 val_main_v9 val_main_v8
  generalize val_main_v1 (F := Ideal) x0 = y
  pointwise [val_main_v13, val_main_v11, val_main_cst, val_main_cst_0, val_main_cst_1]

/-- The adaptively normalised row. -/
theorem v26_apply (b : Fin 8) (p : Fin 4096) (k : Fin 1024) : val_main_v26 (F := Ideal) x0 x1 x2 (ix3 b p k)
    = adaln (fun k => x0 (ix2 ⟨8192 + (4096 * b.val + p.val), by omega⟩ k)) (fun k => x2 (ix1 k))
        (fun k => x1 (ix3 ⟨1 + b.val, by omega⟩ 1 k)) (fun k => x1 (ix3 ⟨1 + b.val, by omega⟩ 0 k)) k := by
  unfold adaln
  simp only [← v1_apply, ← v4_apply, ← v7_apply]
  rw [← v15_apply]
  unfold val_main_v26 val_main_v25 val_main_v24 val_main_v23 val_main_v22 val_main_v20 val_main_v17 val_main_v16
  generalize val_main_v15 (F := Ideal) x0 = y
  generalize val_main_v1 (F := Ideal) x0 = z
  generalize val_main_v4 (F := Ideal) x1 = sh
  generalize val_main_v7 (F := Ideal) x1 = sc
  pointwise [val_main_v21, val_main_v19, val_main_v18, val_main_cst_2]

/-- Its projection. -/
theorem v27_apply (b : Fin 8) (p : Fin 4096) (j : Fin 3072) : val_main_v27 (F := Ideal) x0 x1 x2 x3 (ix3 b p j)
    = projAt x0 x1 x2 x3 ⟨8192 + (4096 * b.val + p.val), by omega⟩ ⟨1 + b.val, by omega⟩ j := by
  unfold projAt
  simp only [← v26_apply]
  unfold val_main_v27
  generalize val_main_v26 (F := Ideal) x0 x1 x2 = y
  pointwise

theorem v30_apply (b : Fin 8) (p : Fin 4096) (h : Fin 16) (d : Fin 64) : val_main_v30 (F := Ideal) x0 x1 x2 x3 (ix4 b p h d)
    = projAt x0 x1 x2 x3 ⟨8192 + (4096 * b.val + p.val), by omega⟩ ⟨1 + b.val, by omega⟩ ⟨64 * h.val + d.val, by omega⟩ := by
  rw [← v27_apply]
  unfold val_main_v30 val_main_v29 val_main_v28
  generalize val_main_v27 (F := Ideal) x0 x1 x2 x3 = y
  pointwise
  exact congrArg (fun i => y (ix3 b p i)) (Fin.ext (by dsimp only; omega))

theorem v45_apply (b : Fin 8) (p : Fin 4096) (h : Fin 16) (d : Fin 64) : val_main_v45 (F := Ideal) x0 x1 x2 x3 (ix4 b p h d)
    = projAt x0 x1 x2 x3 ⟨8192 + (4096 * b.val + p.val), by omega⟩ ⟨1 + b.val, by omega⟩ ⟨1024 + (64 * h.val + d.val), by omega⟩ := by
  rw [← v27_apply]
  unfold val_main_v45 val_main_v44 val_main_v28
  generalize val_main_v27 (F := Ideal) x0 x1 x2 x3 = y
  pointwise
  exact congrArg (fun i => y (ix3 b p i)) (Fin.ext (by dsimp only; omega))

theorem v60_apply (b : Fin 8) (p : Fin 4096) (h : Fin 16) (d : Fin 64) : val_main_v60 (F := Ideal) x0 x1 x2 x3 (ix4 b p h d)
    = projAt x0 x1 x2 x3 ⟨8192 + (4096 * b.val + p.val), by omega⟩ ⟨1 + b.val, by omega⟩ ⟨2048 + (64 * h.val + d.val), by omega⟩ := by
  rw [← v27_apply]
  unfold val_main_v60 val_main_v59 val_main_v28
  generalize val_main_v27 (F := Ideal) x0 x1 x2 x3 = y
  pointwise
  exact congrArg (fun i => y (ix3 b p i)) (Fin.ext (by dsimp only; omega))

theorem v43_apply (b : Fin 8) (p : Fin 4096) (h : Fin 16) (d : Fin 64) : val_main_v43 (F := Ideal) x0 x1 x2 x3 x4 (ix4 b p h d)
    = refNorm (fun d => val_main_v30 (F := Ideal) x0 x1 x2 x3 (ix4 b p h d)) (fun d => x4 (ix1 d)) d := by
  unfold val_main_v43 val_main_v40 val_main_v39 val_main_v38 val_main_v37 val_main_v35 val_main_v33 val_main_v32 val_main_v31
  generalize val_main_v30 (F := Ideal) x0 x1 x2 x3 = y
  unfold refNorm rootInv eps
  pointwise [val_main_v42, val_main_v41, val_main_v36, val_main_v34, val_main_cst_3, val_main_cst_4, val_main_cst_5]

theorem v58_apply (b : Fin 8) (p : Fin 4096) (h : Fin 16) (d : Fin 64) : val_main_v58 (F := Ideal) x0 x1 x2 x3 x5 (ix4 b p h d)
    = refNorm (fun d => val_main_v45 (F := Ideal) x0 x1 x2 x3 (ix4 b p h d)) (fun d => x5 (ix1 d)) d := by
  unfold val_main_v58 val_main_v55 val_main_v54 val_main_v53 val_main_v52 val_main_v50 val_main_v48 val_main_v47 val_main_v46
  generalize val_main_v45 (F := Ideal) x0 x1 x2 x3 = y
  unfold refNorm rootInv eps
  pointwise [val_main_v57, val_main_v56, val_main_v51, val_main_v49, val_main_cst_6, val_main_cst_7, val_main_cst_8]

/-- A result's row and channel as the sample, the position, the head and the lane. -/
theorem flat_apply (y : FVec Ideal S8x4096x16x64 .f32) (n : Fin 32768) (l : Fin 1024) :
    (truncf (F := Ideal) .bf16 (shapeCast S32768x1024 y shapeCasts_S8x4096x16x64_S32768x1024) bitsLt_bf16_f32 : FVec Ideal S32768x1024 .bf16) (ix2 n l)
      = y (ix4 ⟨n.val / 4096, by omega⟩ ⟨n.val % 4096, by omega⟩ ⟨l.val / 64, by omega⟩ ⟨l.val % 64, by omega⟩) := by
  pointwise

theorem projAt_congr {n n' : Fin 40960} {s : Fin 16} {j j' : Fin 3072} (hn : n.val = n'.val) (hj : j.val = j'.val) :
    projAt x0 x1 x2 x3 n s j = projAt x0 x1 x2 x3 n' s j' := by
  rw [Fin.ext hn, Fin.ext hj]

/-- The query. -/
theorem v62_apply (n : Fin 32768) (l : Fin 1024) : val_main_v62 (F := Ideal) x0 x1 x2 x3 x4 (ix2 n l) = query x0 x1 x2 x3 x4 n l := by
  refine (flat_apply _ n l).trans ?_
  unfold query queryAt
  rw [v43_apply, ← refNorm_headNorm]
  refine congrArg (refNorm · _ _) (funext fun d => (v30_apply x0 x1 x2 x3 _ _ _ _).trans (projAt_congr x0 x1 x2 x3 ?_ ?_))
  · show 8192 + (4096 * (n.val / 4096) + n.val % 4096) = 8192 + n.val
    omega
  · rfl

/-- The key. -/
theorem v64_apply (n : Fin 32768) (l : Fin 1024) : val_main_v64 (F := Ideal) x0 x1 x2 x3 x5 (ix2 n l) = key x0 x1 x2 x3 x5 n l := by
  refine (flat_apply _ n l).trans ?_
  unfold key keyAt
  rw [v58_apply, ← refNorm_headNorm]
  refine congrArg (refNorm · _ _) (funext fun d => (v45_apply x0 x1 x2 x3 _ _ _ _).trans (projAt_congr x0 x1 x2 x3 ?_ ?_))
  · show 8192 + (4096 * (n.val / 4096) + n.val % 4096) = 8192 + n.val
    omega
  · rfl

/-- The value. -/
theorem v66_apply (n : Fin 32768) (l : Fin 1024) : val_main_v66 (F := Ideal) x0 x1 x2 x3 (ix2 n l) = value x0 x1 x2 x3 n l := by
  refine (flat_apply _ n l).trans ?_
  unfold value valueAt
  refine (v60_apply x0 x1 x2 x3 _ _ _ _).trans (projAt_congr x0 x1 x2 x3 ?_ ?_)
  · show 8192 + (4096 * (n.val / 4096) + n.val % 4096) = 8192 + n.val
    omega
  · show 2048 + (64 * (l.val / 64) + l.val % 64) = 2048 + l.val
    omega

theorem idx_eta (y : S32768x1024.Idx) : y = ix2 (y 0) (y 1) := by funext a; match a with | ⟨0, _⟩ => rfl | ⟨1, _⟩ => rfl

/-- The query, as a whole array. -/
theorem query_eq : val_main_v62 (F := Ideal) x0 x1 x2 x3 x4 = fun y : S32768x1024.Idx => query x0 x1 x2 x3 x4 (y 0) (y 1) :=
  funext fun y => (congrArg _ (idx_eta y)).trans (v62_apply x0 x1 x2 x3 x4 (y 0) (y 1))

/-- The key. -/
theorem key_eq : val_main_v64 (F := Ideal) x0 x1 x2 x3 x5 = fun y : S32768x1024.Idx => key x0 x1 x2 x3 x5 (y 0) (y 1) :=
  funext fun y => (congrArg _ (idx_eta y)).trans (v64_apply x0 x1 x2 x3 x5 (y 0) (y 1))

/-- The value. -/
theorem value_eq : val_main_v66 (F := Ideal) x0 x1 x2 x3 = fun y : S32768x1024.Idx => value x0 x1 x2 x3 (y 0) (y 1) :=
  funext fun y => (congrArg _ (idx_eta y)).trans (v66_apply x0 x1 x2 x3 (y 0) (y 1))

end Cert.SqkvReferenceIdeal.Ref
-- ==== Proof.OprojPay.lean ====
module
public import proofs.«01_k».proof.Proof.QkvPay
public import proofs.«01_k».proof.Proof.Gen.OprojIdeal.Skeleton
@[expose] public section
set_option maxRecDepth 16384
noncomputable section
namespace Cert.OprojIdeal.Pay
open Idealize.ShloMosaic Cert.OprojIdeal Cert.OprojIdeal.Gen
open Cert.QkvIdeal.Pay (adaln rootInv eps)
open scoped BigOperators

/-! # The values one grid point of the output projection stores, entry by entry -/

/-- The residual row plus the gated projection. -/
theorem pay2_apply (a : Vec Ideal S256x1024 .bf16) (w : Vec Ideal S1024x1024 .bf16) (x : Vec Ideal S256x1024 .f32)
    (g1 : Vec Ideal S1x1x1024 .f32) (r : Fin 256) (l : Fin 1024) :
    k0_pay2 a w x g1 (ix2 r l) = x (ix2 r l) + g1 (ix3 0 0 l) * ∑ k : Fin 1024, a (ix2 r k) * w (ix2 k l) := by
  pointwise [k0_pay2]

/-- That row's adaptive normalisation, before the shift … -/
theorem pay3_apply (a : Vec Ideal S256x1024 .bf16) (w : Vec Ideal S1024x1024 .bf16) (x : Vec Ideal S256x1024 .f32)
    (g1 sc : Vec Ideal S1x1x1024 .f32) (g : Vec Ideal S1x1024 .f32) (r : Fin 256) (l : Fin 1024) :
    k0_pay3 a w x g1 sc g (ix2 r l) = k0_pay2 a w x g1 (ix2 r l)
      * rootInv (Ideal.div (∑ k : Fin 1024, k0_pay2 a w x g1 (ix2 r k) * k0_pay2 a w x g1 (ix2 r k)) (Ideal.ofBits .f32 0x44800000#32))
      * g (ix2 0 l) * (Ideal.ofBits .f32 0x3F800000#32 + sc (ix3 0 0 l)) := by
  unfold k0_pay3
  generalize k0_pay2 a w x g1 = y
  unfold rootInv eps
  pointwise

/-- … and with it. -/
theorem pay6_apply (a : Vec Ideal S256x1024 .bf16) (w : Vec Ideal S1024x1024 .bf16) (x : Vec Ideal S256x1024 .f32)
    (g1 sc sh : Vec Ideal S1x1x1024 .f32) (g : Vec Ideal S1x1024 .f32) (r : Fin 256) (l : Fin 1024) :
    k0_pay6 (k0_pay3 a w x g1 sc g) (k0_pay4 sh) (ix2 r l) = adaln (fun k => k0_pay2 a w x g1 (ix2 r k)) (fun k => g (ix2 0 k))
      (fun k => sc (ix3 0 0 k)) (fun k => sh (ix3 0 0 k)) l := by
  unfold adaln
  rw [← pay3_apply]
  generalize k0_pay3 a w x g1 sc g = y
  pointwise [k0_pay6, k0_pay5, k0_pay4]

end Cert.OprojIdeal.Pay
-- ==== Proof.OprojRun.lean ====
module
public import proofs.«01_k».proof.Proof.OprojPay
public import proofs.«01_k».proof.Proof.Gen.OprojIdeal.Frame
public import proofs.«01_k».proof.Proof.Gen.OprojIdeal.Value
public import Idealize.ShloMosaic.Lib.Pipeline.ValueKit
public import Idealize.ShloMosaic.Lib.StableHlo.Run
@[expose] public section
set_option maxRecDepth 16384
noncomputable section
namespace Cert.OprojIdeal.Run
open Idealize.ShloMosaic Idealize.ShloMosaic.TcCoe Cert.OprojIdeal Cert.OprojIdeal.Gen Cert.OprojIdeal.Pay
open Cert.QkvIdeal.Pay (adaln)
open scoped BigOperators

/-! # The arrays the output projection leaves, from the arguments -/

/-- The modulation entry of token `n`: the first for the prompt's 8192 tokens, then one for each sample's 4096. -/
def entry (n : Fin 40960) : Fin 16 := if n.val < 8192 then 0 else ⟨1 + (n.val - 8192) / 4096, by omega⟩

/-- The residual stream after the attention: the attention's output projected, gated and added to it. -/
def stream (a : FVec Ideal S40960x1024 .bf16) (x : FVec Ideal S40960x1024 .f32) (md : FVec Ideal S16x6x1024 .f32)
    (w : FVec Ideal S1024x1024 .f32) (n : Fin 40960) (l : Fin 1024) : EReal :=
  x (ix2 n l) + md (ix3 (entry n) 2 l) * ∑ k : Fin 1024, a (ix2 n k) * w (ix2 k l)

/-- Its adaptive normalisation before the mixture of experts. -/
def normed (a : FVec Ideal S40960x1024 .bf16) (x : FVec Ideal S40960x1024 .f32) (md : FVec Ideal S16x6x1024 .f32)
    (w : FVec Ideal S1024x1024 .f32) (g : FVec Ideal S1024 .f32) (n : Fin 40960) (l : Fin 1024) : EReal :=
  adaln (fun k => stream a x md w n k) (fun k => g (ix1 k)) (fun k => md (ix3 (entry n) 4 k)) (fun k => md (ix3 (entry n) 3 k)) l

/-- The modulation entry of a block of 256 tokens. -/
def blockEntry (b : ℕ) : ℕ := if b < 32 then 0 else 1 + (b - 32) / 16

theorem entry_block (n : Fin 40960) (b r : ℕ) (hr : r < 256) (hn : n.val = 256 * b + r) : (entry n).val = blockEntry b := by
  unfold entry blockEntry
  by_cases h : b < 32
  · rw [if_pos (by omega), if_pos h]; rfl
  · rw [if_neg (by omega), if_neg h]
    show 1 + (n.val - 8192) / 4096 = _
    omega

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![blockEntry t.val, 0, 0] := by decide +kernel
theorem idx_3 : ∀ t : Fin grid0.N, win0_3.index t = ![0, 0] := by decide +kernel
theorem idx_4 : ∀ t : Fin grid0.N, win0_4.index t = ![0, 0] := by decide +kernel
theorem idx_8 : ∀ t : Fin grid0.N, win0_8.index t = ![t.val, 0] := by decide +kernel
theorem idx_9 : ∀ t : Fin grid0.N, win0_9.index t = ![t.val, 0] := by decide +kernel

theorem z2 : (![0, 0] : Fin 2 → ℕ) = fun _ => 0 := funext fun a => by fin_cases a <;> rfl

/-- The modulation's gate row, as the kernel loads it. -/
def gateRow (x : Vec Ideal S1x6x1024 .f32) : Vec Ideal S1x1x1024 .f32 :=
  View.ld (Val := Elt Ideal) (e' := .f32) x r0_2

/-- Its shift row before the mixture. -/
def shiftRow (x : Vec Ideal S1x6x1024 .f32) : Vec Ideal S1x1x1024 .f32 :=
  View.ld (Val := Elt Ideal) (e' := .f32) x r0_3

/-- Its scale row before the mixture. -/
def scaleRow (x : Vec Ideal S1x6x1024 .f32) : Vec Ideal S1x1x1024 .f32 :=
  View.ld (Val := Elt Ideal) (e' := .f32) x r0_4

theorem gateRow_apply (x : Vec Ideal S1x6x1024 .f32) (l : Fin 1024) : gateRow x (ix3 0 0 l) = x (ix3 0 2 l) := by
  unfold gateRow
  refine congrArg x (funext fun a => Fin.ext ?_)
  match a with
  | ⟨0, _⟩ => rfl
  | ⟨1, _⟩ => rfl
  | ⟨2, _⟩ => exact (Nat.zero_add _).trans (Nat.one_mul _)

theorem shiftRow_apply (x : Vec Ideal S1x6x1024 .f32) (l : Fin 1024) : shiftRow x (ix3 0 0 l) = x (ix3 0 3 l) := by
  unfold shiftRow
  refine congrArg x (funext fun a => Fin.ext ?_)
  match a with
  | ⟨0, _⟩ => rfl
  | ⟨1, _⟩ => rfl
  | ⟨2, _⟩ => exact (Nat.zero_add _).trans (Nat.one_mul _)

theorem scaleRow_apply (x : Vec Ideal S1x6x1024 .f32) (l : Fin 1024) : scaleRow x (ix3 0 0 l) = x (ix3 0 4 l) := by
  unfold scaleRow
  refine congrArg x (funext fun a => Fin.ext ?_)
  match a with
  | ⟨0, _⟩ => rfl
  | ⟨1, _⟩ => rfl
  | ⟨2, _⟩ => exact (Nat.zero_add _).trans (Nat.one_mul _)

section
variable (b0 : FVec Ideal S256x1024 .bf16) (b1 : FVec Ideal S256x1024 .f32) (b2 : FVec Ideal S1x6x1024 .f32)
  (b3 : FVec Ideal S1024x1024 .bf16) (b4 : FVec Ideal S1x1024 .f32) (b5 b6 : FVec Ideal S128x1024 .bf16) (b7 : FVec Ideal S64x1 .f32)

theorem out8 : out0_8 (F := Ideal) b0 b1 b2 b3 b4 b5 b6 b7 = k0_pay2 b0 b3 b1 (gateRow b2) := by
  unfold out0_8
  rw [View.canon_unit_zero (S := S256x1024) z2]
  simp only [View.ld_unit_zero (S := S256x1024) z2, View.ld_unit_zero (S := S1024x1024) z2]
  rfl

theorem out9 : out0_9 (F := Ideal) b0 b1 b2 b3 b4 b5 b6 b7
    = k0_pay6 (k0_pay3 b0 b3 b1 (gateRow b2) (scaleRow b2) b4) (k0_pay4 (shiftRow b2)) := by
  unfold out0_9
  rw [View.canon_unit_zero (S := S256x1024) z2]
  unfold k0_pay100 k0_pay101
  simp only [View.ld_unit_zero (S := S256x1024) z2, View.ld_unit_zero (S := S1024x1024) z2, View.ld_unit_zero (S := S1x1024) z2]
  rfl
end

variable (m : (ℓ : Loc nD τ sig) → Buf (Elt Ideal) ℓ) (c : Dev nD)

theorem V_v7 : (V m c main_v7 : FVec Ideal S1024x1024 .bf16)
    = truncf (F := Ideal) .bf16 (m ((c : Thread nD τ).loc main_arg3) : FVec Ideal S1024x1024 .f32) bitsLt_bf16_f32 := by
  show StableHlo.after (List.flatten [hostOps0, hostOps0_1, hostOps0_2]) _ (Proc.devRef .tc main_v7) = _
  simp only [hostOps0, hostOps0_1, hostOps0_2, List.flatten_cons, List.flatten_nil, List.append_nil, List.cons_append, List.nil_append]
  after_results_simp <;> rfl

/-- A gain as a row. -/
def asRow (y : FVec Ideal S1024 .f32) : FVec Ideal S1x1024 .f32 := shapeCast _ y shapeCasts_S1024_S1x1024

theorem asRow_apply (y : FVec Ideal S1024 .f32) (k : Fin 1024) : asRow y (ix2 0 k) = y (ix1 k) := by
  pointwise [asRow]

theorem V_v8 : (V m c main_v8 : FVec Ideal S1x1024 .f32) = asRow (m ((c : Thread nD τ).loc main_arg4)) := by
  show StableHlo.after (List.flatten [hostOps0, hostOps0_1, hostOps0_2]) _ (Proc.devRef .tc main_v8) = _
  simp only [hostOps0, hostOps0_1, hostOps0_2, List.flatten_cons, List.flatten_nil, List.append_nil, List.cons_append, List.nil_append]
  after_results_simp <;> rfl

variable (t : Fin cfg0.N)

theorem lt160 (t : Fin cfg0.N) : t.val < 160 := lt_of_lt_of_eq t.isLt (show cfg0.N = 160 from N_0)

theorem blk_0 (r : Fin 256) (k : Fin 1024) (n : Fin 40960) (hn : n.val = 256 * t.val + r.val) :
    (iblk m c 0 t : FVec Ideal S256x1024 .bf16) (ix2 r k) = (m ((c : Thread nD τ).loc main_arg0) : FVec Ideal S40960x1024 .bf16) (ix2 n k) := by
  rw [← V_main_arg0 m c]
  blk_ext [iblk, idx_0, hn]

theorem blk_1 (r : Fin 256) (k : Fin 1024) (n : Fin 40960) (hn : n.val = 256 * t.val + r.val) :
    (iblk m c 1 t : FVec Ideal S256x1024 .f32) (ix2 r k) = (m ((c : Thread nD τ).loc main_arg1) : FVec Ideal S40960x1024 .f32) (ix2 n k) := by
  rw [← V_main_arg1 m c]
  blk_ext [iblk, idx_1, hn]

theorem blk_2 (q : Fin 6) (k : Fin 1024) (s : Fin 16) (hs : s.val = blockEntry t.val) :
    (iblk m c 2 t : FVec Ideal S1x6x1024 .f32) (ix3 0 q k) = (m ((c : Thread nD τ).loc main_arg2) : FVec Ideal S16x6x1024 .f32) (ix3 s q k) := by
  rw [← V_main_arg2 m c]
  blk_ext [iblk, idx_2, hs]

theorem blk_3 (k l : Fin 1024) :
    (iblk m c 3 t : FVec Ideal S1024x1024 .bf16) (ix2 k l) = (m ((c : Thread nD τ).loc main_arg3) : FVec Ideal S1024x1024 .f32) (ix2 k l) := by
  refine Eq.trans ?_ (congrFun (V_v7 m c) (ix2 k l))
  blk_ext [iblk, idx_3]

theorem blk_4 (k : Fin 1024) :
    (iblk m c 4 t : FVec Ideal S1x1024 .f32) (ix2 0 k) = (m ((c : Thread nD τ).loc main_arg4) : FVec Ideal S1024 .f32) (ix1 k) := by
  refine Eq.trans ?_ ((congrFun (V_v8 m c) (ix2 0 k)).trans (asRow_apply _ k))
  blk_ext [iblk, idx_4]

/-- What point `t` computes as the residual stream. -/
theorem stream_pay (r : Fin 256) (l : Fin 1024) (n : Fin 40960) (hn : n.val = 256 * t.val + r.val) :
    k0_pay2 (F := Ideal) (iblk m c 0 t) (iblk m c 3 t) (iblk m c 1 t) (gateRow (iblk m c 2 t)) (ix2 r l)
      = stream (m ((c : Thread nD τ).loc main_arg0)) (m ((c : Thread nD τ).loc main_arg1)) (m ((c : Thread nD τ).loc main_arg2))
        (m ((c : Thread nD τ).loc main_arg3)) n l := by
  have hs := entry_block n t.val r.val r.isLt hn
  rw [pay2_apply, gateRow_apply, blk_2 m c t 2 l (entry n) hs, blk_1 m c t r l n hn]
  unfold stream
  simp only [fun k => blk_0 m c t r k n hn, fun k => blk_3 m c t k l]

/-- What point `t` stores as the residual stream, -/
theorem stream_block (r : Fin 256) (l : Fin 1024) (n : Fin 40960) (hn : n.val = 256 * t.val + r.val) :
    out0_8 (F := Ideal) (iblk m c 0 t) (iblk m c 1 t) (iblk m c 2 t) (iblk m c 3 t) (iblk m c 4 t) (iblk m c 5 t) (iblk m c 6 t) (iblk m c 7 t) (ix2 r l)
      = stream (m ((c : Thread nD τ).loc main_arg0)) (m ((c : Thread nD τ).loc main_arg1)) (m ((c : Thread nD τ).loc main_arg2))
        (m ((c : Thread nD τ).loc main_arg3)) n l := by
  rw [out8]
  exact stream_pay m c t r l n hn

/-- … and as its normalisation. -/
theorem normed_block (r : Fin 256) (l : Fin 1024) (n : Fin 40960) (hn : n.val = 256 * t.val + r.val) :
    out0_9 (F := Ideal) (iblk m c 0 t) (iblk m c 1 t) (iblk m c 2 t) (iblk m c 3 t) (iblk m c 4 t) (iblk m c 5 t) (iblk m c 6 t) (iblk m c 7 t) (ix2 r l)
      = normed (m ((c : Thread nD τ).loc main_arg0)) (m ((c : Thread nD τ).loc main_arg1)) (m ((c : Thread nD τ).loc main_arg2))
        (m ((c : Thread nD τ).loc main_arg3)) (m ((c : Thread nD τ).loc main_arg4)) n l := by
  have hs := entry_block n t.val r.val r.isLt hn
  rw [out9, pay6_apply]
  unfold normed
  simp only [fun k => stream_pay m c t r k n hn, scaleRow_apply, shiftRow_apply, fun q k => blk_2 m c t q k (entry n) hs, blk_4 m c t]

/-- A block's contents entry by entry, from what it holds at each row and channel. -/
theorem block_fun {φ : FTy} (o : FVec Ideal S256x1024 φ) (G : Fin 40960 → Fin 1024 → EReal) (n0 : ℕ) (hN : n0 + 256 ≤ 40960)
    (h : ∀ (r : Fin 256) (l : Fin 1024) (n : Fin 40960), n.val = n0 + r.val → o (ix2 r l) = G n l) :
    o = fun y : S256x1024.Idx => G ⟨n0 + (y 0).val, by have : (y 0).val < 256 := (y 0).isLt; omega⟩ (y 1) := by
  funext y
  have hy : y = ix2 (y 0) (y 1) := by funext a; match a with | ⟨0, _⟩ => rfl | ⟨1, _⟩ => rfl
  exact (congrArg o hy).trans (h (y 0) (y 1) _ rfl)

theorem pair_congr (G : Fin 40960 → Fin 1024 → EReal) {n n' : Fin 40960} {l l' : Fin 1024}
    (hn : n.val = n'.val) (hl : l.val = l'.val) : G n l = G n' l' := by
  rw [Fin.ext hn, Fin.ext hl]

/-- The residual stream the call leaves. -/
theorem final8 : (dats m 0 c).arrAt 8 cfg0.N = fun y : S40960x1024.Idx =>
    stream (m ((c : Thread nD τ).loc main_arg0)) (m ((c : Thread nD τ).loc main_arg1)) (m ((c : Thread nD τ).loc main_arg2))
      (m ((c : Thread nD τ).loc main_arg3)) (y 0) (y 1) := by
  refine (dats m 0 c).arrAt_eq_of_covers 8 _ (by decide +kernel) fun t hf y => ?_
  have hN := lt160 t
  blk_simp
  rw [after0_8, block_fun (φ := .f32) _ _ (256 * t.val) (by omega) (stream_block m c t)]
  refine pair_congr (stream _ _ _ _) ?_ ?_
  · show 256 * t.val + (y 0).val = _
    blk_simp [idx_8]
    show 256 * t.val + (y 0).val = t.val * 256 + (y 0).val
    omega
  · blk_simp [idx_8]

/-- Its normalisation. -/
theorem final9 : (dats m 0 c).arrAt 9 cfg0.N = fun y : S40960x1024.Idx =>
    normed (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1) := by
  refine (dats m 0 c).arrAt_eq_of_covers 9 _ (by decide +kernel) fun t hf y => ?_
  have hN := lt160 t
  blk_simp
  rw [after0_9, block_fun (φ := .bf16) _ _ (256 * t.val) (by omega) (normed_block m c t)]
  refine pair_congr (normed _ _ _ _ _) ?_ ?_
  · show 256 * t.val + (y 0).val = _
    blk_simp [idx_9]
    show 256 * t.val + (y 0).val = t.val * 256 + (y 0).val
    omega
  · blk_simp [idx_9]

end Cert.OprojIdeal.Run
-- ==== Proof.OprojRef.lean ====
module
public import proofs.«01_k».proof.Proof.OprojRun
public import proofs.«01_k».proof.Proof.Gen.OprojReferenceIdeal.Read
public import Idealize.ShloMosaic.Lib.IdealHost
@[expose] public section
set_option maxRecDepth 16384
noncomputable section
namespace Cert.OprojReferenceIdeal.Ref
open Idealize.ShloMosaic Cert.OprojReferenceIdeal Cert.OprojReferenceIdeal.Gen Cert.OprojReferenceIdeal.Read
open Cert.QkvIdeal.Pay (adaln rootInv eps)
open Cert.OprojIdeal.Run (entry stream normed)
open scoped BigOperators

/-! # The reference's results, read at an index -/

variable (x0 : FVec Ideal S40960x1024 .bf16) (x1 : FVec Ideal S40960x1024 .f32) (x2 : FVec Ideal S16x6x1024 .f32)
  (x3 : FVec Ideal S1024x1024 .f32) (x4 : FVec Ideal S1024 .f32)

/-- The gate, shift and scale of the prompt's tokens are the modulation's first entry, … -/
theorem v8_apply (n : Fin 8192) (l : Fin 1024) : val_main_v8 (F := Ideal) x2 (ix2 n l) = x2 (ix3 0 2 l) := by
  pointwise [val_main_v8, val_main_v7, val_main_v6, val_main_v1, val_main_v0]

theorem v33_apply (n : Fin 8192) (l : Fin 1024) : val_main_v33 (F := Ideal) x2 (ix2 n l) = x2 (ix3 0 4 l) := by
  pointwise [val_main_v33, val_main_v32, val_main_v31, val_main_v5, val_main_v4]

theorem v44_apply (n : Fin 8192) (l : Fin 1024) : val_main_v44 (F := Ideal) x2 (ix2 n l) = x2 (ix3 0 3 l) := by
  pointwise [val_main_v44, val_main_v43, val_main_v42, val_main_v3, val_main_v2]

/-- … those of a sample's tokens the sample's. -/
theorem v12_apply (n : Fin 32768) (l : Fin 1024) :
    val_main_v12 (F := Ideal) x2 (ix2 n l) = x2 (ix3 ⟨1 + n.val / 4096, by omega⟩ 2 l) := by
  pointwise [val_main_v12, val_main_v11, val_main_v10, val_main_v9, val_main_v1, val_main_v0]

theorem v37_apply (n : Fin 32768) (l : Fin 1024) :
    val_main_v37 (F := Ideal) x2 (ix2 n l) = x2 (ix3 ⟨1 + n.val / 4096, by omega⟩ 4 l) := by
  pointwise [val_main_v37, val_main_v36, val_main_v35, val_main_v34, val_main_v5, val_main_v4]

theorem v48_apply (n : Fin 32768) (l : Fin 1024) :
    val_main_v48 (F := Ideal) x2 (ix2 n l) = x2 (ix3 ⟨1 + n.val / 4096, by omega⟩ 3 l) := by
  pointwise [val_main_v48, val_main_v47, val_main_v46, val_main_v45, val_main_v3, val_main_v2]

/-- The prompt's and the samples' rows joined. -/
theorem joined (p : FVec Ideal S8192x1024 .f32) (s : FVec Ideal S32768x1024 .f32) (q : Fin 6)
    (hp : ∀ (n : Fin 8192) (l : Fin 1024), p (ix2 n l) = x2 (ix3 0 q l))
    (hs : ∀ (n : Fin 32768) (l : Fin 1024), s (ix2 n l) = x2 (ix3 ⟨1 + n.val / 4096, by omega⟩ q l)) (n : Fin 40960) (l : Fin 1024) :
    (concatenate S40960x1024 0 [⟨S8192x1024, p⟩, ⟨S32768x1024, s⟩] concatenates_S8192x1024_S32768x1024_S40960x1024_d0
      : FVec Ideal S40960x1024 .f32) (ix2 n l) = x2 (ix3 (entry n) q l) := by
  unfold entry
  by_cases hn : n.val < 8192
  · rw [if_pos hn, ← hp ⟨n.val, hn⟩ l]
    pointwise
    rw [dif_pos hn]
  · rw [if_neg hn, ← hs ⟨n.val - 8192, by omega⟩ l]
    pointwise
    rw [dif_neg hn]

theorem v13_apply (n : Fin 40960) (l : Fin 1024) : val_main_v13 (F := Ideal) x2 (ix2 n l) = x2 (ix3 (entry n) 2 l) :=
  joined x2 _ _ 2 (v8_apply x2) (v12_apply x2) n l

theorem v38_apply (n : Fin 40960) (l : Fin 1024) : val_main_v38 (F := Ideal) x2 (ix2 n l) = x2 (ix3 (entry n) 4 l) :=
  joined x2 _ _ 4 (v33_apply x2) (v37_apply x2) n l

theorem v49_apply (n : Fin 40960) (l : Fin 1024) : val_main_v49 (F := Ideal) x2 (ix2 n l) = x2 (ix3 (entry n) 3 l) :=
  joined x2 _ _ 3 (v44_apply x2) (v48_apply x2) n l

/-- The residual stream after the attention. -/
theorem v17_apply (n : Fin 40960) (l : Fin 1024) :
    val_main_v17 (F := Ideal) x0 x1 x2 x3 (ix2 n l) = stream x0 x1 x2 x3 n l := by
  unfold stream
  rw [← v13_apply x2 n l]
  unfold val_main_v17 val_main_v16
  generalize val_main_v13 (F := Ideal) x2 = y
  pointwise [val_main_v15, val_main_v14]

/-- The reciprocal root of a token's mean square. -/
theorem v25_apply (n : Fin 40960) : val_main_v25 (F := Ideal) x0 x1 x2 x3 (ix2 n 0)
    = rootInv (Ideal.div (∑ l : Fin 1024, stream x0 x1 x2 x3 n l * stream x0 x1 x2 x3 n l) (Ideal.ofBits .f32 0x44800000#32)) := by
  simp only [← v17_apply]
  unfold val_main_v25 val_main_v24 val_main_v22 val_main_v20 val_main_v19 val_main_v18
  generalize val_main_v17 (F := Ideal) x0 x1 x2 x3 = y
  unfold rootInv eps
  pointwise [val_main_v23, val_main_v21, val_main_cst, val_main_cst_0, val_main_cst_1]

/-- The normalised token. -/
theorem v50_apply (n : Fin 40960) (l : Fin 1024) :
    val_main_v50 (F := Ideal) x0 x1 x2 x3 x4 (ix2 n l) = normed x0 x1 x2 x3 x4 n l := by
  unfold normed adaln
  rw [← v25_apply]
  beta_reduce
  rw [← v38_apply x2 n l, ← v49_apply x2 n l, ← v17_apply]
  unfold val_main_v50 val_main_v41 val_main_v40 val_main_v30 val_main_v27 val_main_v26
  generalize val_main_v17 (F := Ideal) x0 x1 x2 x3 = y
  generalize val_main_v25 (F := Ideal) x0 x1 x2 x3 = z
  generalize val_main_v38 (F := Ideal) x2 = u
  generalize val_main_v49 (F := Ideal) x2 = v
  pointwise [val_main_v39, val_main_v29, val_main_v28, val_main_cst_2]

theorem idx_eta (y : S40960x1024.Idx) : y = ix2 (y 0) (y 1) := by funext a; match a with | ⟨0, _⟩ => rfl | ⟨1, _⟩ => rfl

/-- The residual stream, as a whole array. -/
theorem stream_eq : val_main_v17 (F := Ideal) x0 x1 x2 x3 = fun y : S40960x1024.Idx => stream x0 x1 x2 x3 (y 0) (y 1) :=
  funext fun y => (congrArg _ (idx_eta y)).trans (v17_apply x0 x1 x2 x3 (y 0) (y 1))

/-- Its normalisation, cast to bf16: the cast is the identity on ideal numbers. -/
theorem normed_eq : val_main_v51 (F := Ideal) x0 x1 x2 x3 x4 = fun y : S40960x1024.Idx => normed x0 x1 x2 x3 x4 (y 0) (y 1) := by
  have h : val_main_v50 (F := Ideal) x0 x1 x2 x3 x4 = fun y : S40960x1024.Idx => normed x0 x1 x2 x3 x4 (y 0) (y 1) :=
    funext fun y => (congrArg _ (idx_eta y)).trans (v50_apply x0 x1 x2 x3 x4 (y 0) (y 1))
  rw [← h]
  unfold val_main_v51
  generalize val_main_v50 (F := Ideal) x0 x1 x2 x3 x4 = y
  rfl

end Cert.OprojReferenceIdeal.Ref
-- ==== Proof.CtxRun.lean ====
module
public import proofs.«01_k».proof.Proof.Softmax
public import proofs.«01_k».proof.Proof.Gen.CtxIdeal.Frame
public import proofs.«01_k».proof.Proof.Gen.CtxIdeal.Value
public import Idealize.ShloMosaic.Lib.Pipeline.ValueKit
@[expose] public section
set_option maxRecDepth 16384
noncomputable section
namespace Cert.CtxIdeal.Run
open Idealize.ShloMosaic Idealize.ShloMosaic.TcCoe Cert.CtxIdeal Cert.CtxIdeal.Gen
open Cert.KernelIdeal.Attn (lane_lt lane_ge sum_first sum_second eighth fold_max_eq)
open scoped BigOperators

/-! # The array the context attention leaves, from the arguments -/

/-- The kernel's softmax-weighted mean of one query: the exponentials of the scores `s` after their maximum is subtracted
    weigh the values `v`, and the weighted sum is divided by the sum of the weights. -/
def mean {n : ℕ} (s v : Fin n → EReal) : EReal :=
  Ideal.div (∑ j, Ideal.exp (s j - Finset.univ.sup s) * v j) (∑ j, Ideal.exp (s j - Finset.univ.sup s))

/-- What the kernel stores for the 256 tokens of a prompt and one pair of heads. -/
def tile (q k v : FVec Ideal S256x128 .bf16) : FVec Ideal S256x128 .bf16 :=
  k0_pay1 v k0_pay2 (k0_pay3 q k v) (k0_pay4 q k) (k0_pay5 q k)

/-- The stored tile read at a token and a lane of the first head. -/
theorem tile_first (q k v : FVec Ideal S256x128 .bf16) (i : Fin 256) (l : Fin 128) (hl : l.val < 64) :
    tile q k v (ix2 i l) = mean (fun j : Fin 256 => ∑ d : Fin 64, q (ix2 i ⟨d.val, by omega⟩) * eighth * k (ix2 j ⟨d.val, by omega⟩))
      (fun j => v (ix2 j l)) := by
  unfold mean
  rw [← fold_max_eq]
  pointwise [tile, k0_pay1, k0_pay2, k0_pay3, k0_pay4, k0_pay5]
  rw [lane_lt, if_pos hl]
  simp only [sum_first]
  rfl

/-- The stored tile read at a token and a lane of the second head. -/
theorem tile_second (q k v : FVec Ideal S256x128 .bf16) (i : Fin 256) (l : Fin 128) (hl : ¬ l.val < 64) :
    tile q k v (ix2 i l) = mean (fun j : Fin 256 => ∑ d : Fin 64, q (ix2 i ⟨64 + d.val, by omega⟩) * eighth * k (ix2 j ⟨64 + d.val, by omega⟩))
      (fun j => v (ix2 j l)) := by
  unfold mean
  rw [← fold_max_eq]
  pointwise [tile, k0_pay1, k0_pay2, k0_pay3, k0_pay4, k0_pay5]
  rw [lane_lt, if_neg hl]
  simp only [sum_second]
  rfl

/-- The attention of token `n` at channel `l`: over the 256 tokens of its prompt, with the 64 channels of its head. -/
def attend (q k v : FVec Ideal S8192x1024 .bf16) (n : Fin 8192) (l : Fin 1024) : EReal :=
  mean (fun j : Fin 256 => ∑ d : Fin 64, q (ix2 n ⟨64 * (l.val / 64) + d.val, by omega⟩) * eighth
      * k (ix2 ⟨256 * (n.val / 256) + j.val, by omega⟩ ⟨64 * (l.val / 64) + d.val, by omega⟩))
    (fun j => v (ix2 ⟨256 * (n.val / 256) + j.val, by omega⟩ l))

theorem idx_0 : ∀ t : Fin grid0.N, win0_0.index t = ![t.val / 8, t.val % 8] := by decide +kernel
theorem idx_1 : ∀ t : Fin grid0.N, win0_1.index t = ![t.val / 8, t.val % 8] := by decide +kernel
theorem idx_2 : ∀ t : Fin grid0.N, win0_2.index t = ![t.val / 8, t.val % 8] := by decide +kernel
theorem idx_3 : ∀ t : Fin grid0.N, win0_3.index t = ![t.val / 8, t.val % 8] := by decide +kernel

theorem z2 : (![0, 0] : Fin 2 → ℕ) = fun _ => 0 := funext fun a => by fin_cases a <;> rfl

theorem out3 (b0 b1 b2 : FVec Ideal S256x128 .bf16) : out0_3 (F := Ideal) b0 b1 b2 = tile b0 b1 b2 := by
  unfold out0_3
  rw [View.canon_unit_zero (S := S256x128) z2]
  simp only [View.ld_unit_zero (S := S256x128) z2]
  rfl

variable (m : (ℓ : Loc nD τ sig) → Buf (Elt Ideal) ℓ) (c : Dev nD) (t : Fin cfg0.N)

theorem lt256 (t : Fin cfg0.N) : t.val < 256 := lt_of_lt_of_eq t.isLt (show cfg0.N = 256 from N_0)

theorem blk_0 (r : Fin 256) (k : Fin 128) (n : Fin 8192) (l : Fin 1024) (hn : n.val = 256 * (t.val / 8) + r.val) (hl : l.val = 128 * (t.val % 8) + k.val) :
    (iblk m c 0 t : FVec Ideal S256x128 .bf16) (ix2 r k) = (m ((c : Thread nD τ).loc main_arg0) : FVec Ideal S8192x1024 .bf16) (ix2 n l) := by
  rw [← V_main_arg0 m c]
  blk_ext [iblk, idx_0, hn, hl]

theorem blk_1 (r : Fin 256) (k : Fin 128) (n : Fin 8192) (l : Fin 1024) (hn : n.val = 256 * (t.val / 8) + r.val) (hl : l.val = 128 * (t.val % 8) + k.val) :
    (iblk m c 1 t : FVec Ideal S256x128 .bf16) (ix2 r k) = (m ((c : Thread nD τ).loc main_arg1) : FVec Ideal S8192x1024 .bf16) (ix2 n l) := by
  rw [← V_main_arg1 m c]
  blk_ext [iblk, idx_1, hn, hl]

theorem blk_2 (r : Fin 256) (k : Fin 128) (n : Fin 8192) (l : Fin 1024) (hn : n.val = 256 * (t.val / 8) + r.val) (hl : l.val = 128 * (t.val % 8) + k.val) :
    (iblk m c 2 t : FVec Ideal S256x128 .bf16) (ix2 r k) = (m ((c : Thread nD τ).loc main_arg2) : FVec Ideal S8192x1024 .bf16) (ix2 n l) := by
  rw [← V_main_arg2 m c]
  blk_ext [iblk, idx_2, hn, hl]

theorem mean_congr {n : ℕ} {s s' v v' : Fin n → EReal} (hs : ∀ j, s j = s' j) (hv : ∀ j, v j = v' j) : mean s v = mean s' v' := by
  rw [funext hs, funext hv]

/-- What point `t` stores. -/
theorem block (r : Fin 256) (k : Fin 128) (n : Fin 8192) (l : Fin 1024) (hn : n.val = 256 * (t.val / 8) + r.val) (hl : l.val = 128 * (t.val % 8) + k.val) :
    out0_3 (F := Ideal) (iblk m c 0 t) (iblk m c 1 t) (iblk m c 2 t) (ix2 r k)
      = attend (m ((c : Thread nD τ).loc main_arg0)) (m ((c : Thread nD τ).loc main_arg1)) (m ((c : Thread nD τ).loc main_arg2)) n l := by
  rw [out3]
  by_cases h : k.val < 64
  · refine (tile_first _ _ _ r k h).trans (mean_congr (fun j => Finset.sum_congr rfl fun d _ => congrArg₂ (fun a b => a * eighth * b) ?_ ?_) fun j => ?_)
    · exact blk_0 m c t _ _ _ _ hn (by dsimp only; omega)
    · exact blk_1 m c t _ _ _ _ (by dsimp only; omega) (by dsimp only; omega)
    · exact blk_2 m c t _ _ _ _ (by dsimp only; omega) hl
  · refine (tile_second _ _ _ r k h).trans (mean_congr (fun j => Finset.sum_congr rfl fun d _ => congrArg₂ (fun a b => a * eighth * b) ?_ ?_) fun j => ?_)
    · exact blk_0 m c t _ _ _ _ hn (by dsimp only; omega)
    · exact blk_1 m c t _ _ _ _ (by dsimp only; omega) (by dsimp only; omega)
    · exact blk_2 m c t _ _ _ _ (by dsimp only; omega) hl

/-- The block as a function of its index. -/
theorem block_fun (hN : t.val < 256) : out0_3 (F := Ideal) (iblk m c 0 t) (iblk m c 1 t) (iblk m c 2 t) = fun y : S256x128.Idx =>
    attend (m ((c : Thread nD τ).loc main_arg0)) (m ((c : Thread nD τ).loc main_arg1)) (m ((c : Thread nD τ).loc main_arg2))
      ⟨256 * (t.val / 8) + (y 0).val, by have : (y 0).val < 256 := (y 0).isLt; omega⟩
      ⟨128 * (t.val % 8) + (y 1).val, by have : (y 1).val < 128 := (y 1).isLt; omega⟩ := by
  funext y
  have hy : y = ix2 (y 0) (y 1) := by funext a; match a with | ⟨0, _⟩ => rfl | ⟨1, _⟩ => rfl
  exact (congrArg _ hy).trans (block m c t (y 0) (y 1) _ _ rfl rfl)

theorem pair_congr (G : Fin 8192 → Fin 1024 → EReal) {n n' : Fin 8192} {l l' : Fin 1024}
    (hn : n.val = n'.val) (hl : l.val = l'.val) : G n l = G n' l' := by
  rw [Fin.ext hn, Fin.ext hl]

/-- The array the call leaves. -/
theorem final3 : (dats m 0 c).arrAt 3 cfg0.N = fun y : S8192x1024.Idx =>
    attend (m ((c : Thread nD τ).loc main_arg0)) (m ((c : Thread nD τ).loc main_arg1)) (m ((c : Thread nD τ).loc main_arg2)) (y 0) (y 1) := by
  refine (dats m 0 c).arrAt_eq_of_covers 3 _ (by decide +kernel) fun t hf y => ?_
  have hN := lt256 t
  blk_simp
  rw [after0_3, block_fun m c t hN]
  refine pair_congr (attend _ _ _) ?_ ?_
  · show 256 * (t.val / 8) + (y 0).val = _
    blk_simp [idx_3]
    show 256 * (t.val / 8) + (y 0).val = t.val / 8 * 256 + (y 0).val
    omega
  · show 128 * (t.val % 8) + (y 1).val = _
    blk_simp [idx_3]
    show 128 * (t.val % 8) + (y 1).val = t.val % 8 * 128 + (y 1).val
    omega

end Cert.CtxIdeal.Run
-- ==== Proof.CtxRef.lean ====
module
public import proofs.«01_k».proof.Proof.CtxRun
public import proofs.«01_k».proof.Proof.Pre
public import proofs.«01_k».proof.Proof.Same
public import proofs.«01_k».proof.Proof.Gen.Pre_finite_qk
public import proofs.«01_k».proof.Proof.Gen.CtxReferenceIdeal.Read
@[expose] public section
set_option maxRecDepth 16384
noncomputable section
namespace Cert.CtxReferenceIdeal.Ref
open Idealize.ShloMosaic Cert.CtxReferenceIdeal Cert.CtxReferenceIdeal.Gen Cert.CtxReferenceIdeal.Read
open Cert.CtxIdeal.Run (mean attend)
open Cert.KernelIdeal.Attn (fold_max_eq negInf sum_real exp_real exp_pos_real sum_mul_of_nonneg eighth)
open scoped BigOperators

/-! # The context attention's reference, read at an index -/

/-- The reference's softmax-weighted mean: each weight divided by the sum of the weights before the values are summed. -/
def refMean {n : ℕ} (s v : Fin n → EReal) : EReal :=
  ∑ k, v k * Ideal.div (Ideal.exp (s k - Finset.univ.sup s)) (∑ j, Ideal.exp (s j - Finset.univ.sup s))

/-- On real scores the two means are the same, whatever the values. -/
theorem mean_eq {n : ℕ} (s v : Fin n → EReal) (l0 : Fin n) (hs : ∀ j, ∃ r : ℝ, s j = (r : EReal)) : mean s v = refMean s v := by
  have hMr : ∃ r : ℝ, Finset.univ.sup s = (r : EReal) := by
    have h1 : Finset.univ.sup s ≠ ⊤ := (Finset.sup_lt_iff bot_lt_top).mpr (fun i _ => by
      obtain ⟨r, hr⟩ := hs i; rw [hr]; exact EReal.coe_lt_top r) |>.ne
    have h2 : Finset.univ.sup s ≠ ⊥ := by
      obtain ⟨r, hr⟩ := hs l0
      refine ne_bot_of_le_ne_bot (b := s l0) ?_ (Finset.le_sup (Finset.mem_univ _))
      rw [hr]; exact EReal.coe_ne_bot r
    exact ⟨_, (EReal.coe_toReal h1 h2).symm⟩
  obtain ⟨M, hM⟩ := hMr
  have hE : ∀ i, ∃ r : ℝ, 0 < r ∧ Ideal.exp (s i - (M : EReal)) = (r : EReal) := fun i => by
    obtain ⟨r, hr⟩ := hs i
    rw [hr, ← EReal.coe_sub]
    exact exp_pos_real _
  obtain ⟨L, hL0, hL⟩ := sum_real Finset.univ (fun i => Ideal.exp (s i - (M : EReal))) (fun i => by
    obtain ⟨r, hr, e⟩ := hE i; exact ⟨r, hr.le, e⟩)
  have hLpos : 0 < L := by
    obtain ⟨u, hu, eu⟩ := hE l0
    have h1 : (u : EReal) ≤ (L : EReal) := by
      rw [← hL, ← eu]
      exact Finset.single_le_sum (f := fun i => Ideal.exp (s i - (M : EReal))) (fun i _ => by
        obtain ⟨x, hx, ex⟩ := hE i
        simp only [ex]; exact EReal.coe_nonneg.mpr hx.le) (Finset.mem_univ l0)
    exact lt_of_lt_of_le hu (EReal.coe_le_coe_iff.mp h1)
  unfold mean refMean
  rw [hM]
  simp only [hL]
  have hdiv : ∀ x : EReal, Ideal.div x (L : EReal) = x * ((L⁻¹ : ℝ) : EReal) := fun x => by
    unfold Ideal.div
    rw [if_neg (by exact_mod_cast hLpos.ne'), EReal.coe_inv]
  simp only [hdiv]
  rw [sum_mul_of_nonneg _ _ _ (EReal.coe_nonneg.mpr (inv_nonneg.mpr hL0)) (EReal.coe_ne_top _)]
  exact Finset.sum_congr rfl fun k _ => by rw [mul_comm (v k), mul_assoc, mul_assoc, mul_comm (v k)]

variable (x0 x1 x2 : FVec Ideal S8192x1024 .bf16)

/-- The scores of token `n` of prompt `b` and head `h`. -/
def scores (b : Fin 32) (h : Fin 16) (n : Fin 256) : Fin 256 → EReal :=
  fun i => val_main_v8 (F := Ideal) x0 x1 (ix4 b h n i)

theorem v1_apply (b : Fin 32) (n : Fin 256) (h : Fin 16) (d : Fin 64) :
    val_main_v1 (F := Ideal) x0 (ix4 b n h d) = x0 (ix2 ⟨256 * b.val + n.val, by omega⟩ ⟨64 * h.val + d.val, by omega⟩) := by
  unfold val_main_v1 val_main_v0
  pointwise
  refine congrArg x0 (congrArg₂ ix2 (Fin.ext ?_) (Fin.ext ?_))
  · simp only; omega
  · simp only; omega

theorem scores_apply (b : Fin 32) (h : Fin 16) (n i : Fin 256) : scores x0 x1 b h n i
    = (∑ d : Fin 64, x0 (ix2 ⟨256 * b.val + n.val, by omega⟩ ⟨64 * h.val + d.val, by omega⟩)
        * x1 (ix2 ⟨256 * b.val + i.val, by omega⟩ ⟨64 * h.val + d.val, by omega⟩)) * Ideal.ofBits .f32 0x3E000000#32 := by
  unfold scores
  simp only [← v1_apply]
  show val_main_v8 (F := Ideal) x0 x1 (ix4 b h n i) = (∑ d : Fin 64, val_main_v1 (F := Ideal) x0 (ix4 b n h d) * val_main_v3 (F := Ideal) x1 (ix4 b i h d)) * _
  unfold val_main_v8 val_main_v7 val_main_cst val_main_v6
  generalize val_main_v1 (F := Ideal) x0 = y
  generalize val_main_v3 (F := Ideal) x1 = z
  pointwise

/-- The maximum over the keys. -/
theorem v9_apply (b : Fin 32) (h : Fin 16) (n : Fin 256) :
    val_main_v9 (F := Ideal) x0 x1 (ix3 b h n) = Finset.univ.sup (scores x0 x1 b h n) := by
  unfold scores
  unfold val_main_v9 val_main_cst_0
  generalize val_main_v8 (F := Ideal) x0 x1 = y
  pointwise
  exact fold_max_eq _

/-- The maximum that is subtracted. -/
theorem v13_apply (b : Fin 32) (h : Fin 16) (n i : Fin 256) :
    val_main_v13 (F := Ideal) x0 x1 (ix4 b h n i) = Finset.univ.sup (scores x0 x1 b h n) := by
  have e : idx_main_v12 (idx_main_v13 (ix4 b h n i)) = ix3 b h n := by
    funext a
    match a with
    | ⟨0, _⟩ => rfl
    | ⟨1, _⟩ => rfl
    | ⟨2, _⟩ => rfl
  rw [val_main_v13_apply, val_main_v12_apply, val_main_v11_apply, e, v9_apply]
  generalize Finset.univ.sup (scores x0 x1 b h n) = y
  rw [val_main_v10_apply, val_main_cst_1_apply]
  show max (Ideal.ofBits .f32 0xFF800000#32) y = y
  rw [negInf]
  exact max_eq_right bot_le

/-- The numerator of the softmax. -/
theorem v15_apply (b : Fin 32) (h : Fin 16) (n i : Fin 256) :
    val_main_v15 (F := Ideal) x0 x1 (ix4 b h n i) = Ideal.exp (scores x0 x1 b h n i - Finset.univ.sup (scores x0 x1 b h n)) := by
  rw [← v13_apply x0 x1 b h n i]
  rfl

/-- The denominator of the softmax. -/
theorem v18_apply (b : Fin 32) (h : Fin 16) (n i : Fin 256) :
    val_main_v18 (F := Ideal) x0 x1 (ix4 b h n i)
      = ∑ k, Ideal.exp (scores x0 x1 b h n k - Finset.univ.sup (scores x0 x1 b h n)) := by
  simp only [← v15_apply]
  unfold val_main_v18 val_main_v17 val_main_v16 val_main_cst_2
  generalize val_main_v15 (F := Ideal) x0 x1 = y
  pointwise

/-- The weights of the softmax. -/
theorem v19_apply (b : Fin 32) (h : Fin 16) (n i : Fin 256) :
    val_main_v19 (F := Ideal) x0 x1 (ix4 b h n i)
      = Ideal.div (Ideal.exp (scores x0 x1 b h n i - Finset.univ.sup (scores x0 x1 b h n)))
          (∑ k, Ideal.exp (scores x0 x1 b h n k - Finset.univ.sup (scores x0 x1 b h n))) := by
  rw [← v15_apply, ← v18_apply x0 x1 b h n i]
  rfl

/-- The result at a token and a channel. -/
theorem v23_apply (b : Fin 32) (n : Fin 256) (h : Fin 16) (d : Fin 64) :
    val_main_v23 (F := Ideal) x0 x1 x2 (ix2 ⟨256 * b.val + n.val, by omega⟩ ⟨64 * h.val + d.val, by omega⟩)
      = refMean (scores x0 x1 b h n) (fun k => x2 (ix2 ⟨256 * b.val + k.val, by omega⟩ ⟨64 * h.val + d.val, by omega⟩)) := by
  have e : val_main_v23 (F := Ideal) x0 x1 x2 (ix2 ⟨256 * b.val + n.val, by omega⟩ ⟨64 * h.val + d.val, by omega⟩)
      = val_main_v20 (F := Ideal) x0 x1 x2 (ix4 b h d n) := by
    rw [val_main_v23_apply, val_main_v22_apply, val_main_v21_apply]
    refine congrArg (val_main_v20 (F := Ideal) x0 x1 x2) ?_
    funext a
    refine Fin.ext ?_
    match a with
    | ⟨0, _⟩ => show ((256 * b.val + n.val) * 1024 + (64 * h.val + d.val)) / 262144 = b.val; omega
    | ⟨1, _⟩ => show ((256 * b.val + n.val) * 1024 + (64 * h.val + d.val)) / 64 % 16 = h.val; omega
    | ⟨2, _⟩ => show ((256 * b.val + n.val) * 1024 + (64 * h.val + d.val)) % 64 = d.val; omega
    | ⟨3, _⟩ => show ((256 * b.val + n.val) * 1024 + (64 * h.val + d.val)) / 1024 % 256 = n.val; omega
  rw [e]
  unfold refMean
  simp only [← v19_apply, ← v1_apply]
  show val_main_v20 (F := Ideal) x0 x1 x2 (ix4 b h d n) = ∑ k : Fin 256, val_main_v5 (F := Ideal) x2 (ix4 b k h d) * val_main_v19 (F := Ideal) x0 x1 (ix4 b h n k)
  unfold val_main_v20
  generalize val_main_v5 (F := Ideal) x2 = y
  generalize val_main_v19 (F := Ideal) x0 x1 = z
  pointwise

/-- With real queries and keys the reference's result is the kernel's, at every token and channel. -/
theorem attend_eq (hq : ∀ x, ∃ r : ℝ, x0 x = (r : EReal)) (hk : ∀ x, ∃ r : ℝ, x1 x = (r : EReal)) (n : Fin 8192) (l : Fin 1024) :
    val_main_v23 (F := Ideal) x0 x1 x2 (ix2 n l) = attend x0 x1 x2 n l := by
  have hn : (⟨256 * (n.val / 256) + n.val % 256, by omega⟩ : Fin 8192) = n := Fin.ext (by show 256 * (n.val / 256) + n.val % 256 = n.val; omega)
  have hl : (⟨64 * (l.val / 64) + l.val % 64, by omega⟩ : Fin 1024) = l := Fin.ext (by show 64 * (l.val / 64) + l.val % 64 = l.val; omega)
  have h := v23_apply x0 x1 x2 ⟨n.val / 256, by omega⟩ ⟨n.val % 256, by omega⟩ ⟨l.val / 64, by omega⟩ ⟨l.val % 64, by omega⟩
  simp only [hn, hl] at h
  rw [h, ← mean_eq _ _ 0 (fun j => ?_)]
  · unfold attend
    refine Cert.CtxIdeal.Run.mean_congr (fun j => ?_) (fun j => rfl)
    rw [scores_apply]
    simp only [hn]
    exact (Cert.KernelIdeal.Same.scaled _ _).symm
  · rw [scores_apply]
    exact Cert.KernelIdeal.Same.sum_mul_real _ _ (fun _ => hq _) (fun _ => hk _)

/-- The result, as a whole array. -/
theorem result_eq (hq : ∀ x, ∃ r : ℝ, x0 x = (r : EReal)) (hk : ∀ x, ∃ r : ℝ, x1 x = (r : EReal)) :
    val_main_v23 (F := Ideal) x0 x1 x2 = fun y : S8192x1024.Idx => attend x0 x1 x2 (y 0) (y 1) :=
  funext fun y => (congrArg _ (show y = ix2 (y 0) (y 1) by funext a; match a with | ⟨0, _⟩ => rfl | ⟨1, _⟩ => rfl)).trans
    (attend_eq x0 x1 x2 hq hk (y 0) (y 1))

end Cert.CtxReferenceIdeal.Ref

namespace Cert.Pre_finite_qk
open Idealize.ShloMosaic

instance : Subsingleton S_.Idx := ⟨fun a b => funext fun i => i.elim0⟩

/-- The precondition: the queries and the keys are reals. -/
theorem finite_of [Facts] (q k v : FVec Ideal S8192x1024 .bf16) (h : fn (F := Ideal) q k v = fun _ => 1#1) :
    (∀ x, ∃ r : ℝ, q x = (r : EReal)) ∧ (∀ x, ∃ r : ℝ, k x = (r : EReal)) := by
  have h0 := congrFun h (fun a => a.elim0)
  unfold fn at h0
  obtain ⟨hq, hk⟩ := IntOp.andi_eq_one.mp h0
  exact ⟨fun x => Cert.Pre_finite.real_of_abs_lt _ (Host.reduce_andi_all _ _ _ _ _ hq x),
    fun x => Cert.Pre_finite.real_of_abs_lt _ (Host.reduce_andi_all _ _ _ _ _ hk x)⟩

end Cert.Pre_finite_qk
-- ==== Proof.ModulRun.lean ====
module
public import proofs.«01_k».proof.Proof.MoePay
public import proofs.«01_k».proof.Proof.Gen.ModulIdeal.Value
public import Idealize.ShloMosaic.Lib.Pipeline.ValueKit
public import Idealize.ShloMosaic.Lib.StableHlo.Run
@[expose] public section
set_option maxRecDepth 16384
noncomputable section
namespace Cert.ModulIdeal.Run
open Idealize.ShloMosaic Idealize.ShloMosaic.TcCoe Cert.ModulIdeal Cert.ModulIdeal.Gen
open Cert.MoeIdeal.Pay (silu)
open scoped BigOperators

/-! # The array the modulation call leaves, from the arguments -/

/-- A layer's modulation of one conditioning vector: the product of its activation with the layer's weights, and the bias. -/
def modulated (x : FVec Ideal S16x1024 .f32) (w : FVec Ideal S2x1024x6144 .f32) (b : FVec Ideal S2x6144 .f32)
    (l : Fin 2) (n : Fin 16) (j : Fin 6144) : EReal :=
  ∑ k : Fin 1024, silu (x (ix2 n k)) * w (ix3 l k j) + b (ix2 l j)

theorem pay1_apply (x : Vec Ideal S16x1024 .f32) (w : Vec Ideal S1x1024x1536 .f32) (b : Vec Ideal S1x1x1536 .f32) (n : Fin 16) (j : Fin 1536) :
    k0_pay1 x w b (ix3 0 n j) = ∑ k : Fin 1024, silu (x (ix2 n k)) * w (ix3 0 k j) + b (ix3 0 0 j) := by
  pointwise [k0_pay1]
  rfl

theorem idx_0 : ∀ t : Fin grid0.N, win0_0.index t = ![0, 0] := by decide +kernel
theorem idx_1 : ∀ t : Fin grid0.N, win0_1.index t = ![t.val / 4, 0, t.val % 4] := by decide +kernel
theorem idx_2 : ∀ t : Fin grid0.N, win0_2.index t = ![t.val / 4, 0, t.val % 4] := by decide +kernel
theorem idx_3 : ∀ t : Fin grid0.N, win0_3.index t = ![t.val / 4, 0, t.val % 4] := by decide +kernel

theorem z2 : (![0, 0] : Fin 2 → ℕ) = fun _ => 0 := funext fun a => by fin_cases a <;> rfl
theorem z3 : (![0, 0, 0] : Fin 3 → ℕ) = fun _ => 0 := funext fun a => by fin_cases a <;> rfl

theorem out3 (b0 : FVec Ideal S16x1024 .f32) (b1 : FVec Ideal S1x1024x1536 .f32) (b2 : FVec Ideal S1x1x1536 .f32) :
    out0_3 (F := Ideal) b0 b1 b2 = k0_pay1 (F := Ideal) b0 b1 b2 := by
  unfold out0_3
  rw [View.canon_unit_zero (S := S1x16x1536) z3]
  simp only [View.ld_unit_zero (S := S16x1024) z2, View.ld_unit_zero (S := S1x1024x1536) z3, View.ld_unit_zero (S := S1x1x1536) z3]

variable (m : (ℓ : Loc nD τ sig) → Buf (Elt Ideal) ℓ) (c : Dev nD)

/-- The biases with a row axis. -/
def asRows (y : FVec Ideal S2x6144 .f32) : FVec Ideal S2x1x6144 .f32 := shapeCast _ y shapeCasts_S2x6144_S2x1x6144

theorem asRows_apply (y : FVec Ideal S2x6144 .f32) (l : Fin 2) (j : Fin 6144) : asRows y (ix3 l 0 j) = y (ix2 l j) := by
  pointwise [asRows]

theorem V_v0 : (V m c main_v0 : FVec Ideal S2x1x6144 .f32) = asRows (m ((c : Thread nD τ).loc main_arg2)) := by
  show StableHlo.after hostOps0 _ (Proc.devRef .tc main_v0) = _
  after_results_simp <;> rfl

variable (t : Fin cfg0.N)

theorem lt8 (t : Fin cfg0.N) : t.val < 8 := lt_of_lt_of_eq t.isLt (show cfg0.N = 8 from N_0)

theorem blk_0 (n : Fin 16) (k : Fin 1024) :
    (iblk m c 0 t : FVec Ideal S16x1024 .f32) (ix2 n k) = (m ((c : Thread nD τ).loc main_arg0) : FVec Ideal S16x1024 .f32) (ix2 n k) := by
  rw [← V_main_arg0 m c]
  blk_ext [iblk, idx_0]

theorem blk_1 (k : Fin 1024) (j : Fin 1536) (l : Fin 2) (i : Fin 6144) (hl : l.val = t.val / 4) (hi : i.val = 1536 * (t.val % 4) + j.val) :
    (iblk m c 1 t : FVec Ideal S1x1024x1536 .f32) (ix3 0 k j) = (m ((c : Thread nD τ).loc main_arg1) : FVec Ideal S2x1024x6144 .f32) (ix3 l k i) := by
  rw [← V_main_arg1 m c]
  blk_ext [iblk, idx_1, hl, hi]

theorem blk_2 (j : Fin 1536) (l : Fin 2) (i : Fin 6144) (hl : l.val = t.val / 4) (hi : i.val = 1536 * (t.val % 4) + j.val) :
    (iblk m c 2 t : FVec Ideal S1x1x1536 .f32) (ix3 0 0 j) = (m ((c : Thread nD τ).loc main_arg2) : FVec Ideal S2x6144 .f32) (ix2 l i) := by
  refine Eq.trans ?_ ((congrFun (V_v0 m c) (ix3 l 0 i)).trans (asRows_apply _ l i))
  blk_ext [iblk, idx_2, hl, hi]

/-- What point `t` stores. -/
theorem block (n : Fin 16) (j : Fin 1536) (l : Fin 2) (i : Fin 6144) (hl : l.val = t.val / 4) (hi : i.val = 1536 * (t.val % 4) + j.val) :
    out0_3 (F := Ideal) (iblk m c 0 t) (iblk m c 1 t) (iblk m c 2 t) (ix3 0 n j)
      = modulated (m ((c : Thread nD τ).loc main_arg0)) (m ((c : Thread nD τ).loc main_arg1)) (m ((c : Thread nD τ).loc main_arg2)) l n i := by
  rw [out3, pay1_apply, blk_2 m c t j l i hl hi]
  unfold modulated
  simp only [blk_0 m c t, fun k => blk_1 m c t k j l i hl hi]

theorem triple_congr (G : Fin 2 → Fin 16 → Fin 6144 → EReal) {l l' : Fin 2} {n n' : Fin 16} {j j' : Fin 6144}
    (hl : l.val = l'.val) (hn : n.val = n'.val) (hj : j.val = j'.val) : G l n j = G l' n' j' := by
  rw [Fin.ext hl, Fin.ext hn, Fin.ext hj]

theorem block_fun : out0_3 (F := Ideal) (iblk m c 0 t) (iblk m c 1 t) (iblk m c 2 t) = fun y : S1x16x1536.Idx =>
    modulated (m ((c : Thread nD τ).loc main_arg0)) (m ((c : Thread nD τ).loc main_arg1)) (m ((c : Thread nD τ).loc main_arg2))
      ⟨t.val / 4, by have := lt8 t; omega⟩ (y 1) ⟨1536 * (t.val % 4) + (y 2).val, by have : (y 2).val < 1536 := (y 2).isLt; omega⟩ := by
  funext y
  have hy : y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  exact (congrArg _ hy).trans (block m c t (y 1) (y 2) _ _ rfl rfl)

/-- The modulation the call leaves. -/
theorem final3 : (dats m 0 c).arrAt 3 cfg0.N = fun y : S2x16x6144.Idx =>
    modulated (m ((c : Thread nD τ).loc main_arg0)) (m ((c : Thread nD τ).loc main_arg1)) (m ((c : Thread nD τ).loc main_arg2)) (y 0) (y 1) (y 2) := by
  refine (dats m 0 c).arrAt_eq_of_covers 3 _ (by decide +kernel) fun t hf y => ?_
  have hN := lt8 t
  have h0 : (y 0).val < 1 := (y 0).isLt
  blk_simp
  rw [after0_3, block_fun]
  refine triple_congr (modulated _ _ _) ?_ ?_ ?_
  · show t.val / 4 = _
    blk_simp [idx_3]
  · blk_simp [idx_3]
  · show 1536 * (t.val % 4) + (y 2).val = _
    blk_simp [idx_3]
    show 1536 * (t.val % 4) + (y 2).val = t.val % 4 * 1536 + (y 2).val
    omega

end Cert.ModulIdeal.Run
-- ==== Proof.ModulRef.lean ====
module
public import proofs.«01_k».proof.Proof.ModulRun
public import proofs.«01_k».proof.Proof.Gen.ModulReferenceIdeal.Read
@[expose] public section
set_option maxRecDepth 16384
noncomputable section
namespace Cert.ModulReferenceIdeal.Ref
open Idealize.ShloMosaic Cert.ModulReferenceIdeal Cert.ModulReferenceIdeal.Gen Cert.ModulReferenceIdeal.Read
open Cert.MoeIdeal.Pay (silu)
open Cert.ModulIdeal.Run (modulated)
open scoped BigOperators

/-! # The modulation's reference, read at an index -/

variable (x0 : FVec Ideal S16x1024 .f32) (x1 : FVec Ideal S2x1024x6144 .f32) (x2 : FVec Ideal S2x6144 .f32)

/-- The activation of a conditioning vector's entry. -/
theorem v8_apply (n : Fin 16) (k : Fin 1024) : val_main_v8 (F := Ideal) x0 (ix2 n k) = silu (x0 (ix2 n k)) := by
  pointwise [val_main_v8, val_main_call0_v5, val_main_call0_v4, val_main_call0_v3, val_main_call0_v2, val_main_call0_v1, val_main_call0_v0,
    val_main_call0_cst, val_main_call0_cst_0]
  rfl

/-- The first layer's modulation. -/
theorem v12_apply (n : Fin 16) (j : Fin 6144) : val_main_v12 (F := Ideal) x0 x1 x2 (ix2 n j) = modulated x0 x1 x2 0 n j := by
  unfold modulated
  simp only [← v8_apply]
  unfold val_main_v12 val_main_v9
  generalize val_main_v8 (F := Ideal) x0 = y
  pointwise [val_main_v11, val_main_v10, val_main_v5, val_main_v4, val_main_v1, val_main_v0]

/-- The second layer's. -/
theorem v17_apply (n : Fin 16) (j : Fin 6144) : val_main_v17 (F := Ideal) x0 x1 x2 (ix2 n j) = modulated x0 x1 x2 1 n j := by
  have e : val_main_v13 (F := Ideal) x0 = val_main_v8 (F := Ideal) x0 := rfl
  unfold modulated
  simp only [← v8_apply]
  unfold val_main_v17 val_main_v14
  rw [e]
  generalize val_main_v8 (F := Ideal) x0 = y
  pointwise [val_main_v16, val_main_v15, val_main_v7, val_main_v6, val_main_v3, val_main_v2]

/-- The two layers' modulations, as a whole array. -/
theorem result_eq : val_main_v20 (F := Ideal) x0 x1 x2 = fun y : S2x16x6144.Idx => modulated x0 x1 x2 (y 0) (y 1) (y 2) := by
  funext y
  have hy : y = ix3 (y 0) (y 1) (y 2) := by funext a; match a with | ⟨0, _⟩ => rfl | ⟨1, _⟩ => rfl | ⟨2, _⟩ => rfl
  refine (congrArg _ hy).trans ?_
  generalize (y 0 : Fin 2) = l, (y 1 : Fin 16) = n, (y 2 : Fin 6144) = j
  unfold val_main_v20 val_main_v19 val_main_v18
  match l with
  | ⟨0, _⟩ =>
    refine Eq.trans ?_ (v12_apply x0 x1 x2 n j)
    generalize val_main_v12 (F := Ideal) x0 x1 x2 = a
    generalize val_main_v17 (F := Ideal) x0 x1 x2 = b
    pointwise
  | ⟨1, _⟩ =>
    refine Eq.trans ?_ (v17_apply x0 x1 x2 n j)
    generalize val_main_v12 (F := Ideal) x0 x1 x2 = a
    generalize val_main_v17 (F := Ideal) x0 x1 x2 = b
    pointwise

end Cert.ModulReferenceIdeal.Ref
-- ==== Proof.lean ====
module
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Same
public import proofs.«01_k».proof.Proof.Gen.Moe
public import proofs.«01_k».proof.Proof.Gen.Moe.Frame
public import proofs.«01_k».proof.Proof.Gen.MoeIdeal
public import proofs.«01_k».proof.Proof.Gen.MoeIdeal.Frame
public import proofs.«01_k».proof.Proof.Gen.MoeIdeal.Value
public import proofs.«01_k».proof.Proof.Gen.MoeReferenceIdeal
public import proofs.«01_k».proof.Proof.Gen.MoeReferenceIdeal.Run
public import proofs.«01_k».proof.Proof.Gen.MoeReferenceIdeal.Read
public import proofs.«01_k».proof.Proof.MoeRef
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.QkvRef
public import proofs.«01_k».proof.Proof.Gen.Sqkv
public import proofs.«01_k».proof.Proof.Gen.Sqkv.Frame
public import proofs.«01_k».proof.Proof.Gen.SqkvIdeal
public import proofs.«01_k».proof.Proof.Gen.SqkvIdeal.Frame
public import proofs.«01_k».proof.Proof.Gen.SqkvIdeal.Value
public import proofs.«01_k».proof.Proof.Gen.SqkvReferenceIdeal
public import proofs.«01_k».proof.Proof.Gen.SqkvReferenceIdeal.Run
public import proofs.«01_k».proof.Proof.Gen.SqkvReferenceIdeal.Read
public import proofs.«01_k».proof.Proof.SqkvRef
public import proofs.«01_k».proof.Proof.Gen.Oproj
public import proofs.«01_k».proof.Proof.Gen.Oproj.Frame
public import proofs.«01_k».proof.Proof.Gen.OprojIdeal
public import proofs.«01_k».proof.Proof.Gen.OprojIdeal.Frame
public import proofs.«01_k».proof.Proof.Gen.OprojIdeal.Value
public import proofs.«01_k».proof.Proof.Gen.OprojReferenceIdeal
public import proofs.«01_k».proof.Proof.Gen.OprojReferenceIdeal.Run
public import proofs.«01_k».proof.Proof.Gen.OprojReferenceIdeal.Read
public import proofs.«01_k».proof.Proof.OprojRef
public import proofs.«01_k».proof.Proof.Gen.Pre_finite_qk
public import proofs.«01_k».proof.Proof.Gen.Ctx
public import proofs.«01_k».proof.Proof.Gen.Ctx.Frame
public import proofs.«01_k».proof.Proof.Gen.CtxIdeal
public import proofs.«01_k».proof.Proof.Gen.CtxIdeal.Frame
public import proofs.«01_k».proof.Proof.Gen.CtxIdeal.Value
public import proofs.«01_k».proof.Proof.Gen.CtxReferenceIdeal
public import proofs.«01_k».proof.Proof.Gen.CtxReferenceIdeal.Run
public import proofs.«01_k».proof.Proof.Gen.CtxReferenceIdeal.Read
public import proofs.«01_k».proof.Proof.CtxRef
public import proofs.«01_k».proof.Proof.Gen.Modul
public import proofs.«01_k».proof.Proof.Gen.Modul.Frame
public import proofs.«01_k».proof.Proof.Gen.ModulIdeal
public import proofs.«01_k».proof.Proof.Gen.ModulIdeal.Frame
public import proofs.«01_k».proof.Proof.Gen.ModulIdeal.Value
public import proofs.«01_k».proof.Proof.Gen.ModulReferenceIdeal
public import proofs.«01_k».proof.Proof.Gen.ModulReferenceIdeal.Run
public import proofs.«01_k».proof.Proof.Gen.ModulReferenceIdeal.Read
public import proofs.«01_k».proof.Proof.ModulRef

@[expose] public section

noncomputable section

namespace Cert.Proof

open Idealize.ShloMosaic Idealize.SL.Sem

/-- The kernel's program runs, faults nowhere, and leaves its arguments and every semaphore as they were. -/
theorem frame_kernel : Cert.quiescent_Kernel := fun m ρ _ => Cert.Kernel.Gen.frame m ρ

/-- The same of the kernel's idealization. -/
theorem frame_kernelIdeal : Cert.quiescent_KernelIdeal := fun m ρ _ => Cert.KernelIdeal.Gen.frame m ρ

/-- The same under the precondition. -/
theorem frame_kernelIdeal_pre : Cert.quiescent_KernelIdeal_pre_finite := fun m ρ _ => Cert.KernelIdeal.Gen.frame m ρ

/-- The same of the reference, which declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_referenceIdeal_pre : Cert.quiescent_ReferenceIdeal_pre_finite := fun m ρ _ => frame_referenceIdeal m ρ trivial

/-- The masked score's named constant: its statement is the rule's own. -/
theorem preserves : Cert.preserves_Kernel_KernelIdeal :=
  IdealRules.named_const.statement Cert.KernelIdeal.κ "mask" .f32 0x7F7FFFFF#32 ⊤ rfl

/-- With finite queries, keys, cached keys and biases the idealized kernel and the reference leave the same result. -/
theorem algebraic : Cert.algebraic_KernelIdeal_ReferenceIdeal_pre_finite := by
  intro m ρ m' ρ' hpre hargs
  refine ⟨fun c => Cert.KernelIdeal.Run.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), Cert.KernelIdeal.Run.run m ρ, ?_⟩
  refine (θ_run Cert.ReferenceIdeal.defs _ _).mono (fun r h c => ⟨?_, (h c).2⟩) (Cert.ReferenceIdeal.Value.run (F := Ideal) m' ρ')
  obtain ⟨hq, hk, hc, hb⟩ := Cert.Pre_finite.finite_of _ _ _ _ _ _ (hpre c)
  obtain ⟨a0, a1, a2, a3, a4, a5⟩ := hargs c
  refine (h c).1.trans ((Cert.ReferenceIdeal.Read.val_main_v100_eq m' c).trans ?_)
  rw [a0, a1, a2, a3, a4, a5]
  exact (Cert.KernelIdeal.Same.result_eq _ _ _ _ _ _ hq hk hc hb).symm

/-- The mixture-of-experts call's program runs, faults nowhere, and leaves its arguments and every semaphore as they were. -/
theorem frame_moe : Cert.quiescent_Moe := fun m ρ _ => Cert.Moe.Gen.frame m ρ

/-- The same of its idealization. -/
theorem frame_moeIdeal : Cert.quiescent_MoeIdeal := fun m ρ _ => Cert.MoeIdeal.Gen.frame m ρ

/-- The same of its reference, which declares no semaphore. -/
theorem frame_moeReferenceIdeal : Cert.quiescent_MoeReferenceIdeal := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

/-- Its idealization renames no constant. -/
theorem preserves_moe : Cert.preserves_Moe_MoeIdeal := trivial

/-- On all arguments the idealized mixture-of-experts call and its reference leave the same result. -/
theorem algebraic_moe : Cert.algebraic_MoeIdeal_MoeReferenceIdeal := by
  intro m ρ m' ρ' _ hargs
  refine ⟨fun c => fun y : Cert.MoeIdeal.S40960x1024.Idx => Cert.MoeIdeal.Run.resultV m c (y 0) (y 1), ?_, ?_⟩
  · exact (θ_run Cert.MoeIdeal.defs _ _).mono
      (fun r h c => ⟨(h c).1.trans ((Cert.MoeIdeal.Value.final8 m c).symm.trans (Cert.MoeIdeal.Run.final m c)), (h c).2⟩)
      (Cert.MoeIdeal.Value.run (F := Ideal) m ρ)
  · refine (θ_run Cert.MoeReferenceIdeal.defs _ _).mono (fun r h c => ⟨?_, (h c).2⟩) (Cert.MoeReferenceIdeal.Value.run (F := Ideal) m' ρ')
    obtain ⟨a0, a1, a2, a3, a4, a5, a6, a7, a8, a9⟩ := hargs c
    refine (h c).1.trans ((Cert.MoeReferenceIdeal.Read.val_main_v36_eq m' c).trans ?_)
    rw [a0, a1, a2, a3, a4, a5, a6, a7, a8, a9]
    exact Cert.MoeReferenceIdeal.Ref.same m c

/-- The prompt's query/key/value call's program runs, faults nowhere, and leaves its arguments and every semaphore as they were. -/
theorem frame_qkv : Cert.quiescent_Qkv := fun m ρ _ => Cert.Qkv.Gen.frame m ρ

/-- The same of its idealization. -/
theorem frame_qkvIdeal : Cert.quiescent_QkvIdeal := fun m ρ _ => Cert.QkvIdeal.Gen.frame m ρ

/-- The same of its reference, which declares no semaphore. -/
theorem frame_qkvReferenceIdeal : Cert.quiescent_QkvReferenceIdeal := fun m ρ _ =>
  (θ_run Cert.QkvReferenceIdeal.defs _ _).mono (fun r h => ⟨fun c => (h c).2.2.2.2.2, sem_eq_zero_of_no_sems (by decide) r.2⟩)
    (Cert.QkvReferenceIdeal.Value.run (F := Ideal) m ρ)

/-- Its idealization renames no constant. -/
theorem preserves_qkv : Cert.preserves_Qkv_QkvIdeal := trivial

/-- On all arguments the idealized query/key/value call and its reference leave the same five results. -/
theorem algebraic_qkv : Cert.algebraic_QkvIdeal_QkvReferenceIdeal := by
  intro m ρ m' ρ' _ hargs
  refine ⟨fun c => (Cert.QkvIdeal.Gen.dats m 0 c).arrAt 8 Cert.QkvIdeal.cfg0.N, fun c => (Cert.QkvIdeal.Gen.dats m 0 c).arrAt 9 Cert.QkvIdeal.cfg0.N,
    fun c => (Cert.QkvIdeal.Gen.dats m 0 c).arrAt 10 Cert.QkvIdeal.cfg0.N, fun c => (Cert.QkvIdeal.Gen.dats m 0 c).arrAt 11 Cert.QkvIdeal.cfg0.N,
    fun c => (Cert.QkvIdeal.Gen.dats m 0 c).arrAt 12 Cert.QkvIdeal.cfg0.N, Cert.QkvIdeal.Value.run_blocks (F := Ideal) m ρ, ?_⟩
  refine (θ_run Cert.QkvReferenceIdeal.defs _ _).mono (fun r h c => ?_) (Cert.QkvReferenceIdeal.Value.run (F := Ideal) m' ρ')
  obtain ⟨a0, a1, a2, a3, a4, a5⟩ := hargs c
  obtain ⟨h0, h1, h2, h3, h4, hk⟩ := h c
  refine ⟨h0.trans ((Cert.QkvReferenceIdeal.Read.val_main_v63_eq m' c).trans ?_), h1.trans ((Cert.QkvReferenceIdeal.Read.val_main_v64_eq m' c).trans ?_),
    h2.trans ((Cert.QkvReferenceIdeal.Read.val_main_v65_eq (F := Ideal) _ _ _ _).trans ?_),
    h3.trans ((Cert.QkvReferenceIdeal.Read.val_main_v61_eq m' c).trans ?_),
    h4.trans ((Cert.QkvReferenceIdeal.Read.val_main_v62_eq (F := Ideal) _ _ _ _).trans ?_), hk⟩
  · rw [a0, a1, a2, a3, a4]
    exact (Cert.QkvReferenceIdeal.Ref.query_cast_eq _ _ _ _ _).trans (Cert.QkvIdeal.Run.final8 m c).symm
  · rw [a0, a1, a2, a3, a5]
    exact (Cert.QkvReferenceIdeal.Ref.key_cast_eq _ _ _ _ _).trans (Cert.QkvIdeal.Run.final9 m c).symm
  · rw [a0, a1, a2, a3]
    exact (Cert.QkvReferenceIdeal.Ref.value_cast_eq _ _ _ _).trans (Cert.QkvIdeal.Run.final10 m c).symm
  · rw [a0, a1, a2, a3, a5]
    exact (Cert.QkvReferenceIdeal.Ref.key_eq _ _ _ _ _).trans (Cert.QkvIdeal.Run.final11 m c).symm
  · rw [a0, a1, a2, a3]
    exact (Cert.QkvReferenceIdeal.Ref.value_eq _ _ _ _).trans (Cert.QkvIdeal.Run.final12 m c).symm

/-- The samples' query/key/value call's program runs, faults nowhere, and leaves its arguments and every semaphore as they were. -/
theorem frame_sqkv : Cert.quiescent_Sqkv := fun m ρ _ => Cert.Sqkv.Gen.frame m ρ

/-- The same of its idealization. -/
theorem frame_sqkvIdeal : Cert.quiescent_SqkvIdeal := fun m ρ _ => Cert.SqkvIdeal.Gen.frame m ρ

/-- The same of its reference, which declares no semaphore. -/
theorem frame_sqkvReferenceIdeal : Cert.quiescent_SqkvReferenceIdeal := fun m ρ _ =>
  (θ_run Cert.SqkvReferenceIdeal.defs _ _).mono (fun r h => ⟨fun c => (h c).2.2.2, sem_eq_zero_of_no_sems (by decide) r.2⟩)
    (Cert.SqkvReferenceIdeal.Value.run (F := Ideal) m ρ)

/-- Its idealization renames no constant. -/
theorem preserves_sqkv : Cert.preserves_Sqkv_SqkvIdeal := trivial

/-- On all arguments the idealized query/key/value call of the samples and its reference leave the same three results. -/
theorem algebraic_sqkv : Cert.algebraic_SqkvIdeal_SqkvReferenceIdeal := by
  intro m ρ m' ρ' _ hargs
  refine ⟨fun c => (Cert.SqkvIdeal.Gen.dats m 0 c).arrAt 8 Cert.SqkvIdeal.cfg0.N, fun c => (Cert.SqkvIdeal.Gen.dats m 0 c).arrAt 9 Cert.SqkvIdeal.cfg0.N,
    fun c => (Cert.SqkvIdeal.Gen.dats m 0 c).arrAt 10 Cert.SqkvIdeal.cfg0.N, Cert.SqkvIdeal.Value.run_blocks (F := Ideal) m ρ, ?_⟩
  refine (θ_run Cert.SqkvReferenceIdeal.defs _ _).mono (fun r h c => ?_) (Cert.SqkvReferenceIdeal.Value.run (F := Ideal) m' ρ')
  obtain ⟨a0, a1, a2, a3, a4, a5⟩ := hargs c
  obtain ⟨h0, h1, h2, hk⟩ := h c
  refine ⟨h0.trans ((Cert.SqkvReferenceIdeal.Read.val_main_v62_eq m' c).trans ?_), h1.trans ((Cert.SqkvReferenceIdeal.Read.val_main_v64_eq m' c).trans ?_),
    h2.trans ((Cert.SqkvReferenceIdeal.Read.val_main_v66_eq (F := Ideal) _ _ _ _).trans ?_), hk⟩
  · rw [a0, a1, a2, a3, a4]
    exact (Cert.SqkvReferenceIdeal.Ref.query_eq _ _ _ _ _).trans (Cert.SqkvIdeal.Run.final8 m c).symm
  · rw [a0, a1, a2, a3, a5]
    exact (Cert.SqkvReferenceIdeal.Ref.key_eq _ _ _ _ _).trans (Cert.SqkvIdeal.Run.final9 m c).symm
  · rw [a0, a1, a2, a3]
    exact (Cert.SqkvReferenceIdeal.Ref.value_eq _ _ _ _).trans (Cert.SqkvIdeal.Run.final10 m c).symm

/-- The output projection's program runs, faults nowhere, and leaves its arguments and every semaphore as they were. -/
theorem frame_oproj : Cert.quiescent_Oproj := fun m ρ _ => Cert.Oproj.Gen.frame m ρ

/-- The same of its idealization. -/
theorem frame_oprojIdeal : Cert.quiescent_OprojIdeal := fun m ρ _ => Cert.OprojIdeal.Gen.frame m ρ

/-- The same of its reference, which declares no semaphore. -/
theorem frame_oprojReferenceIdeal : Cert.quiescent_OprojReferenceIdeal := fun m ρ _ =>
  (θ_run Cert.OprojReferenceIdeal.defs _ _).mono (fun r h => ⟨fun c => (h c).2.2, sem_eq_zero_of_no_sems (by decide) r.2⟩)
    (Cert.OprojReferenceIdeal.Value.run (F := Ideal) m ρ)

/-- Its idealization renames no constant. -/
theorem preserves_oproj : Cert.preserves_Oproj_OprojIdeal := trivial

/-- On all arguments the idealized output projection and its reference leave the same residual stream and normalised tokens. -/
theorem algebraic_oproj : Cert.algebraic_OprojIdeal_OprojReferenceIdeal := by
  intro m ρ m' ρ' _ hargs
  refine ⟨fun c => (Cert.OprojIdeal.Gen.dats m 0 c).arrAt 8 Cert.OprojIdeal.cfg0.N, fun c => (Cert.OprojIdeal.Gen.dats m 0 c).arrAt 9 Cert.OprojIdeal.cfg0.N,
    (θ_run Cert.OprojIdeal.defs _ _).mono (fun r h c => ⟨(h c).1, (h c).2.1, (h c).2.2.2⟩) (Cert.OprojIdeal.Value.run_blocks (F := Ideal) m ρ), ?_⟩
  refine (θ_run Cert.OprojReferenceIdeal.defs _ _).mono (fun r h c => ?_) (Cert.OprojReferenceIdeal.Value.run (F := Ideal) m' ρ')
  obtain ⟨a0, a1, a2, a3, a4, a5, a6⟩ := hargs c
  obtain ⟨h0, h1, hk⟩ := h c
  refine ⟨h0.trans ((Cert.OprojReferenceIdeal.Read.val_main_v17_eq (F := Ideal) _ _ _ _).trans ?_),
    h1.trans ((Cert.OprojReferenceIdeal.Read.val_main_v51_eq m' c).trans ?_), hk⟩
  · rw [a0, a1, a2, a3]
    exact (Cert.OprojReferenceIdeal.Ref.stream_eq _ _ _ _).trans (Cert.OprojIdeal.Run.final8 m c).symm
  · rw [a0, a1, a2, a3, a4]
    exact (Cert.OprojReferenceIdeal.Ref.normed_eq _ _ _ _ _).trans (Cert.OprojIdeal.Run.final9 m c).symm

/-- The context attention's program runs, faults nowhere, and leaves its arguments and every semaphore as they were. -/
theorem frame_ctx : Cert.quiescent_Ctx := fun m ρ _ => Cert.Ctx.Gen.frame m ρ

/-- The same of its idealization. -/
theorem frame_ctxIdeal : Cert.quiescent_CtxIdeal := fun m ρ _ => Cert.CtxIdeal.Gen.frame m ρ

/-- The same under the precondition. -/
theorem frame_ctxIdeal_pre : Cert.quiescent_CtxIdeal_pre_finite_qk := fun m ρ _ => Cert.CtxIdeal.Gen.frame m ρ

/-- The same of its reference, which declares no semaphore. -/
theorem frame_ctxReferenceIdeal : Cert.quiescent_CtxReferenceIdeal := fun m ρ _ =>
  (θ_run Cert.CtxReferenceIdeal.defs _ _).mono (fun r h => ⟨fun c => (h c).2, sem_eq_zero_of_no_sems (by decide) r.2⟩)
    (Cert.CtxReferenceIdeal.Value.run (F := Ideal) m ρ)

/-- The same under the precondition. -/
theorem frame_ctxReferenceIdeal_pre : Cert.quiescent_CtxReferenceIdeal_pre_finite_qk := fun m ρ _ => frame_ctxReferenceIdeal m ρ trivial

/-- Its idealization renames no constant. -/
theorem preserves_ctx : Cert.preserves_Ctx_CtxIdeal := trivial

/-- With finite queries and keys the idealized context attention and its reference leave the same result. -/
theorem algebraic_ctx : Cert.algebraic_CtxIdeal_CtxReferenceIdeal_pre_finite_qk := by
  intro m ρ m' ρ' hpre hargs
  refine ⟨fun c => (Cert.CtxIdeal.Gen.dats m 0 c).arrAt 3 Cert.CtxIdeal.cfg0.N, Cert.CtxIdeal.Value.run_blocks (F := Ideal) m ρ, ?_⟩
  refine (θ_run Cert.CtxReferenceIdeal.defs _ _).mono (fun r h c => ⟨?_, (h c).2⟩) (Cert.CtxReferenceIdeal.Value.run (F := Ideal) m' ρ')
  obtain ⟨hq, hk⟩ := Cert.Pre_finite_qk.finite_of _ _ _ (hpre c)
  obtain ⟨a0, a1, a2⟩ := hargs c
  refine (h c).1.trans ((Cert.CtxReferenceIdeal.Read.val_main_v23_eq (F := Ideal) _ _ _).trans ?_)
  rw [a0, a1, a2]
  exact (Cert.CtxReferenceIdeal.Ref.result_eq _ _ _ hq hk).trans (Cert.CtxIdeal.Run.final3 m c).symm

/-- The modulation's program runs, faults nowhere, and leaves its arguments and every semaphore as they were. -/
theorem frame_modul : Cert.quiescent_Modul := fun m ρ _ => Cert.Modul.Gen.frame m ρ

/-- The same of its idealization. -/
theorem frame_modulIdeal : Cert.quiescent_ModulIdeal := fun m ρ _ => Cert.ModulIdeal.Gen.frame m ρ

/-- The same of its reference, which declares no semaphore. -/
theorem frame_modulReferenceIdeal : Cert.quiescent_ModulReferenceIdeal := fun m ρ _ =>
  (θ_run Cert.ModulReferenceIdeal.defs _ _).mono (fun r h => ⟨fun c => (h c).2, sem_eq_zero_of_no_sems (by decide) r.2⟩)
    (Cert.ModulReferenceIdeal.Value.run (F := Ideal) m ρ)

/-- Its idealization renames no constant. -/
theorem preserves_modul : Cert.preserves_Modul_ModulIdeal := trivial

/-- On all arguments the idealized modulation and its reference leave the same result. -/
theorem algebraic_modul : Cert.algebraic_ModulIdeal_ModulReferenceIdeal := by
  intro m ρ m' ρ' _ hargs
  refine ⟨fun c => (Cert.ModulIdeal.Gen.dats m 0 c).arrAt 3 Cert.ModulIdeal.cfg0.N, Cert.ModulIdeal.Value.run_blocks (F := Ideal) m ρ, ?_⟩
  refine (θ_run Cert.ModulReferenceIdeal.defs _ _).mono (fun r h c => ⟨?_, (h c).2⟩) (Cert.ModulReferenceIdeal.Value.run (F := Ideal) m' ρ')
  obtain ⟨a0, a1, a2⟩ := hargs c
  refine (h c).1.trans ((Cert.ModulReferenceIdeal.Read.val_main_v20_eq (F := Ideal) _ _ _).trans ?_)
  rw [a0, a1, a2]
  exact (Cert.ModulReferenceIdeal.Ref.result_eq _ _ _).trans (Cert.ModulIdeal.Run.final3 m c).symm

/-- Everything the certificate claims. -/
theorem claim : Cert.Claim := ⟨Cert.Kernel.Gen.facts, Cert.KernelIdeal.Gen.facts, Cert.ReferenceIdeal.Gen.facts,
  Cert.Moe.Gen.facts, Cert.MoeIdeal.Gen.facts, Cert.MoeReferenceIdeal.Gen.facts,
  Cert.Qkv.Gen.facts, Cert.QkvIdeal.Gen.facts, Cert.QkvReferenceIdeal.Gen.facts,
  Cert.Sqkv.Gen.facts, Cert.SqkvIdeal.Gen.facts, Cert.SqkvReferenceIdeal.Gen.facts,
  Cert.Oproj.Gen.facts, Cert.OprojIdeal.Gen.facts, Cert.OprojReferenceIdeal.Gen.facts,
  Cert.Ctx.Gen.facts, Cert.CtxIdeal.Gen.facts, Cert.CtxReferenceIdeal.Gen.facts,
  Cert.Modul.Gen.facts, Cert.ModulIdeal.Gen.facts, Cert.ModulReferenceIdeal.Gen.facts, Cert.Pre_finite.Gen.facts, Cert.Pre_finite_qk.Gen.facts,
  frame_kernel, frame_kernelIdeal, frame_kernelIdeal_pre, frame_referenceIdeal, frame_referenceIdeal_pre,
  frame_moe, frame_moeIdeal, frame_moeReferenceIdeal, frame_qkv, frame_qkvIdeal, frame_qkvReferenceIdeal,
  frame_sqkv, frame_sqkvIdeal, frame_sqkvReferenceIdeal,
  frame_oproj, frame_oprojIdeal, frame_oprojReferenceIdeal,
  frame_ctx, frame_ctxIdeal, frame_ctxIdeal_pre, frame_ctxReferenceIdeal, frame_ctxReferenceIdeal_pre,
  frame_modul, frame_modulIdeal, frame_modulReferenceIdeal,
  preserves, algebraic, preserves_moe, algebraic_moe, preserves_qkv, algebraic_qkv,
  preserves_sqkv, algebraic_sqkv, preserves_oproj, algebraic_oproj, preserves_ctx, algebraic_ctx,
  preserves_modul, algebraic_modul⟩

end Cert.Proof

end
